-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_DFfHidden (m : (ℓ : Loc Cert.DFfHidden.nD Cert.DFfHidden.τ Cert.DFfHidden.sig) → Buf (Elt Bits) ℓ) : Prop :=
  True

def Pre_DFfHiddenIdeal (m : (ℓ : Loc Cert.DFfHiddenIdeal.nD Cert.DFfHiddenIdeal.τ Cert.DFfHiddenIdeal.sig) → Buf (Elt Ideal) ℓ) : Prop :=
  True

def Pre_RefDFfHiddenIdeal (m : (ℓ : Loc Cert.RefDFfHiddenIdeal.nD Cert.RefDFfHiddenIdeal.τ Cert.RefDFfHiddenIdeal.sig) → Buf (Elt Ideal) ℓ) : Prop :=
  True

def Pre_DWFf1 (m : (ℓ : Loc Cert.DWFf1.nD Cert.DWFf1.τ Cert.DWFf1.sig) → Buf (Elt Bits) ℓ) : Prop :=
  True

def Pre_DWFf1Ideal (m : (ℓ : Loc Cert.DWFf1Ideal.nD Cert.DWFf1Ideal.τ Cert.DWFf1Ideal.sig) → Buf (Elt Ideal) ℓ) : Prop :=
  True

def Pre_RefDWFf1Ideal (m : (ℓ : Loc Cert.RefDWFf1Ideal.nD Cert.RefDWFf1Ideal.τ Cert.RefDWFf1Ideal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_RefDH1Ideal (m : (ℓ : Loc Cert.RefDH1Ideal.nD Cert.RefDH1Ideal.τ Cert.RefDH1Ideal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_RefFf1Ideal (m : (ℓ : Loc Cert.RefFf1Ideal.nD Cert.RefFf1Ideal.τ Cert.RefFf1Ideal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_RefFf2Ideal (m : (ℓ : Loc Cert.RefFf2Ideal.nD Cert.RefFf2Ideal.τ Cert.RefFf2Ideal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_RefDWOutIdeal (m : (ℓ : Loc Cert.RefDWOutIdeal.nD Cert.RefDWOutIdeal.τ Cert.RefDWOutIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_RefDCatIdeal (m : (ℓ : Loc Cert.RefDCatIdeal.nD Cert.RefDCatIdeal.τ Cert.RefDCatIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_RefProjOutIdeal (m : (ℓ : Loc Cert.RefProjOutIdeal.nD Cert.RefProjOutIdeal.τ Cert.RefProjOutIdeal.sig) → Buf (Elt Ideal) ℓ) : Prop :=
  True

def Pre_DWGate (m : (ℓ : Loc Cert.DWGate.nD Cert.DWGate.τ Cert.DWGate.sig) → Buf (Elt Bits) ℓ) : Prop :=
  True

def Pre_DWGateIdeal (m : (ℓ : Loc Cert.DWGateIdeal.nD Cert.DWGateIdeal.τ Cert.DWGateIdeal.sig) → Buf (Elt Ideal) ℓ) : Prop :=
  True

def Pre_RefDWGateIdeal (m : (ℓ : Loc Cert.RefDWGateIdeal.nD Cert.RefDWGateIdeal.τ Cert.RefDWGateIdeal.sig) → Buf (Elt Ideal) ℓ) : Prop :=
  True

def Pre_DWProj (m : (ℓ : Loc Cert.DWProj.nD Cert.DWProj.τ Cert.DWProj.sig) → Buf (Elt Bits) ℓ) : Prop :=
  True

def Pre_DWProjIdeal (m : (ℓ : Loc Cert.DWProjIdeal.nD Cert.DWProjIdeal.τ Cert.DWProjIdeal.sig) → Buf (Elt Ideal) ℓ) : Prop :=
  True

def Pre_RefDWProjIdeal (m : (ℓ : Loc Cert.RefDWProjIdeal.nD Cert.RefDWProjIdeal.τ Cert.RefDWProjIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_RefAdamWOutIdeal (m : (ℓ : Loc Cert.RefAdamWOutIdeal.nD Cert.RefAdamWOutIdeal.τ Cert.RefAdamWOutIdeal.sig) → Buf (Elt Ideal) ℓ) : Prop :=
  True

def Pre_AdamWFf1 (m : (ℓ : Loc Cert.AdamWFf1.nD Cert.AdamWFf1.τ Cert.AdamWFf1.sig) → Buf (Elt Bits) ℓ) : Prop :=
  True

def Pre_AdamWFf1Ideal (m : (ℓ : Loc Cert.AdamWFf1Ideal.nD Cert.AdamWFf1Ideal.τ Cert.AdamWFf1Ideal.sig) → Buf (Elt Ideal) ℓ) : Prop :=
  True

def Pre_RefAdamWFf1Ideal (m : (ℓ : Loc Cert.RefAdamWFf1Ideal.nD Cert.RefAdamWFf1Ideal.τ Cert.RefAdamWFf1Ideal.sig) → Buf (Elt Ideal) ℓ) : Prop :=
  True

def Pre_AdamWFf2 (m : (ℓ : Loc Cert.AdamWFf2.nD Cert.AdamWFf2.τ Cert.AdamWFf2.sig) → Buf (Elt Bits) ℓ) : Prop :=
  True

def Pre_AdamWFf2Ideal (m : (ℓ : Loc Cert.AdamWFf2Ideal.nD Cert.AdamWFf2Ideal.τ Cert.AdamWFf2Ideal.sig) → Buf (Elt Ideal) ℓ) : Prop :=
  True

def Pre_RefAdamWFf2Ideal (m : (ℓ : Loc Cert.RefAdamWFf2Ideal.nD Cert.RefAdamWFf2Ideal.τ Cert.RefAdamWFf2Ideal.sig) → Buf (Elt Ideal) ℓ) : Prop :=
  True

def Pre_AdamWGate (m : (ℓ : Loc Cert.AdamWGate.nD Cert.AdamWGate.τ Cert.AdamWGate.sig) → Buf (Elt Bits) ℓ) : Prop :=
  True

def Pre_AdamWGateIdeal (m : (ℓ : Loc Cert.AdamWGateIdeal.nD Cert.AdamWGateIdeal.τ Cert.AdamWGateIdeal.sig) → Buf (Elt Ideal) ℓ) : Prop :=
  True

def Pre_RefAdamWGateIdeal (m : (ℓ : Loc Cert.RefAdamWGateIdeal.nD Cert.RefAdamWGateIdeal.τ Cert.RefAdamWGateIdeal.sig) → Buf (Elt Ideal) ℓ) : Prop :=
  True

def Pre_AdamWProj (m : (ℓ : Loc Cert.AdamWProj.nD Cert.AdamWProj.τ Cert.AdamWProj.sig) → Buf (Elt Bits) ℓ) : Prop :=
  True

def Pre_AdamWProjIdeal (m : (ℓ : Loc Cert.AdamWProjIdeal.nD Cert.AdamWProjIdeal.τ Cert.AdamWProjIdeal.sig) → Buf (Elt Ideal) ℓ) : Prop :=
  True

def Pre_RefAdamWProjIdeal (m : (ℓ : Loc Cert.RefAdamWProjIdeal.nD Cert.RefAdamWProjIdeal.τ Cert.RefAdamWProjIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_RefAdamWInIdeal (m : (ℓ : Loc Cert.RefAdamWInIdeal.nD Cert.RefAdamWInIdeal.τ Cert.RefAdamWInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DFfHidden [hDFfHidden : Cert.DFfHidden.Facts] : Prop :=
  ∀ (m : (ℓ : Loc Cert.DFfHidden.nD Cert.DFfHidden.τ Cert.DFfHidden.sig) → Buf (Elt Bits) ℓ) (g : Dev Cert.DFfHidden.nD → PrngReg), Pre_DFfHidden m →
    θ_run (Cert.DFfHidden.defs (F := Bits)) (onTc (τ := Cert.DFfHidden.τ) (Cert.DFfHidden.main (F := Bits))) ⟨m, fun _ => 0, g⟩ (fun r => (∀ c : Dev Cert.DFfHidden.nD,
      r.2.mem ((c.tc : Thread Cert.DFfHidden.nD Cert.DFfHidden.τ).loc Cert.DFfHidden.main_arg0) = m ((c.tc : Thread Cert.DFfHidden.nD Cert.DFfHidden.τ).loc Cert.DFfHidden.main_arg0)
      ∧ r.2.mem ((c.tc : Thread Cert.DFfHidden.nD Cert.DFfHidden.τ).loc Cert.DFfHidden.main_arg1) = m ((c.tc : Thread Cert.DFfHidden.nD Cert.DFfHidden.τ).loc Cert.DFfHidden.main_arg1)
      ∧ r.2.mem ((c.tc : Thread Cert.DFfHidden.nD Cert.DFfHidden.τ).loc Cert.DFfHidden.main_arg2) = m ((c.tc : Thread Cert.DFfHidden.nD Cert.DFfHidden.τ).loc Cert.DFfHidden.main_arg2)
      ∧ r.2.mem ((c.tc : Thread Cert.DFfHidden.nD Cert.DFfHidden.τ).loc Cert.DFfHidden.main_arg3) = m ((c.tc : Thread Cert.DFfHidden.nD Cert.DFfHidden.τ).loc Cert.DFfHidden.main_arg3)
      ∧ r.2.mem ((c.tc : Thread Cert.DFfHidden.nD Cert.DFfHidden.τ).loc Cert.DFfHidden.main_arg4) = m ((c.tc : Thread Cert.DFfHidden.nD Cert.DFfHidden.τ).loc Cert.DFfHidden.main_arg4))
      ∧ r.2.sem = fun _ => 0)

def quiescent_DFfHiddenIdeal [hDFfHiddenIdeal : Cert.DFfHiddenIdeal.Facts] : Prop :=
  ∀ (m : (ℓ : Loc Cert.DFfHiddenIdeal.nD Cert.DFfHiddenIdeal.τ Cert.DFfHiddenIdeal.sig) → Buf (Elt Ideal) ℓ) (g : Dev Cert.DFfHiddenIdeal.nD → PrngReg), Pre_DFfHiddenIdeal m →
    θ_run (Cert.DFfHiddenIdeal.defs (F := Ideal)) (onTc (τ := Cert.DFfHiddenIdeal.τ) (Cert.DFfHiddenIdeal.main (F := Ideal))) ⟨m, fun _ => 0, g⟩ (fun r => (∀ c : Dev Cert.DFfHiddenIdeal.nD,
      r.2.mem ((c.tc : Thread Cert.DFfHiddenIdeal.nD Cert.DFfHiddenIdeal.τ).loc Cert.DFfHiddenIdeal.main_arg0) = m ((c.tc : Thread Cert.DFfHiddenIdeal.nD Cert.DFfHiddenIdeal.τ).loc Cert.DFfHiddenIdeal.main_arg0)
      ∧ r.2.mem ((c.tc : Thread Cert.DFfHiddenIdeal.nD Cert.DFfHiddenIdeal.τ).loc Cert.DFfHiddenIdeal.main_arg1) = m ((c.tc : Thread Cert.DFfHiddenIdeal.nD Cert.DFfHiddenIdeal.τ).loc Cert.DFfHiddenIdeal.main_arg1)
      ∧ r.2.mem ((c.tc : Thread Cert.DFfHiddenIdeal.nD Cert.DFfHiddenIdeal.τ).loc Cert.DFfHiddenIdeal.main_arg2) = m ((c.tc : Thread Cert.DFfHiddenIdeal.nD Cert.DFfHiddenIdeal.τ).loc Cert.DFfHiddenIdeal.main_arg2)
      ∧ r.2.mem ((c.tc : Thread Cert.DFfHiddenIdeal.nD Cert.DFfHiddenIdeal.τ).loc Cert.DFfHiddenIdeal.main_arg3) = m ((c.tc : Thread Cert.DFfHiddenIdeal.nD Cert.DFfHiddenIdeal.τ).loc Cert.DFfHiddenIdeal.main_arg3)
      ∧ r.2.mem ((c.tc : Thread Cert.DFfHiddenIdeal.nD Cert.DFfHiddenIdeal.τ).loc Cert.DFfHiddenIdeal.main_arg4) = m ((c.tc : Thread Cert.DFfHiddenIdeal.nD Cert.DFfHiddenIdeal.τ).loc Cert.DFfHiddenIdeal.main_arg4))
      ∧ r.2.sem = fun _ => 0)

def quiescent_RefDFfHiddenIdeal [hRefDFfHiddenIdeal : Cert.RefDFfHiddenIdeal.Facts] : Prop :=
  ∀ (m : (ℓ : Loc Cert.RefDFfHiddenIdeal.nD Cert.RefDFfHiddenIdeal.τ Cert.RefDFfHiddenIdeal.sig) → Buf (Elt Ideal) ℓ) (g : Dev Cert.RefDFfHiddenIdeal.nD → PrngReg), Pre_RefDFfHiddenIdeal m →
    θ_run (Cert.RefDFfHiddenIdeal.defs (F := Ideal)) (onTc (τ := Cert.RefDFfHiddenIdeal.τ) (Cert.RefDFfHiddenIdeal.main (F := Ideal))) ⟨m, fun _ => 0, g⟩ (fun r => (∀ c : Dev Cert.RefDFfHiddenIdeal.nD,
      r.2.mem ((c.tc : Thread Cert.RefDFfHiddenIdeal.nD Cert.RefDFfHiddenIdeal.τ).loc Cert.RefDFfHiddenIdeal.main_arg0) = m ((c.tc : Thread Cert.RefDFfHiddenIdeal.nD Cert.RefDFfHiddenIdeal.τ).loc Cert.RefDFfHiddenIdeal.main_arg0)
      ∧ r.2.mem ((c.tc : Thread Cert.RefDFfHiddenIdeal.nD Cert.RefDFfHiddenIdeal.τ).loc Cert.RefDFfHiddenIdeal.main_arg1) = m ((c.tc : Thread Cert.RefDFfHiddenIdeal.nD Cert.RefDFfHiddenIdeal.τ).loc Cert.RefDFfHiddenIdeal.main_arg1)
      ∧ r.2.mem ((c.tc : Thread Cert.RefDFfHiddenIdeal.nD Cert.RefDFfHiddenIdeal.τ).loc Cert.RefDFfHiddenIdeal.main_arg2) = m ((c.tc : Thread Cert.RefDFfHiddenIdeal.nD Cert.RefDFfHiddenIdeal.τ).loc Cert.RefDFfHiddenIdeal.main_arg2)
      ∧ r.2.mem ((c.tc : Thread Cert.RefDFfHiddenIdeal.nD Cert.RefDFfHiddenIdeal.τ).loc Cert.RefDFfHiddenIdeal.main_arg3) = m ((c.tc : Thread Cert.RefDFfHiddenIdeal.nD Cert.RefDFfHiddenIdeal.τ).loc Cert.RefDFfHiddenIdeal.main_arg3)
      ∧ r.2.mem ((c.tc : Thread Cert.RefDFfHiddenIdeal.nD Cert.RefDFfHiddenIdeal.τ).loc Cert.RefDFfHiddenIdeal.main_arg4) = m ((c.tc : Thread Cert.RefDFfHiddenIdeal.nD Cert.RefDFfHiddenIdeal.τ).loc Cert.RefDFfHiddenIdeal.main_arg4))
      ∧ r.2.sem = fun _ => 0)

def quiescent_DWFf1 [hDWFf1 : Cert.DWFf1.Facts] : Prop :=
  ∀ (m : (ℓ : Loc Cert.DWFf1.nD Cert.DWFf1.τ Cert.DWFf1.sig) → Buf (Elt Bits) ℓ) (g : Dev Cert.DWFf1.nD → PrngReg), Pre_DWFf1 m →
    θ_run (Cert.DWFf1.defs (F := Bits)) (onTc (τ := Cert.DWFf1.τ) (Cert.DWFf1.main (F := Bits))) ⟨m, fun _ => 0, g⟩ (fun r => (∀ c : Dev Cert.DWFf1.nD,
      r.2.mem ((c.tc : Thread Cert.DWFf1.nD Cert.DWFf1.τ).loc Cert.DWFf1.main_arg0) = m ((c.tc : Thread Cert.DWFf1.nD Cert.DWFf1.τ).loc Cert.DWFf1.main_arg0)
      ∧ r.2.mem ((c.tc : Thread Cert.DWFf1.nD Cert.DWFf1.τ).loc Cert.DWFf1.main_arg1) = m ((c.tc : Thread Cert.DWFf1.nD Cert.DWFf1.τ).loc Cert.DWFf1.main_arg1)
      ∧ r.2.mem ((c.tc : Thread Cert.DWFf1.nD Cert.DWFf1.τ).loc Cert.DWFf1.main_arg2) = m ((c.tc : Thread Cert.DWFf1.nD Cert.DWFf1.τ).loc Cert.DWFf1.main_arg2))
      ∧ r.2.sem = fun _ => 0)

def quiescent_DWFf1Ideal [hDWFf1Ideal : Cert.DWFf1Ideal.Facts] : Prop :=
  ∀ (m : (ℓ : Loc Cert.DWFf1Ideal.nD Cert.DWFf1Ideal.τ Cert.DWFf1Ideal.sig) → Buf (Elt Ideal) ℓ) (g : Dev Cert.DWFf1Ideal.nD → PrngReg), Pre_DWFf1Ideal m →
    θ_run (Cert.DWFf1Ideal.defs (F := Ideal)) (onTc (τ := Cert.DWFf1Ideal.τ) (Cert.DWFf1Ideal.main (F := Ideal))) ⟨m, fun _ => 0, g⟩ (fun r => (∀ c : Dev Cert.DWFf1Ideal.nD,
      r.2.mem ((c.tc : Thread Cert.DWFf1Ideal.nD Cert.DWFf1Ideal.τ).loc Cert.DWFf1Ideal.main_arg0) = m ((c.tc : Thread Cert.DWFf1Ideal.nD Cert.DWFf1Ideal.τ).loc Cert.DWFf1Ideal.main_arg0)
      ∧ r.2.mem ((c.tc : Thread Cert.DWFf1Ideal.nD Cert.DWFf1Ideal.τ).loc Cert.DWFf1Ideal.main_arg1) = m ((c.tc : Thread Cert.DWFf1Ideal.nD Cert.DWFf1Ideal.τ).loc Cert.DWFf1Ideal.main_arg1)
      ∧ r.2.mem ((c.tc : Thread Cert.DWFf1Ideal.nD Cert.DWFf1Ideal.τ).loc Cert.DWFf1Ideal.main_arg2) = m ((c.tc : Thread Cert.DWFf1Ideal.nD Cert.DWFf1Ideal.τ).loc Cert.DWFf1Ideal.main_arg2))
      ∧ r.2.sem = fun _ => 0)

def quiescent_RefDWFf1Ideal [hRefDWFf1Ideal : Cert.RefDWFf1Ideal.Facts] : Prop :=
  ∀ (m : (ℓ : Loc Cert.RefDWFf1Ideal.nD Cert.RefDWFf1Ideal.τ Cert.RefDWFf1Ideal.sig) → Buf (Elt Ideal) ℓ) (g : Dev Cert.RefDWFf1Ideal.nD → PrngReg), Pre_RefDWFf1Ideal m →
    θ_run (Cert.RefDWFf1Ideal.defs (F := Ideal)) (onTc (τ := Cert.RefDWFf1Ideal.τ) (Cert.RefDWFf1Ideal.main (F := Ideal))) ⟨m, fun _ => 0, g⟩ (fun r => (∀ c : Dev Cert.RefDWFf1Ideal.nD,
      r.2.mem ((c.tc : Thread Cert.RefDWFf1Ideal.nD Cert.RefDWFf1Ideal.τ).loc Cert.RefDWFf1Ideal.main_arg0) = m ((c.tc : Thread Cert.RefDWFf1Ideal.nD Cert.RefDWFf1Ideal.τ).loc Cert.RefDWFf1Ideal.main_arg0)
      ∧ r.2.mem ((c.tc : Thread Cert.RefDWFf1Ideal.nD Cert.RefDWFf1Ideal.τ).loc Cert.RefDWFf1Ideal.main_arg1) = m ((c.tc : Thread Cert.RefDWFf1Ideal.nD Cert.RefDWFf1Ideal.τ).loc Cert.RefDWFf1Ideal.main_arg1)
      ∧ r.2.mem ((c.tc : Thread Cert.RefDWFf1Ideal.nD Cert.RefDWFf1Ideal.τ).loc Cert.RefDWFf1Ideal.main_arg2) = m ((c.tc : Thread Cert.RefDWFf1Ideal.nD Cert.RefDWFf1Ideal.τ).loc Cert.RefDWFf1Ideal.main_arg2))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ r.2.sem = fun _ => 0)

def quiescent_RefDH1Ideal [hRefDH1Ideal : Cert.RefDH1Ideal.Facts] : Prop :=
  ∀ (m : (ℓ : Loc Cert.RefDH1Ideal.nD Cert.RefDH1Ideal.τ Cert.RefDH1Ideal.sig) → Buf (Elt Ideal) ℓ) (g : Dev Cert.RefDH1Ideal.nD → PrngReg), Pre_RefDH1Ideal m →
    θ_run (Cert.RefDH1Ideal.defs (F := Ideal)) (onTc (τ := Cert.RefDH1Ideal.τ) (Cert.RefDH1Ideal.main (F := Ideal))) ⟨m, fun _ => 0, g⟩ (fun r => (∀ c : Dev Cert.RefDH1Ideal.nD,
      r.2.mem ((c.tc : Thread Cert.RefDH1Ideal.nD Cert.RefDH1Ideal.τ).loc Cert.RefDH1Ideal.main_arg0) = m ((c.tc : Thread Cert.RefDH1Ideal.nD Cert.RefDH1Ideal.τ).loc Cert.RefDH1Ideal.main_arg0)
      ∧ r.2.mem ((c.tc : Thread Cert.RefDH1Ideal.nD Cert.RefDH1Ideal.τ).loc Cert.RefDH1Ideal.main_arg1) = m ((c.tc : Thread Cert.RefDH1Ideal.nD Cert.RefDH1Ideal.τ).loc Cert.RefDH1Ideal.main_arg1)
      ∧ r.2.mem ((c.tc : Thread Cert.RefDH1Ideal.nD Cert.RefDH1Ideal.τ).loc Cert.RefDH1Ideal.main_arg2) = m ((c.tc : Thread Cert.RefDH1Ideal.nD Cert.RefDH1Ideal.τ).loc Cert.RefDH1Ideal.main_arg2)
      ∧ r.2.mem ((c.tc : Thread Cert.RefDH1Ideal.nD Cert.RefDH1Ideal.τ).loc Cert.RefDH1Ideal.main_arg3) = m ((c.tc : Thread Cert.RefDH1Ideal.nD Cert.RefDH1Ideal.τ).loc Cert.RefDH1Ideal.main_arg3)
      ∧ r.2.mem ((c.tc : Thread Cert.RefDH1Ideal.nD Cert.RefDH1Ideal.τ).loc Cert.RefDH1Ideal.main_arg4) = m ((c.tc : Thread Cert.RefDH1Ideal.nD Cert.RefDH1Ideal.τ).loc Cert.RefDH1Ideal.main_arg4))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_RefFf1Ideal [hRefFf1Ideal : Cert.RefFf1Ideal.Facts] : Prop :=
  ∀ (m : (ℓ : Loc Cert.RefFf1Ideal.nD Cert.RefFf1Ideal.τ Cert.RefFf1Ideal.sig) → Buf (Elt Ideal) ℓ) (g : Dev Cert.RefFf1Ideal.nD → PrngReg), Pre_RefFf1Ideal m →
    θ_run (Cert.RefFf1Ideal.defs (F := Ideal)) (onTc (τ := Cert.RefFf1Ideal.τ) (Cert.RefFf1Ideal.main (F := Ideal))) ⟨m, fun _ => 0, g⟩ (fun r => (∀ c : Dev Cert.RefFf1Ideal.nD,
      r.2.mem ((c.tc : Thread Cert.RefFf1Ideal.nD Cert.RefFf1Ideal.τ).loc Cert.RefFf1Ideal.main_arg0) = m ((c.tc : Thread Cert.RefFf1Ideal.nD Cert.RefFf1Ideal.τ).loc Cert.RefFf1Ideal.main_arg0)
      ∧ r.2.mem ((c.tc : Thread Cert.RefFf1Ideal.nD Cert.RefFf1Ideal.τ).loc Cert.RefFf1Ideal.main_arg1) = m ((c.tc : Thread Cert.RefFf1Ideal.nD Cert.RefFf1Ideal.τ).loc Cert.RefFf1Ideal.main_arg1)
      ∧ r.2.mem ((c.tc : Thread Cert.RefFf1Ideal.nD Cert.RefFf1Ideal.τ).loc Cert.RefFf1Ideal.main_arg2) = m ((c.tc : Thread Cert.RefFf1Ideal.nD Cert.RefFf1Ideal.τ).loc Cert.RefFf1Ideal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3)
      ∧ r.2.mem ((c.tc : Thread Cert.Ff2.nD Cert.Ff2.τ).loc Cert.Ff2.main_arg4) = m ((c.tc : Thread Cert.Ff2.nD Cert.Ff2.τ).loc Cert.Ff2.main_arg4))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
      ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4))
      ∧ r.2.sem = fun _ => 0)

def quiescent_RefFf2Ideal [hRefFf2Ideal : Cert.RefFf2Ideal.Facts] : Prop :=
  ∀ (m : (ℓ : Loc Cert.RefFf2Ideal.nD Cert.RefFf2Ideal.τ Cert.RefFf2Ideal.sig) → Buf (Elt Ideal) ℓ) (g : Dev Cert.RefFf2Ideal.nD → PrngReg), Pre_RefFf2Ideal m →
    θ_run (Cert.RefFf2Ideal.defs (F := Ideal)) (onTc (τ := Cert.RefFf2Ideal.τ) (Cert.RefFf2Ideal.main (F := Ideal))) ⟨m, fun _ => 0, g⟩ (fun r => (∀ c : Dev Cert.RefFf2Ideal.nD,
      r.2.mem ((c.tc : Thread Cert.RefFf2Ideal.nD Cert.RefFf2Ideal.τ).loc Cert.RefFf2Ideal.main_arg0) = m ((c.tc : Thread Cert.RefFf2Ideal.nD Cert.RefFf2Ideal.τ).loc Cert.RefFf2Ideal.main_arg0)
      ∧ r.2.mem ((c.tc : Thread Cert.RefFf2Ideal.nD Cert.RefFf2Ideal.τ).loc Cert.RefFf2Ideal.main_arg1) = m ((c.tc : Thread Cert.RefFf2Ideal.nD Cert.RefFf2Ideal.τ).loc Cert.RefFf2Ideal.main_arg1)
      ∧ r.2.mem ((c.tc : Thread Cert.RefFf2Ideal.nD Cert.RefFf2Ideal.τ).loc Cert.RefFf2Ideal.main_arg2) = m ((c.tc : Thread Cert.RefFf2Ideal.nD Cert.RefFf2Ideal.τ).loc Cert.RefFf2Ideal.main_arg2)
      ∧ r.2.mem ((c.tc : Thread Cert.RefFf2Ideal.nD Cert.RefFf2Ideal.τ).loc Cert.RefFf2Ideal.main_arg3) = m ((c.tc : Thread Cert.RefFf2Ideal.nD Cert.RefFf2Ideal.τ).loc Cert.RefFf2Ideal.main_arg3)
      ∧ r.2.mem ((c.tc : Thread Cert.RefFf2Ideal.nD Cert.RefFf2Ideal.τ).loc Cert.RefFf2Ideal.main_arg4) = m ((c.tc : Thread Cert.RefFf2Ideal.nD Cert.RefFf2Ideal.τ).loc Cert.RefFf2Ideal.main_arg4))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_RefDWOutIdeal [hRefDWOutIdeal : Cert.RefDWOutIdeal.Facts] : Prop :=
  ∀ (m : (ℓ : Loc Cert.RefDWOutIdeal.nD Cert.RefDWOutIdeal.τ Cert.RefDWOutIdeal.sig) → Buf (Elt Ideal) ℓ) (g : Dev Cert.RefDWOutIdeal.nD → PrngReg), Pre_RefDWOutIdeal m →
    θ_run (Cert.RefDWOutIdeal.defs (F := Ideal)) (onTc (τ := Cert.RefDWOutIdeal.τ) (Cert.RefDWOutIdeal.main (F := Ideal))) ⟨m, fun _ => 0, g⟩ (fun r => (∀ c : Dev Cert.RefDWOutIdeal.nD,
      r.2.mem ((c.tc : Thread Cert.RefDWOutIdeal.nD Cert.RefDWOutIdeal.τ).loc Cert.RefDWOutIdeal.main_arg0) = m ((c.tc : Thread Cert.RefDWOutIdeal.nD Cert.RefDWOutIdeal.τ).loc Cert.RefDWOutIdeal.main_arg0)
      ∧ r.2.mem ((c.tc : Thread Cert.RefDWOutIdeal.nD Cert.RefDWOutIdeal.τ).loc Cert.RefDWOutIdeal.main_arg1) = m ((c.tc : Thread Cert.RefDWOutIdeal.nD Cert.RefDWOutIdeal.τ).loc Cert.RefDWOutIdeal.main_arg1))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ r.2.sem = fun _ => 0)

def quiescent_RefDCatIdeal [hRefDCatIdeal : Cert.RefDCatIdeal.Facts] : Prop :=
  ∀ (m : (ℓ : Loc Cert.RefDCatIdeal.nD Cert.RefDCatIdeal.τ Cert.RefDCatIdeal.sig) → Buf (Elt Ideal) ℓ) (g : Dev Cert.RefDCatIdeal.nD → PrngReg), Pre_RefDCatIdeal m →
    θ_run (Cert.RefDCatIdeal.defs (F := Ideal)) (onTc (τ := Cert.RefDCatIdeal.τ) (Cert.RefDCatIdeal.main (F := Ideal))) ⟨m, fun _ => 0, g⟩ (fun r => (∀ c : Dev Cert.RefDCatIdeal.nD,
      r.2.mem ((c.tc : Thread Cert.RefDCatIdeal.nD Cert.RefDCatIdeal.τ).loc Cert.RefDCatIdeal.main_arg0) = m ((c.tc : Thread Cert.RefDCatIdeal.nD Cert.RefDCatIdeal.τ).loc Cert.RefDCatIdeal.main_arg0)
      ∧ r.2.mem ((c.tc : Thread Cert.RefDCatIdeal.nD Cert.RefDCatIdeal.τ).loc Cert.RefDCatIdeal.main_arg1) = m ((c.tc : Thread Cert.RefDCatIdeal.nD Cert.RefDCatIdeal.τ).loc Cert.RefDCatIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ r.2.sem = fun _ => 0)

def quiescent_RefProjOutIdeal [hRefProjOutIdeal : Cert.RefProjOutIdeal.Facts] : Prop :=
  ∀ (m : (ℓ : Loc Cert.RefProjOutIdeal.nD Cert.RefProjOutIdeal.τ Cert.RefProjOutIdeal.sig) → Buf (Elt Ideal) ℓ) (g : Dev Cert.RefProjOutIdeal.nD → PrngReg), Pre_RefProjOutIdeal m →
    θ_run (Cert.RefProjOutIdeal.defs (F := Ideal)) (onTc (τ := Cert.RefProjOutIdeal.τ) (Cert.RefProjOutIdeal.main (F := Ideal))) ⟨m, fun _ => 0, g⟩ (fun r => (∀ c : Dev Cert.RefProjOutIdeal.nD,
      r.2.mem ((c.tc : Thread Cert.RefProjOutIdeal.nD Cert.RefProjOutIdeal.τ).loc Cert.RefProjOutIdeal.main_arg0) = m ((c.tc : Thread Cert.RefProjOutIdeal.nD Cert.RefProjOutIdeal.τ).loc Cert.RefProjOutIdeal.main_arg0)
      ∧ r.2.mem ((c.tc : Thread Cert.RefProjOutIdeal.nD Cert.RefProjOutIdeal.τ).loc Cert.RefProjOutIdeal.main_arg1) = m ((c.tc : Thread Cert.RefProjOutIdeal.nD Cert.RefProjOutIdeal.τ).loc Cert.RefProjOutIdeal.main_arg1)
      ∧ r.2.mem ((c.tc : Thread Cert.RefProjOutIdeal.nD Cert.RefProjOutIdeal.τ).loc Cert.RefProjOutIdeal.main_arg2) = m ((c.tc : Thread Cert.RefProjOutIdeal.nD Cert.RefProjOutIdeal.τ).loc Cert.RefProjOutIdeal.main_arg2)
      ∧ r.2.mem ((c.tc : Thread Cert.RefProjOutIdeal.nD Cert.RefProjOutIdeal.τ).loc Cert.RefProjOutIdeal.main_arg3) = m ((c.tc : Thread Cert.RefProjOutIdeal.nD Cert.RefProjOutIdeal.τ).loc Cert.RefProjOutIdeal.main_arg3))
      ∧ r.2.sem = fun _ => 0)

def quiescent_DWGate [hDWGate : Cert.DWGate.Facts] : Prop :=
  ∀ (m : (ℓ : Loc Cert.DWGate.nD Cert.DWGate.τ Cert.DWGate.sig) → Buf (Elt Bits) ℓ) (g : Dev Cert.DWGate.nD → PrngReg), Pre_DWGate m →
    θ_run (Cert.DWGate.defs (F := Bits)) (onTc (τ := Cert.DWGate.τ) (Cert.DWGate.main (F := Bits))) ⟨m, fun _ => 0, g⟩ (fun r => (∀ c : Dev Cert.DWGate.nD,
      r.2.mem ((c.tc : Thread Cert.DWGate.nD Cert.DWGate.τ).loc Cert.DWGate.main_arg0) = m ((c.tc : Thread Cert.DWGate.nD Cert.DWGate.τ).loc Cert.DWGate.main_arg0)
      ∧ r.2.mem ((c.tc : Thread Cert.DWGate.nD Cert.DWGate.τ).loc Cert.DWGate.main_arg1) = m ((c.tc : Thread Cert.DWGate.nD Cert.DWGate.τ).loc Cert.DWGate.main_arg1)
      ∧ r.2.mem ((c.tc : Thread Cert.DWGate.nD Cert.DWGate.τ).loc Cert.DWGate.main_arg2) = m ((c.tc : Thread Cert.DWGate.nD Cert.DWGate.τ).loc Cert.DWGate.main_arg2))
      ∧ r.2.sem = fun _ => 0)

def quiescent_DWGateIdeal [hDWGateIdeal : Cert.DWGateIdeal.Facts] : Prop :=
  ∀ (m : (ℓ : Loc Cert.DWGateIdeal.nD Cert.DWGateIdeal.τ Cert.DWGateIdeal.sig) → Buf (Elt Ideal) ℓ) (g : Dev Cert.DWGateIdeal.nD → PrngReg), Pre_DWGateIdeal m →
    θ_run (Cert.DWGateIdeal.defs (F := Ideal)) (onTc (τ := Cert.DWGateIdeal.τ) (Cert.DWGateIdeal.main (F := Ideal))) ⟨m, fun _ => 0, g⟩ (fun r => (∀ c : Dev Cert.DWGateIdeal.nD,
      r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
      ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1)
      ∧ r.2.mem ((c.tc : Thread Cert.DWGateIdeal.nD Cert.DWGateIdeal.τ).loc Cert.DWGateIdeal.main_arg2) = m ((c.tc : Thread Cert.DWGateIdeal.nD Cert.DWGateIdeal.τ).loc Cert.DWGateIdeal.main_arg2))
      ∧ r.2.sem = fun _ => 0)

def quiescent_RefDWGateIdeal [hRefDWGateIdeal : Cert.RefDWGateIdeal.Facts] : Prop :=
  ∀ (m : (ℓ : Loc Cert.RefDWGateIdeal.nD Cert.RefDWGateIdeal.τ Cert.RefDWGateIdeal.sig) → Buf (Elt Ideal) ℓ) (g : Dev Cert.RefDWGateIdeal.nD → PrngReg), Pre_RefDWGateIdeal m →
    θ_run (Cert.RefDWGateIdeal.defs (F := Ideal)) (onTc (τ := Cert.RefDWGateIdeal.τ) (Cert.RefDWGateIdeal.main (F := Ideal))) ⟨m, fun _ => 0, g⟩ (fun r => (∀ c : Dev Cert.RefDWGateIdeal.nD,
      r.2.mem ((c.tc : Thread Cert.RefDWGateIdeal.nD Cert.RefDWGateIdeal.τ).loc Cert.RefDWGateIdeal.main_arg0) = m ((c.tc : Thread Cert.RefDWGateIdeal.nD Cert.RefDWGateIdeal.τ).loc Cert.RefDWGateIdeal.main_arg0)
      ∧ r.2.mem ((c.tc : Thread Cert.RefDWGateIdeal.nD Cert.RefDWGateIdeal.τ).loc Cert.RefDWGateIdeal.main_arg1) = m ((c.tc : Thread Cert.RefDWGateIdeal.nD Cert.RefDWGateIdeal.τ).loc Cert.RefDWGateIdeal.main_arg1)
      ∧ r.2.mem ((c.tc : Thread Cert.RefDWGateIdeal.nD Cert.RefDWGateIdeal.τ).loc Cert.RefDWGateIdeal.main_arg2) = m ((c.tc : Thread Cert.RefDWGateIdeal.nD Cert.RefDWGateIdeal.τ).loc Cert.RefDWGateIdeal.main_arg2))
      ∧ r.2.sem = fun _ => 0)

def quiescent_DWProj [hDWProj : Cert.DWProj.Facts] : Prop :=
  ∀ (m : (ℓ : Loc Cert.DWProj.nD Cert.DWProj.τ Cert.DWProj.sig) → Buf (Elt Bits) ℓ) (g : Dev Cert.DWProj.nD → PrngReg), Pre_DWProj m →
    θ_run (Cert.DWProj.defs (F := Bits)) (onTc (τ := Cert.DWProj.τ) (Cert.DWProj.main (F := Bits))) ⟨m, fun _ => 0, g⟩ (fun r => (∀ c : Dev Cert.DWProj.nD,
      r.2.mem ((c.tc : Thread Cert.DWProj.nD Cert.DWProj.τ).loc Cert.DWProj.main_arg0) = m ((c.tc : Thread Cert.DWProj.nD Cert.DWProj.τ).loc Cert.DWProj.main_arg0)
      ∧ r.2.mem ((c.tc : Thread Cert.DWProj.nD Cert.DWProj.τ).loc Cert.DWProj.main_arg1) = m ((c.tc : Thread Cert.DWProj.nD Cert.DWProj.τ).loc Cert.DWProj.main_arg1))
      ∧ r.2.sem = fun _ => 0)

def quiescent_DWProjIdeal [hDWProjIdeal : Cert.DWProjIdeal.Facts] : Prop :=
  ∀ (m : (ℓ : Loc Cert.DWProjIdeal.nD Cert.DWProjIdeal.τ Cert.DWProjIdeal.sig) → Buf (Elt Ideal) ℓ) (g : Dev Cert.DWProjIdeal.nD → PrngReg), Pre_DWProjIdeal m →
    θ_run (Cert.DWProjIdeal.defs (F := Ideal)) (onTc (τ := Cert.DWProjIdeal.τ) (Cert.DWProjIdeal.main (F := Ideal))) ⟨m, fun _ => 0, g⟩ (fun r => (∀ c : Dev Cert.DWProjIdeal.nD,
      r.2.mem ((c.tc : Thread Cert.DWProjIdeal.nD Cert.DWProjIdeal.τ).loc Cert.DWProjIdeal.main_arg0) = m ((c.tc : Thread Cert.DWProjIdeal.nD Cert.DWProjIdeal.τ).loc Cert.DWProjIdeal.main_arg0)
      ∧ r.2.mem ((c.tc : Thread Cert.DWProjIdeal.nD Cert.DWProjIdeal.τ).loc Cert.DWProjIdeal.main_arg1) = m ((c.tc : Thread Cert.DWProjIdeal.nD Cert.DWProjIdeal.τ).loc Cert.DWProjIdeal.main_arg1))
      ∧ r.2.sem = fun _ => 0)

def quiescent_RefDWProjIdeal [hRefDWProjIdeal : Cert.RefDWProjIdeal.Facts] : Prop :=
  ∀ (m : (ℓ : Loc Cert.RefDWProjIdeal.nD Cert.RefDWProjIdeal.τ Cert.RefDWProjIdeal.sig) → Buf (Elt Ideal) ℓ) (g : Dev Cert.RefDWProjIdeal.nD → PrngReg), Pre_RefDWProjIdeal m →
    θ_run (Cert.RefDWProjIdeal.defs (F := Ideal)) (onTc (τ := Cert.RefDWProjIdeal.τ) (Cert.RefDWProjIdeal.main (F := Ideal))) ⟨m, fun _ => 0, g⟩ (fun r => (∀ c : Dev Cert.RefDWProjIdeal.nD,
      r.2.mem ((c.tc : Thread Cert.RefDWProjIdeal.nD Cert.RefDWProjIdeal.τ).loc Cert.RefDWProjIdeal.main_arg0) = m ((c.tc : Thread Cert.RefDWProjIdeal.nD Cert.RefDWProjIdeal.τ).loc Cert.RefDWProjIdeal.main_arg0)
      ∧ r.2.mem ((c.tc : Thread Cert.RefDWProjIdeal.nD Cert.RefDWProjIdeal.τ).loc Cert.RefDWProjIdeal.main_arg1) = m ((c.tc : Thread Cert.RefDWProjIdeal.nD Cert.RefDWProjIdeal.τ).loc Cert.RefDWProjIdeal.main_arg1))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_RefAdamWOutIdeal [hRefAdamWOutIdeal : Cert.RefAdamWOutIdeal.Facts] : Prop :=
  ∀ (m : (ℓ : Loc Cert.RefAdamWOutIdeal.nD Cert.RefAdamWOutIdeal.τ Cert.RefAdamWOutIdeal.sig) → Buf (Elt Ideal) ℓ) (g : Dev Cert.RefAdamWOutIdeal.nD → PrngReg), Pre_RefAdamWOutIdeal m →
    θ_run (Cert.RefAdamWOutIdeal.defs (F := Ideal)) (onTc (τ := Cert.RefAdamWOutIdeal.τ) (Cert.RefAdamWOutIdeal.main (F := Ideal))) ⟨m, fun _ => 0, g⟩ (fun r => (∀ c : Dev Cert.RefAdamWOutIdeal.nD,
      r.2.mem ((c.tc : Thread Cert.RefAdamWOutIdeal.nD Cert.RefAdamWOutIdeal.τ).loc Cert.RefAdamWOutIdeal.main_arg0) = m ((c.tc : Thread Cert.RefAdamWOutIdeal.nD Cert.RefAdamWOutIdeal.τ).loc Cert.RefAdamWOutIdeal.main_arg0)
      ∧ r.2.mem ((c.tc : Thread Cert.RefAdamWOutIdeal.nD Cert.RefAdamWOutIdeal.τ).loc Cert.RefAdamWOutIdeal.main_arg1) = m ((c.tc : Thread Cert.RefAdamWOutIdeal.nD Cert.RefAdamWOutIdeal.τ).loc Cert.RefAdamWOutIdeal.main_arg1)
      ∧ r.2.mem ((c.tc : Thread Cert.RefAdamWOutIdeal.nD Cert.RefAdamWOutIdeal.τ).loc Cert.RefAdamWOutIdeal.main_arg2) = m ((c.tc : Thread Cert.RefAdamWOutIdeal.nD Cert.RefAdamWOutIdeal.τ).loc Cert.RefAdamWOutIdeal.main_arg2)
      ∧ r.2.mem ((c.tc : Thread Cert.RefAdamWOutIdeal.nD Cert.RefAdamWOutIdeal.τ).loc Cert.RefAdamWOutIdeal.main_arg3) = m ((c.tc : Thread Cert.RefAdamWOutIdeal.nD Cert.RefAdamWOutIdeal.τ).loc Cert.RefAdamWOutIdeal.main_arg3))
      ∧ r.2.sem = fun _ => 0)

def quiescent_AdamWFf1 [hAdamWFf1 : Cert.AdamWFf1.Facts] : Prop :=
  ∀ (m : (ℓ : Loc Cert.AdamWFf1.nD Cert.AdamWFf1.τ Cert.AdamWFf1.sig) → Buf (Elt Bits) ℓ) (g : Dev Cert.AdamWFf1.nD → PrngReg), Pre_AdamWFf1 m →
    θ_run (Cert.AdamWFf1.defs (F := Bits)) (onTc (τ := Cert.AdamWFf1.τ) (Cert.AdamWFf1.main (F := Bits))) ⟨m, fun _ => 0, g⟩ (fun r => (∀ c : Dev Cert.AdamWFf1.nD,
      r.2.mem ((c.tc : Thread Cert.AdamWFf1.nD Cert.AdamWFf1.τ).loc Cert.AdamWFf1.main_arg0) = m ((c.tc : Thread Cert.AdamWFf1.nD Cert.AdamWFf1.τ).loc Cert.AdamWFf1.main_arg0)
      ∧ r.2.mem ((c.tc : Thread Cert.AdamWFf1.nD Cert.AdamWFf1.τ).loc Cert.AdamWFf1.main_arg1) = m ((c.tc : Thread Cert.AdamWFf1.nD Cert.AdamWFf1.τ).loc Cert.AdamWFf1.main_arg1)
      ∧ r.2.mem ((c.tc : Thread Cert.AdamWFf1.nD Cert.AdamWFf1.τ).loc Cert.AdamWFf1.main_arg2) = m ((c.tc : Thread Cert.AdamWFf1.nD Cert.AdamWFf1.τ).loc Cert.AdamWFf1.main_arg2)
      ∧ r.2.mem ((c.tc : Thread Cert.AdamWFf1.nD Cert.AdamWFf1.τ).loc Cert.AdamWFf1.main_arg3) = m ((c.tc : Thread Cert.AdamWFf1.nD Cert.AdamWFf1.τ).loc Cert.AdamWFf1.main_arg3))
      ∧ r.2.sem = fun _ => 0)

def quiescent_AdamWFf1Ideal [hAdamWFf1Ideal : Cert.AdamWFf1Ideal.Facts] : Prop :=
  ∀ (m : (ℓ : Loc Cert.AdamWFf1Ideal.nD Cert.AdamWFf1Ideal.τ Cert.AdamWFf1Ideal.sig) → Buf (Elt Ideal) ℓ) (g : Dev Cert.AdamWFf1Ideal.nD → PrngReg), Pre_AdamWFf1Ideal m →
    θ_run (Cert.AdamWFf1Ideal.defs (F := Ideal)) (onTc (τ := Cert.AdamWFf1Ideal.τ) (Cert.AdamWFf1Ideal.main (F := Ideal))) ⟨m, fun _ => 0, g⟩ (fun r => (∀ c : Dev Cert.AdamWFf1Ideal.nD,
      r.2.mem ((c.tc : Thread Cert.AdamWFf1Ideal.nD Cert.AdamWFf1Ideal.τ).loc Cert.AdamWFf1Ideal.main_arg0) = m ((c.tc : Thread Cert.AdamWFf1Ideal.nD Cert.AdamWFf1Ideal.τ).loc Cert.AdamWFf1Ideal.main_arg0)
      ∧ r.2.mem ((c.tc : Thread Cert.AdamWFf1Ideal.nD Cert.AdamWFf1Ideal.τ).loc Cert.AdamWFf1Ideal.main_arg1) = m ((c.tc : Thread Cert.AdamWFf1Ideal.nD Cert.AdamWFf1Ideal.τ).loc Cert.AdamWFf1Ideal.main_arg1)
      ∧ r.2.mem ((c.tc : Thread Cert.AdamWFf1Ideal.nD Cert.AdamWFf1Ideal.τ).loc Cert.AdamWFf1Ideal.main_arg2) = m ((c.tc : Thread Cert.AdamWFf1Ideal.nD Cert.AdamWFf1Ideal.τ).loc Cert.AdamWFf1Ideal.main_arg2)
      ∧ r.2.mem ((c.tc : Thread Cert.AdamWFf1Ideal.nD Cert.AdamWFf1Ideal.τ).loc Cert.AdamWFf1Ideal.main_arg3) = m ((c.tc : Thread Cert.AdamWFf1Ideal.nD Cert.AdamWFf1Ideal.τ).loc Cert.AdamWFf1Ideal.main_arg3))
      ∧ r.2.sem = fun _ => 0)

def quiescent_RefAdamWFf1Ideal [hRefAdamWFf1Ideal : Cert.RefAdamWFf1Ideal.Facts] : Prop :=
  ∀ (m : (ℓ : Loc Cert.RefAdamWFf1Ideal.nD Cert.RefAdamWFf1Ideal.τ Cert.RefAdamWFf1Ideal.sig) → Buf (Elt Ideal) ℓ) (g : Dev Cert.RefAdamWFf1Ideal.nD → PrngReg), Pre_RefAdamWFf1Ideal m →
    θ_run (Cert.RefAdamWFf1Ideal.defs (F := Ideal)) (onTc (τ := Cert.RefAdamWFf1Ideal.τ) (Cert.RefAdamWFf1Ideal.main (F := Ideal))) ⟨m, fun _ => 0, g⟩ (fun r => (∀ c : Dev Cert.RefAdamWFf1Ideal.nD,
      r.2.mem ((c.tc : Thread Cert.RefAdamWFf1Ideal.nD Cert.RefAdamWFf1Ideal.τ).loc Cert.RefAdamWFf1Ideal.main_arg0) = m ((c.tc : Thread Cert.RefAdamWFf1Ideal.nD Cert.RefAdamWFf1Ideal.τ).loc Cert.RefAdamWFf1Ideal.main_arg0)
      ∧ r.2.mem ((c.tc : Thread Cert.RefAdamWFf1Ideal.nD Cert.RefAdamWFf1Ideal.τ).loc Cert.RefAdamWFf1Ideal.main_arg1) = m ((c.tc : Thread Cert.RefAdamWFf1Ideal.nD Cert.RefAdamWFf1Ideal.τ).loc Cert.RefAdamWFf1Ideal.main_arg1)
      ∧ r.2.mem ((c.tc : Thread Cert.RefAdamWFf1Ideal.nD Cert.RefAdamWFf1Ideal.τ).loc Cert.RefAdamWFf1Ideal.main_arg2) = m ((c.tc : Thread Cert.RefAdamWFf1Ideal.nD Cert.RefAdamWFf1Ideal.τ).loc Cert.RefAdamWFf1Ideal.main_arg2)
      ∧ r.2.mem ((c.tc : Thread Cert.RefAdamWFf1Ideal.nD Cert.RefAdamWFf1Ideal.τ).loc Cert.RefAdamWFf1Ideal.main_arg3) = m ((c.tc : Thread Cert.RefAdamWFf1Ideal.nD Cert.RefAdamWFf1Ideal.τ).loc Cert.RefAdamWFf1Ideal.main_arg3))
      ∧ r.2.sem = fun _ => 0)

def quiescent_AdamWFf2 [hAdamWFf2 : Cert.AdamWFf2.Facts] : Prop :=
  ∀ (m : (ℓ : Loc Cert.AdamWFf2.nD Cert.AdamWFf2.τ Cert.AdamWFf2.sig) → Buf (Elt Bits) ℓ) (g : Dev Cert.AdamWFf2.nD → PrngReg), Pre_AdamWFf2 m →
    θ_run (Cert.AdamWFf2.defs (F := Bits)) (onTc (τ := Cert.AdamWFf2.τ) (Cert.AdamWFf2.main (F := Bits))) ⟨m, fun _ => 0, g⟩ (fun r => (∀ c : Dev Cert.AdamWFf2.nD,
      r.2.mem ((c.tc : Thread Cert.AdamWFf2.nD Cert.AdamWFf2.τ).loc Cert.AdamWFf2.main_arg0) = m ((c.tc : Thread Cert.AdamWFf2.nD Cert.AdamWFf2.τ).loc Cert.AdamWFf2.main_arg0)
      ∧ r.2.mem ((c.tc : Thread Cert.AdamWFf2.nD Cert.AdamWFf2.τ).loc Cert.AdamWFf2.main_arg1) = m ((c.tc : Thread Cert.AdamWFf2.nD Cert.AdamWFf2.τ).loc Cert.AdamWFf2.main_arg1)
      ∧ r.2.mem ((c.tc : Thread Cert.AdamWFf2.nD Cert.AdamWFf2.τ).loc Cert.AdamWFf2.main_arg2) = m ((c.tc : Thread Cert.AdamWFf2.nD Cert.AdamWFf2.τ).loc Cert.AdamWFf2.main_arg2)
      ∧ r.2.mem ((c.tc : Thread Cert.AdamWFf2.nD Cert.AdamWFf2.τ).loc Cert.AdamWFf2.main_arg3) = m ((c.tc : Thread Cert.AdamWFf2.nD Cert.AdamWFf2.τ).loc Cert.AdamWFf2.main_arg3))
      ∧ r.2.sem = fun _ => 0)

def quiescent_AdamWFf2Ideal [hAdamWFf2Ideal : Cert.AdamWFf2Ideal.Facts] : Prop :=
  ∀ (m : (ℓ : Loc Cert.AdamWFf2Ideal.nD Cert.AdamWFf2Ideal.τ Cert.AdamWFf2Ideal.sig) → Buf (Elt Ideal) ℓ) (g : Dev Cert.AdamWFf2Ideal.nD → PrngReg), Pre_AdamWFf2Ideal m →
    θ_run (Cert.AdamWFf2Ideal.defs (F := Ideal)) (onTc (τ := Cert.AdamWFf2Ideal.τ) (Cert.AdamWFf2Ideal.main (F := Ideal))) ⟨m, fun _ => 0, g⟩ (fun r => (∀ c : Dev Cert.AdamWFf2Ideal.nD,
      r.2.mem ((c.tc : Thread Cert.AdamWFf2Ideal.nD Cert.AdamWFf2Ideal.τ).loc Cert.AdamWFf2Ideal.main_arg0) = m ((c.tc : Thread Cert.AdamWFf2Ideal.nD Cert.AdamWFf2Ideal.τ).loc Cert.AdamWFf2Ideal.main_arg0)
      ∧ r.2.mem ((c.tc : Thread Cert.AdamWFf2Ideal.nD Cert.AdamWFf2Ideal.τ).loc Cert.AdamWFf2Ideal.main_arg1) = m ((c.tc : Thread Cert.AdamWFf2Ideal.nD Cert.AdamWFf2Ideal.τ).loc Cert.AdamWFf2Ideal.main_arg1)
      ∧ r.2.mem ((c.tc : Thread Cert.AdamWFf2Ideal.nD Cert.AdamWFf2Ideal.τ).loc Cert.AdamWFf2Ideal.main_arg2) = m ((c.tc : Thread Cert.AdamWFf2Ideal.nD Cert.AdamWFf2Ideal.τ).loc Cert.AdamWFf2Ideal.main_arg2)
      ∧ r.2.mem ((c.tc : Thread Cert.AdamWFf2Ideal.nD Cert.AdamWFf2Ideal.τ).loc Cert.AdamWFf2Ideal.main_arg3) = m ((c.tc : Thread Cert.AdamWFf2Ideal.nD Cert.AdamWFf2Ideal.τ).loc Cert.AdamWFf2Ideal.main_arg3))
      ∧ r.2.sem = fun _ => 0)

def quiescent_RefAdamWFf2Ideal [hRefAdamWFf2Ideal : Cert.RefAdamWFf2Ideal.Facts] : Prop :=
  ∀ (m : (ℓ : Loc Cert.RefAdamWFf2Ideal.nD Cert.RefAdamWFf2Ideal.τ Cert.RefAdamWFf2Ideal.sig) → Buf (Elt Ideal) ℓ) (g : Dev Cert.RefAdamWFf2Ideal.nD → PrngReg), Pre_RefAdamWFf2Ideal m →
    θ_run (Cert.RefAdamWFf2Ideal.defs (F := Ideal)) (onTc (τ := Cert.RefAdamWFf2Ideal.τ) (Cert.RefAdamWFf2Ideal.main (F := Ideal))) ⟨m, fun _ => 0, g⟩ (fun r => (∀ c : Dev Cert.RefAdamWFf2Ideal.nD,
      r.2.mem ((c.tc : Thread Cert.RefAdamWFf2Ideal.nD Cert.RefAdamWFf2Ideal.τ).loc Cert.RefAdamWFf2Ideal.main_arg0) = m ((c.tc : Thread Cert.RefAdamWFf2Ideal.nD Cert.RefAdamWFf2Ideal.τ).loc Cert.RefAdamWFf2Ideal.main_arg0)
      ∧ r.2.mem ((c.tc : Thread Cert.RefAdamWFf2Ideal.nD Cert.RefAdamWFf2Ideal.τ).loc Cert.RefAdamWFf2Ideal.main_arg1) = m ((c.tc : Thread Cert.RefAdamWFf2Ideal.nD Cert.RefAdamWFf2Ideal.τ).loc Cert.RefAdamWFf2Ideal.main_arg1)
      ∧ r.2.mem ((c.tc : Thread Cert.RefAdamWFf2Ideal.nD Cert.RefAdamWFf2Ideal.τ).loc Cert.RefAdamWFf2Ideal.main_arg2) = m ((c.tc : Thread Cert.RefAdamWFf2Ideal.nD Cert.RefAdamWFf2Ideal.τ).loc Cert.RefAdamWFf2Ideal.main_arg2)
      ∧ r.2.mem ((c.tc : Thread Cert.RefAdamWFf2Ideal.nD Cert.RefAdamWFf2Ideal.τ).loc Cert.RefAdamWFf2Ideal.main_arg3) = m ((c.tc : Thread Cert.RefAdamWFf2Ideal.nD Cert.RefAdamWFf2Ideal.τ).loc Cert.RefAdamWFf2Ideal.main_arg3))
      ∧ r.2.sem = fun _ => 0)

def quiescent_AdamWGate [hAdamWGate : Cert.AdamWGate.Facts] : Prop :=
  ∀ (m : (ℓ : Loc Cert.AdamWGate.nD Cert.AdamWGate.τ Cert.AdamWGate.sig) → Buf (Elt Bits) ℓ) (g : Dev Cert.AdamWGate.nD → PrngReg), Pre_AdamWGate m →
    θ_run (Cert.AdamWGate.defs (F := Bits)) (onTc (τ := Cert.AdamWGate.τ) (Cert.AdamWGate.main (F := Bits))) ⟨m, fun _ => 0, g⟩ (fun r => (∀ c : Dev Cert.AdamWGate.nD,
      r.2.mem ((c.tc : Thread Cert.AdamWGate.nD Cert.AdamWGate.τ).loc Cert.AdamWGate.main_arg0) = m ((c.tc : Thread Cert.AdamWGate.nD Cert.AdamWGate.τ).loc Cert.AdamWGate.main_arg0)
      ∧ r.2.mem ((c.tc : Thread Cert.AdamWGate.nD Cert.AdamWGate.τ).loc Cert.AdamWGate.main_arg1) = m ((c.tc : Thread Cert.AdamWGate.nD Cert.AdamWGate.τ).loc Cert.AdamWGate.main_arg1)
      ∧ r.2.mem ((c.tc : Thread Cert.AdamWGate.nD Cert.AdamWGate.τ).loc Cert.AdamWGate.main_arg2) = m ((c.tc : Thread Cert.AdamWGate.nD Cert.AdamWGate.τ).loc Cert.AdamWGate.main_arg2)
      ∧ r.2.mem ((c.tc : Thread Cert.AdamWGate.nD Cert.AdamWGate.τ).loc Cert.AdamWGate.main_arg3) = m ((c.tc : Thread Cert.AdamWGate.nD Cert.AdamWGate.τ).loc Cert.AdamWGate.main_arg3))
      ∧ r.2.sem = fun _ => 0)

def quiescent_AdamWGateIdeal [hAdamWGateIdeal : Cert.AdamWGateIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg), Pre_AdamWGateIdeal m →
    θ_run (Cert.AdamWGateIdeal.defs (F := Ideal)) (onTc (τ := Cert.AdamWGateIdeal.τ) (Cert.AdamWGateIdeal.main (F := Ideal))) ⟨m, fun _ => 0, g⟩ (fun r => (∀ c : Dev Cert.AdamWGateIdeal.nD,
      r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
      ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
      ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
      ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ r.2.sem = fun _ => 0)

def quiescent_RefAdamWGateIdeal [hRefAdamWGateIdeal : Cert.RefAdamWGateIdeal.Facts] : Prop :=
  ∀ (m : (ℓ : Loc Cert.RefAdamWGateIdeal.nD Cert.RefAdamWGateIdeal.τ Cert.RefAdamWGateIdeal.sig) → Buf (Elt Ideal) ℓ) (g : Dev Cert.RefAdamWGateIdeal.nD → PrngReg), Pre_RefAdamWGateIdeal m →
    θ_run (Cert.RefAdamWGateIdeal.defs (F := Ideal)) (onTc (τ := Cert.RefAdamWGateIdeal.τ) (Cert.RefAdamWGateIdeal.main (F := Ideal))) ⟨m, fun _ => 0, g⟩ (fun r => (∀ c : Dev Cert.RefAdamWGateIdeal.nD,
      r.2.mem ((c.tc : Thread Cert.RefAdamWGateIdeal.nD Cert.RefAdamWGateIdeal.τ).loc Cert.RefAdamWGateIdeal.main_arg0) = m ((c.tc : Thread Cert.RefAdamWGateIdeal.nD Cert.RefAdamWGateIdeal.τ).loc Cert.RefAdamWGateIdeal.main_arg0)
      ∧ r.2.mem ((c.tc : Thread Cert.RefAdamWGateIdeal.nD Cert.RefAdamWGateIdeal.τ).loc Cert.RefAdamWGateIdeal.main_arg1) = m ((c.tc : Thread Cert.RefAdamWGateIdeal.nD Cert.RefAdamWGateIdeal.τ).loc Cert.RefAdamWGateIdeal.main_arg1)
      ∧ r.2.mem ((c.tc : Thread Cert.RefAdamWGateIdeal.nD Cert.RefAdamWGateIdeal.τ).loc Cert.RefAdamWGateIdeal.main_arg2) = m ((c.tc : Thread Cert.RefAdamWGateIdeal.nD Cert.RefAdamWGateIdeal.τ).loc Cert.RefAdamWGateIdeal.main_arg2)
      ∧ r.2.mem ((c.tc : Thread Cert.RefAdamWGateIdeal.nD Cert.RefAdamWGateIdeal.τ).loc Cert.RefAdamWGateIdeal.main_arg3) = m ((c.tc : Thread Cert.RefAdamWGateIdeal.nD Cert.RefAdamWGateIdeal.τ).loc Cert.RefAdamWGateIdeal.main_arg3))
      ∧ r.2.sem = fun _ => 0)

def quiescent_AdamWProj [hAdamWProj : Cert.AdamWProj.Facts] : Prop :=
  ∀ (m : (ℓ : Loc Cert.AdamWProj.nD Cert.AdamWProj.τ Cert.AdamWProj.sig) → Buf (Elt Bits) ℓ) (g : Dev Cert.AdamWProj.nD → PrngReg), Pre_AdamWProj m →
    θ_run (Cert.AdamWProj.defs (F := Bits)) (onTc (τ := Cert.AdamWProj.τ) (Cert.AdamWProj.main (F := Bits))) ⟨m, fun _ => 0, g⟩ (fun r => (∀ c : Dev Cert.AdamWProj.nD,
      r.2.mem ((c.tc : Thread Cert.AdamWProj.nD Cert.AdamWProj.τ).loc Cert.AdamWProj.main_arg0) = m ((c.tc : Thread Cert.AdamWProj.nD Cert.AdamWProj.τ).loc Cert.AdamWProj.main_arg0)
      ∧ r.2.mem ((c.tc : Thread Cert.AdamWProj.nD Cert.AdamWProj.τ).loc Cert.AdamWProj.main_arg1) = m ((c.tc : Thread Cert.AdamWProj.nD Cert.AdamWProj.τ).loc Cert.AdamWProj.main_arg1)
      ∧ r.2.mem ((c.tc : Thread Cert.AdamWProj.nD Cert.AdamWProj.τ).loc Cert.AdamWProj.main_arg2) = m ((c.tc : Thread Cert.AdamWProj.nD Cert.AdamWProj.τ).loc Cert.AdamWProj.main_arg2)
      ∧ r.2.mem ((c.tc : Thread Cert.AdamWProj.nD Cert.AdamWProj.τ).loc Cert.AdamWProj.main_arg3) = m ((c.tc : Thread Cert.AdamWProj.nD Cert.AdamWProj.τ).loc Cert.AdamWProj.main_arg3))
      ∧ r.2.sem = fun _ => 0)

def quiescent_AdamWProjIdeal [hAdamWProjIdeal : Cert.AdamWProjIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg), Pre_AdamWProjIdeal m →
    θ_run (Cert.AdamWProjIdeal.defs (F := Ideal)) (onTc (τ := Cert.AdamWProjIdeal.τ) (Cert.AdamWProjIdeal.main (F := Ideal))) ⟨m, fun _ => 0, g⟩ (fun r => (∀ c : Dev Cert.AdamWProjIdeal.nD,
      r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
      ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
      ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
      ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3))
      ∧ r.2.sem = fun _ => 0)

def quiescent_RefAdamWProjIdeal [hRefAdamWProjIdeal : Cert.RefAdamWProjIdeal.Facts] : Prop :=
  ∀ (m : (ℓ : Loc Cert.RefAdamWProjIdeal.nD Cert.RefAdamWProjIdeal.τ Cert.RefAdamWProjIdeal.sig) → Buf (Elt Ideal) ℓ) (g : Dev Cert.RefAdamWProjIdeal.nD → PrngReg), Pre_RefAdamWProjIdeal m →
    θ_run (Cert.RefAdamWProjIdeal.defs (F := Ideal)) (onTc (τ := Cert.RefAdamWProjIdeal.τ) (Cert.RefAdamWProjIdeal.main (F := Ideal))) ⟨m, fun _ => 0, g⟩ (fun r => (∀ c : Dev Cert.RefAdamWProjIdeal.nD,
      r.2.mem ((c.tc : Thread Cert.RefAdamWProjIdeal.nD Cert.RefAdamWProjIdeal.τ).loc Cert.RefAdamWProjIdeal.main_arg0) = m ((c.tc : Thread Cert.RefAdamWProjIdeal.nD Cert.RefAdamWProjIdeal.τ).loc Cert.RefAdamWProjIdeal.main_arg0)
      ∧ r.2.mem ((c.tc : Thread Cert.RefAdamWProjIdeal.nD Cert.RefAdamWProjIdeal.τ).loc Cert.RefAdamWProjIdeal.main_arg1) = m ((c.tc : Thread Cert.RefAdamWProjIdeal.nD Cert.RefAdamWProjIdeal.τ).loc Cert.RefAdamWProjIdeal.main_arg1)
      ∧ r.2.mem ((c.tc : Thread Cert.RefAdamWProjIdeal.nD Cert.RefAdamWProjIdeal.τ).loc Cert.RefAdamWProjIdeal.main_arg2) = m ((c.tc : Thread Cert.RefAdamWProjIdeal.nD Cert.RefAdamWProjIdeal.τ).loc Cert.RefAdamWProjIdeal.main_arg2)
      ∧ r.2.mem ((c.tc : Thread Cert.RefAdamWProjIdeal.nD Cert.RefAdamWProjIdeal.τ).loc Cert.RefAdamWProjIdeal.main_arg3) = m ((c.tc : Thread Cert.RefAdamWProjIdeal.nD Cert.RefAdamWProjIdeal.τ).loc Cert.RefAdamWProjIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_RefAdamWInIdeal [hRefAdamWInIdeal : Cert.RefAdamWInIdeal.Facts] : Prop :=
  ∀ (m : (ℓ : Loc Cert.RefAdamWInIdeal.nD Cert.RefAdamWInIdeal.τ Cert.RefAdamWInIdeal.sig) → Buf (Elt Ideal) ℓ) (g : Dev Cert.RefAdamWInIdeal.nD → PrngReg), Pre_RefAdamWInIdeal m →
    θ_run (Cert.RefAdamWInIdeal.defs (F := Ideal)) (onTc (τ := Cert.RefAdamWInIdeal.τ) (Cert.RefAdamWInIdeal.main (F := Ideal))) ⟨m, fun _ => 0, g⟩ (fun r => (∀ c : Dev Cert.RefAdamWInIdeal.nD,
      r.2.mem ((c.tc : Thread Cert.RefAdamWInIdeal.nD Cert.RefAdamWInIdeal.τ).loc Cert.RefAdamWInIdeal.main_arg0) = m ((c.tc : Thread Cert.RefAdamWInIdeal.nD Cert.RefAdamWInIdeal.τ).loc Cert.RefAdamWInIdeal.main_arg0)
      ∧ r.2.mem ((c.tc : Thread Cert.RefAdamWInIdeal.nD Cert.RefAdamWInIdeal.τ).loc Cert.RefAdamWInIdeal.main_arg1) = m ((c.tc : Thread Cert.RefAdamWInIdeal.nD Cert.RefAdamWInIdeal.τ).loc Cert.RefAdamWInIdeal.main_arg1)
      ∧ r.2.mem ((c.tc : Thread Cert.RefAdamWInIdeal.nD Cert.RefAdamWInIdeal.τ).loc Cert.RefAdamWInIdeal.main_arg2) = m ((c.tc : Thread Cert.RefAdamWInIdeal.nD Cert.RefAdamWInIdeal.τ).loc Cert.RefAdamWInIdeal.main_arg2)
      ∧ r.2.mem ((c.tc : Thread Cert.RefAdamWInIdeal.nD Cert.RefAdamWInIdeal.τ).loc Cert.RefAdamWInIdeal.main_arg3) = m ((c.tc : Thread Cert.RefAdamWInIdeal.nD Cert.RefAdamWInIdeal.τ).loc Cert.RefAdamWInIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v15_2)) (v4 : (c : Dev Cert.KernelIdeal.nD) → Buf (Elt Ideal) ((c.tc : Thread Cert.KernelIdeal.nD Cert.KernelIdeal.τ).loc Cert.KernelIdeal.main_v15_3)) (v5 : (c : Dev Cert.KernelIdeal.nD) → Buf (Elt Ideal) ((c.tc : Thread Cert.KernelIdeal.nD Cert.KernelIdeal.τ).loc Cert.KernelIdeal.main_v19)) (v6 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_v15_3) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_v21) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_v83) = v5 c
          ∧ r.2.mem ((c.tc : Thread Cert.ReferenceIdeal.nD Cert.ReferenceIdeal.τ).loc Cert.ReferenceIdeal.main_v60) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DFfHidden_DFfHiddenIdeal : Prop :=
  True

def algebraic_DFfHiddenIdeal_RefDFfHiddenIdeal [hDFfHiddenIdeal : Cert.DFfHiddenIdeal.Facts] [hRefDFfHiddenIdeal : Cert.RefDFfHiddenIdeal.Facts] : Prop :=
  ∀ (m : (ℓ : Loc Cert.DFfHiddenIdeal.nD Cert.DFfHiddenIdeal.τ Cert.DFfHiddenIdeal.sig) → Buf (Elt Ideal) ℓ) (g : Dev Cert.DFfHiddenIdeal.nD → PrngReg)
    (m' : (ℓ : Loc Cert.RefDFfHiddenIdeal.nD Cert.RefDFfHiddenIdeal.τ Cert.RefDFfHiddenIdeal.sig) → Buf (Elt Ideal) ℓ) (g' : Dev Cert.RefDFfHiddenIdeal.nD → PrngReg), Pre_DFfHiddenIdeal m →
    (∀ c : Dev Cert.DFfHiddenIdeal.nD,
      m' ((c.tc : Thread Cert.RefDFfHiddenIdeal.nD Cert.RefDFfHiddenIdeal.τ).loc Cert.RefDFfHiddenIdeal.main_arg0) = m ((c.tc : Thread Cert.DFfHiddenIdeal.nD Cert.DFfHiddenIdeal.τ).loc Cert.DFfHiddenIdeal.main_arg0)
      ∧ m' ((c.tc : Thread Cert.RefDFfHiddenIdeal.nD Cert.RefDFfHiddenIdeal.τ).loc Cert.RefDFfHiddenIdeal.main_arg1) = m ((c.tc : Thread Cert.DFfHiddenIdeal.nD Cert.DFfHiddenIdeal.τ).loc Cert.DFfHiddenIdeal.main_arg1)
      ∧ m' ((c.tc : Thread Cert.RefDFfHiddenIdeal.nD Cert.RefDFfHiddenIdeal.τ).loc Cert.RefDFfHiddenIdeal.main_arg2) = m ((c.tc : Thread Cert.DFfHiddenIdeal.nD Cert.DFfHiddenIdeal.τ).loc Cert.DFfHiddenIdeal.main_arg2)
      ∧ m' ((c.tc : Thread Cert.RefDFfHiddenIdeal.nD Cert.RefDFfHiddenIdeal.τ).loc Cert.RefDFfHiddenIdeal.main_arg3) = m ((c.tc : Thread Cert.DFfHiddenIdeal.nD Cert.DFfHiddenIdeal.τ).loc Cert.DFfHiddenIdeal.main_arg3)
      ∧ m' ((c.tc : Thread Cert.RefDFfHiddenIdeal.nD Cert.RefDFfHiddenIdeal.τ).loc Cert.RefDFfHiddenIdeal.main_arg4) = m ((c.tc : Thread Cert.DFfHiddenIdeal.nD Cert.DFfHiddenIdeal.τ).loc Cert.DFfHiddenIdeal.main_arg4)) →
    ∃ (v0 : (c : Dev Cert.DFfHiddenIdeal.nD) → Buf (Elt Ideal) ((c.tc : Thread Cert.DFfHiddenIdeal.nD Cert.DFfHiddenIdeal.τ).loc Cert.DFfHiddenIdeal.main_v17)),
      θ_run (Cert.DFfHiddenIdeal.defs (F := Ideal)) (onTc (τ := Cert.DFfHiddenIdeal.τ) (Cert.DFfHiddenIdeal.main (F := Ideal))) ⟨m, fun _ => 0, g⟩ (fun r => ∀ c : Dev Cert.DFfHiddenIdeal.nD,
          r.2.mem ((c.tc : Thread Cert.DFfHiddenIdeal.nD Cert.DFfHiddenIdeal.τ).loc Cert.DFfHiddenIdeal.main_v17) = v0 c
          ∧ r.2.mem ((c.tc : Thread Cert.DFfHiddenIdeal.nD Cert.DFfHiddenIdeal.τ).loc Cert.DFfHiddenIdeal.main_arg0) = m ((c.tc : Thread Cert.DFfHiddenIdeal.nD Cert.DFfHiddenIdeal.τ).loc Cert.DFfHiddenIdeal.main_arg0)
          ∧ r.2.mem ((c.tc : Thread Cert.DFfHiddenIdeal.nD Cert.DFfHiddenIdeal.τ).loc Cert.DFfHiddenIdeal.main_arg1) = m ((c.tc : Thread Cert.DFfHiddenIdeal.nD Cert.DFfHiddenIdeal.τ).loc Cert.DFfHiddenIdeal.main_arg1)
          ∧ r.2.mem ((c.tc : Thread Cert.DFfHiddenIdeal.nD Cert.DFfHiddenIdeal.τ).loc Cert.DFfHiddenIdeal.main_arg2) = m ((c.tc : Thread Cert.DFfHiddenIdeal.nD Cert.DFfHiddenIdeal.τ).loc Cert.DFfHiddenIdeal.main_arg2)
          ∧ r.2.mem ((c.tc : Thread Cert.DFfHiddenIdeal.nD Cert.DFfHiddenIdeal.τ).loc Cert.DFfHiddenIdeal.main_arg3) = m ((c.tc : Thread Cert.DFfHiddenIdeal.nD Cert.DFfHiddenIdeal.τ).loc Cert.DFfHiddenIdeal.main_arg3)
          ∧ r.2.mem ((c.tc : Thread Cert.DFfHiddenIdeal.nD Cert.DFfHiddenIdeal.τ).loc Cert.DFfHiddenIdeal.main_arg4) = m ((c.tc : Thread Cert.DFfHiddenIdeal.nD Cert.DFfHiddenIdeal.τ).loc Cert.DFfHiddenIdeal.main_arg4))
      ∧ θ_run (Cert.RefDFfHiddenIdeal.defs (F := Ideal)) (onTc (τ := Cert.RefDFfHiddenIdeal.τ) (Cert.RefDFfHiddenIdeal.main (F := Ideal))) ⟨m', fun _ => 0, g'⟩ (fun r => ∀ c : Dev Cert.RefDFfHiddenIdeal.nD,
          r.2.mem ((c.tc : Thread Cert.RefDFfHiddenIdeal.nD Cert.RefDFfHiddenIdeal.τ).loc Cert.RefDFfHiddenIdeal.main_v25) = v0 c
          ∧ r.2.mem ((c.tc : Thread Cert.RefDFfHiddenIdeal.nD Cert.RefDFfHiddenIdeal.τ).loc Cert.RefDFfHiddenIdeal.main_arg0) = m' ((c.tc : Thread Cert.RefDFfHiddenIdeal.nD Cert.RefDFfHiddenIdeal.τ).loc Cert.RefDFfHiddenIdeal.main_arg0)
          ∧ r.2.mem ((c.tc : Thread Cert.RefDFfHiddenIdeal.nD Cert.RefDFfHiddenIdeal.τ).loc Cert.RefDFfHiddenIdeal.main_arg1) = m' ((c.tc : Thread Cert.RefDFfHiddenIdeal.nD Cert.RefDFfHiddenIdeal.τ).loc Cert.RefDFfHiddenIdeal.main_arg1)
          ∧ r.2.mem ((c.tc : Thread Cert.RefDFfHiddenIdeal.nD Cert.RefDFfHiddenIdeal.τ).loc Cert.RefDFfHiddenIdeal.main_arg2) = m' ((c.tc : Thread Cert.RefDFfHiddenIdeal.nD Cert.RefDFfHiddenIdeal.τ).loc Cert.RefDFfHiddenIdeal.main_arg2)
          ∧ r.2.mem ((c.tc : Thread Cert.RefDFfHiddenIdeal.nD Cert.RefDFfHiddenIdeal.τ).loc Cert.RefDFfHiddenIdeal.main_arg3) = m' ((c.tc : Thread Cert.RefDFfHiddenIdeal.nD Cert.RefDFfHiddenIdeal.τ).loc Cert.RefDFfHiddenIdeal.main_arg3)
          ∧ r.2.mem ((c.tc : Thread Cert.RefDFfHiddenIdeal.nD Cert.RefDFfHiddenIdeal.τ).loc Cert.RefDFfHiddenIdeal.main_arg4) = m' ((c.tc : Thread Cert.RefDFfHiddenIdeal.nD Cert.RefDFfHiddenIdeal.τ).loc Cert.RefDFfHiddenIdeal.main_arg4))

def preserves_DWFf1_DWFf1Ideal : Prop :=
  True

def algebraic_DWFf1Ideal_RefDWFf1Ideal [hDWFf1Ideal : Cert.DWFf1Ideal.Facts] [hRefDWFf1Ideal : Cert.RefDWFf1Ideal.Facts] : Prop :=
  ∀ (m : (ℓ : Loc Cert.DWFf1Ideal.nD Cert.DWFf1Ideal.τ Cert.DWFf1Ideal.sig) → Buf (Elt Ideal) ℓ) (g : Dev Cert.DWFf1Ideal.nD → PrngReg)
    (m' : (ℓ : Loc Cert.RefDWFf1Ideal.nD Cert.RefDWFf1Ideal.τ Cert.RefDWFf1Ideal.sig) → Buf (Elt Ideal) ℓ) (g' : Dev Cert.RefDWFf1Ideal.nD → PrngReg), Pre_DWFf1Ideal m →
    (∀ c : Dev Cert.DWFf1Ideal.nD,
      m' ((c.tc : Thread Cert.RefDWFf1Ideal.nD Cert.RefDWFf1Ideal.τ).loc Cert.RefDWFf1Ideal.main_arg0) = m ((c.tc : Thread Cert.DWFf1Ideal.nD Cert.DWFf1Ideal.τ).loc Cert.DWFf1Ideal.main_arg0)
      ∧ m' ((c.tc : Thread Cert.RefDWFf1Ideal.nD Cert.RefDWFf1Ideal.τ).loc Cert.RefDWFf1Ideal.main_arg1) = m ((c.tc : Thread Cert.DWFf1Ideal.nD Cert.DWFf1Ideal.τ).loc Cert.DWFf1Ideal.main_arg1)
      ∧ m' ((c.tc : Thread Cert.RefDWFf1Ideal.nD Cert.RefDWFf1Ideal.τ).loc Cert.RefDWFf1Ideal.main_arg2) = m ((c.tc : Thread Cert.DWFf1Ideal.nD Cert.DWFf1Ideal.τ).loc Cert.DWFf1Ideal.main_arg2)) →
    ∃ (v0 : (c : Dev Cert.DWFf1Ideal.nD) → Buf (Elt Ideal) ((c.tc : Thread Cert.DWFf1Ideal.nD Cert.DWFf1Ideal.τ).loc Cert.DWFf1Ideal.main_v14)),
      θ_run (Cert.DWFf1Ideal.defs (F := Ideal)) (onTc (τ := Cert.DWFf1Ideal.τ) (Cert.DWFf1Ideal.main (F := Ideal))) ⟨m, fun _ => 0, g⟩ (fun r => ∀ c : Dev Cert.DWFf1Ideal.nD,
          r.2.mem ((c.tc : Thread Cert.DWFf1Ideal.nD Cert.DWFf1Ideal.τ).loc Cert.DWFf1Ideal.main_v14) = v0 c
          ∧ r.2.mem ((c.tc : Thread Cert.DWFf1Ideal.nD Cert.DWFf1Ideal.τ).loc Cert.DWFf1Ideal.main_arg0) = m ((c.tc : Thread Cert.DWFf1Ideal.nD Cert.DWFf1Ideal.τ).loc Cert.DWFf1Ideal.main_arg0)
          ∧ r.2.mem ((c.tc : Thread Cert.DWFf1Ideal.nD Cert.DWFf1Ideal.τ).loc Cert.DWFf1Ideal.main_arg1) = m ((c.tc : Thread Cert.DWFf1Ideal.nD Cert.DWFf1Ideal.τ).loc Cert.DWFf1Ideal.main_arg1)
          ∧ r.2.mem ((c.tc : Thread Cert.DWFf1Ideal.nD Cert.DWFf1Ideal.τ).loc Cert.DWFf1Ideal.main_arg2) = m ((c.tc : Thread Cert.DWFf1Ideal.nD Cert.DWFf1Ideal.τ).loc Cert.DWFf1Ideal.main_arg2))
      ∧ θ_run (Cert.RefDWFf1Ideal.defs (F := Ideal)) (onTc (τ := Cert.RefDWFf1Ideal.τ) (Cert.RefDWFf1Ideal.main (F := Ideal))) ⟨m', fun _ => 0, g'⟩ (fun r => ∀ c : Dev Cert.RefDWFf1Ideal.nD,
          r.2.mem ((c.tc : Thread Cert.RefDWFf1Ideal.nD Cert.RefDWFf1Ideal.τ).loc Cert.RefDWFf1Ideal.main_v16) = v0 c
          ∧ r.2.mem ((c.tc : Thread Cert.RefDWFf1Ideal.nD Cert.RefDWFf1Ideal.τ).loc Cert.RefDWFf1Ideal.main_arg0) = m' ((c.tc : Thread Cert.RefDWFf1Ideal.nD Cert.RefDWFf1Ideal.τ).loc Cert.RefDWFf1Ideal.main_arg0)
          ∧ r.2.mem ((c.tc : Thread Cert.RefDWFf1Ideal.nD Cert.RefDWFf1Ideal.τ).loc Cert.RefDWFf1Ideal.main_arg1) = m' ((c.tc : Thread Cert.RefDWFf1Ideal.nD Cert.RefDWFf1Ideal.τ).loc Cert.RefDWFf1Ideal.main_arg1)
          ∧ r.2.mem ((c.tc : Thread Cert.RefDWFf1Ideal.nD Cert.RefDWFf1Ideal.τ).loc Cert.RefDWFf1Ideal.main_arg2) = m' ((c.tc : Thread Cert.RefDWFf1Ideal.nD Cert.RefDWFf1Ideal.τ).loc Cert.RefDWFf1Ideal.main_arg2))

def preserves_DH1_DH1Ideal : Prop :=
  True

def algebraic_DH1Ideal_RefDH1Ideal [hDH1Ideal : Cert.DH1Ideal.Facts] [hRefDH1Ideal : Cert.RefDH1Ideal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.RefDH1Ideal.nD Cert.RefDH1Ideal.τ Cert.RefDH1Ideal.sig) → Buf (Elt Ideal) ℓ) (g' : Dev Cert.RefDH1Ideal.nD → PrngReg), Pre_DH1Ideal m →
    (∀ c : Dev Cert.DH1Ideal.nD,
      m' ((c.tc : Thread Cert.RefDH1Ideal.nD Cert.RefDH1Ideal.τ).loc Cert.RefDH1Ideal.main_arg0) = m ((c.tc : Thread Cert.DH1Ideal.nD Cert.DH1Ideal.τ).loc Cert.DH1Ideal.main_arg0)
      ∧ m' ((c.tc : Thread Cert.RefDH1Ideal.nD Cert.RefDH1Ideal.τ).loc Cert.RefDH1Ideal.main_arg1) = m ((c.tc : Thread Cert.DH1Ideal.nD Cert.DH1Ideal.τ).loc Cert.DH1Ideal.main_arg1)
      ∧ m' ((c.tc : Thread Cert.RefDH1Ideal.nD Cert.RefDH1Ideal.τ).loc Cert.RefDH1Ideal.main_arg2) = m ((c.tc : Thread Cert.DH1Ideal.nD Cert.DH1Ideal.τ).loc Cert.DH1Ideal.main_arg2)
      ∧ m' ((c.tc : Thread Cert.RefDH1Ideal.nD Cert.RefDH1Ideal.τ).loc Cert.RefDH1Ideal.main_arg3) = m ((c.tc : Thread Cert.DH1Ideal.nD Cert.DH1Ideal.τ).loc Cert.DH1Ideal.main_arg3)
      ∧ m' ((c.tc : Thread Cert.RefDH1Ideal.nD Cert.RefDH1Ideal.τ).loc Cert.RefDH1Ideal.main_arg4) = m ((c.tc : Thread Cert.DH1Ideal.nD Cert.DH1Ideal.τ).loc Cert.DH1Ideal.main_arg4)) →
    ∃ (v0 : (c : Dev Cert.DH1Ideal.nD) → Buf (Elt Ideal) ((c.tc : Thread Cert.DH1Ideal.nD Cert.DH1Ideal.τ).loc Cert.DH1Ideal.main_v2_0)) (v1 : (c : Dev Cert.DH1Ideal.nD) → Buf (Elt Ideal) ((c.tc : Thread Cert.DH1Ideal.nD Cert.DH1Ideal.τ).loc Cert.DH1Ideal.main_v2_1)) (v2 : (c : Dev Cert.DH1Ideal.nD) → Buf (Elt Ideal) ((c.tc : Thread Cert.DH1Ideal.nD Cert.DH1Ideal.τ).loc Cert.DH1Ideal.main_v4)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v2_0) = v0 c
          ∧ r.2.mem ((c.tc : Thread Cert.DH1Ideal.nD Cert.DH1Ideal.τ).loc Cert.DH1Ideal.main_v2_1) = v1 c
          ∧ r.2.mem ((c.tc : Thread Cert.DH1Ideal.nD Cert.DH1Ideal.τ).loc Cert.DH1Ideal.main_v4) = v2 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ θ_run (Cert.RefDH1Ideal.defs (F := Ideal)) (onTc (τ := Cert.RefDH1Ideal.τ) (Cert.RefDH1Ideal.main (F := Ideal))) ⟨m', fun _ => 0, g'⟩ (fun r => ∀ c : Dev Cert.RefDH1Ideal.nD,
          r.2.mem ((c.tc : Thread Cert.RefDH1Ideal.nD Cert.RefDH1Ideal.τ).loc Cert.RefDH1Ideal.main_v36) = v0 c
          ∧ r.2.mem ((c.tc : Thread Cert.RefDH1Ideal.nD Cert.RefDH1Ideal.τ).loc Cert.RefDH1Ideal.main_v37) = v1 c
          ∧ r.2.mem ((c.tc : Thread Cert.RefDH1Ideal.nD Cert.RefDH1Ideal.τ).loc Cert.RefDH1Ideal.main_v19) = v2 c
          ∧ r.2.mem ((c.tc : Thread Cert.RefDH1Ideal.nD Cert.RefDH1Ideal.τ).loc Cert.RefDH1Ideal.main_arg0) = m' ((c.tc : Thread Cert.RefDH1Ideal.nD Cert.RefDH1Ideal.τ).loc Cert.RefDH1Ideal.main_arg0)
          ∧ r.2.mem ((c.tc : Thread Cert.RefDH1Ideal.nD Cert.RefDH1Ideal.τ).loc Cert.RefDH1Ideal.main_arg1) = m' ((c.tc : Thread Cert.RefDH1Ideal.nD Cert.RefDH1Ideal.τ).loc Cert.RefDH1Ideal.main_arg1)
          ∧ r.2.mem ((c.tc : Thread Cert.RefDH1Ideal.nD Cert.RefDH1Ideal.τ).loc Cert.RefDH1Ideal.main_arg2) = m' ((c.tc : Thread Cert.RefDH1Ideal.nD Cert.RefDH1Ideal.τ).loc Cert.RefDH1Ideal.main_arg2)
          ∧ r.2.mem ((c.tc : Thread Cert.RefDH1Ideal.nD Cert.RefDH1Ideal.τ).loc Cert.RefDH1Ideal.main_arg3) = m' ((c.tc : Thread Cert.RefDH1Ideal.nD Cert.RefDH1Ideal.τ).loc Cert.RefDH1Ideal.main_arg3)
          ∧ r.2.mem ((c.tc : Thread Cert.RefDH1Ideal.nD Cert.RefDH1Ideal.τ).loc Cert.RefDH1Ideal.main_arg4) = m' ((c.tc : Thread Cert.RefDH1Ideal.nD Cert.RefDH1Ideal.τ).loc Cert.RefDH1Ideal.main_arg4))

def preserves_Ff1_Ff1Ideal : Prop :=
  True

def algebraic_Ff1Ideal_RefFf1Ideal [hFf1Ideal : Cert.Ff1Ideal.Facts] [hRefFf1Ideal : Cert.RefFf1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.RefFf1Ideal.nD Cert.RefFf1Ideal.τ Cert.RefFf1Ideal.sig) → Buf (Elt Ideal) ℓ) (g' : Dev Cert.RefFf1Ideal.nD → PrngReg), Pre_Ff1Ideal m →
    (∀ c : Dev Cert.Ff1Ideal.nD,
      m' ((c.tc : Thread Cert.RefFf1Ideal.nD Cert.RefFf1Ideal.τ).loc Cert.RefFf1Ideal.main_arg0) = m ((c.tc : Thread Cert.Ff1Ideal.nD Cert.Ff1Ideal.τ).loc Cert.Ff1Ideal.main_arg0)
      ∧ m' ((c.tc : Thread Cert.RefFf1Ideal.nD Cert.RefFf1Ideal.τ).loc Cert.RefFf1Ideal.main_arg1) = m ((c.tc : Thread Cert.Ff1Ideal.nD Cert.Ff1Ideal.τ).loc Cert.Ff1Ideal.main_arg1)
      ∧ m' ((c.tc : Thread Cert.RefFf1Ideal.nD Cert.RefFf1Ideal.τ).loc Cert.RefFf1Ideal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v14_0)) (v1 : (c : Dev Cert.Ff1Ideal.nD) → Buf (Elt Ideal) ((c.tc : Thread Cert.Ff1Ideal.nD Cert.Ff1Ideal.τ).loc Cert.Ff1Ideal.main_v14_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v14_0) = v0 c
          ∧ r.2.mem ((c.tc : Thread Cert.Ff1Ideal.nD Cert.Ff1Ideal.τ).loc Cert.Ff1Ideal.main_v14_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.RefFf1Ideal.defs (F := Ideal)) (onTc (τ := Cert.RefFf1Ideal.τ) (Cert.RefFf1Ideal.main (F := Ideal))) ⟨m', fun _ => 0, g'⟩ (fun r => ∀ c : Dev Cert.RefFf1Ideal.nD,
          r.2.mem ((c.tc : Thread Cert.RefFf1Ideal.nD Cert.RefFf1Ideal.τ).loc Cert.RefFf1Ideal.main_v14) = v0 c
          ∧ r.2.mem ((c.tc : Thread Cert.RefFf1Ideal.nD Cert.RefFf1Ideal.τ).loc Cert.RefFf1Ideal.main_v17) = v1 c
          ∧ r.2.mem ((c.tc : Thread Cert.RefFf1Ideal.nD Cert.RefFf1Ideal.τ).loc Cert.RefFf1Ideal.main_arg0) = m' ((c.tc : Thread Cert.RefFf1Ideal.nD Cert.RefFf1Ideal.τ).loc Cert.RefFf1Ideal.main_arg0)
          ∧ r.2.mem ((c.tc : Thread Cert.RefFf1Ideal.nD Cert.RefFf1Ideal.τ).loc Cert.RefFf1Ideal.main_arg1) = m' ((c.tc : Thread Cert.RefFf1Ideal.nD Cert.RefFf1Ideal.τ).loc Cert.RefFf1Ideal.main_arg1)
          ∧ r.2.mem ((c.tc : Thread Cert.RefFf1Ideal.nD Cert.RefFf1Ideal.τ).loc Cert.RefFf1Ideal.main_arg2) = m' ((c.tc : Thread Cert.RefFf1Ideal.nD Cert.RefFf1Ideal.τ).loc Cert.RefFf1Ideal.main_arg2))

def preserves_Ff2_Ff2Ideal : Prop :=
  True

def algebraic_Ff2Ideal_RefFf2Ideal [hFf2Ideal : Cert.Ff2Ideal.Facts] [hRefFf2Ideal : Cert.RefFf2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.RefFf2Ideal.nD Cert.RefFf2Ideal.τ Cert.RefFf2Ideal.sig) → Buf (Elt Ideal) ℓ) (g' : Dev Cert.RefFf2Ideal.nD → PrngReg), Pre_Ff2Ideal m →
    (∀ c : Dev Cert.Ff2Ideal.nD,
      m' ((c.tc : Thread Cert.RefFf2Ideal.nD Cert.RefFf2Ideal.τ).loc Cert.RefFf2Ideal.main_arg0) = m ((c.tc : Thread Cert.Ff2Ideal.nD Cert.Ff2Ideal.τ).loc Cert.Ff2Ideal.main_arg0)
      ∧ m' ((c.tc : Thread Cert.RefFf2Ideal.nD Cert.RefFf2Ideal.τ).loc Cert.RefFf2Ideal.main_arg1) = m ((c.tc : Thread Cert.Ff2Ideal.nD Cert.Ff2Ideal.τ).loc Cert.Ff2Ideal.main_arg1)
      ∧ m' ((c.tc : Thread Cert.RefFf2Ideal.nD Cert.RefFf2Ideal.τ).loc Cert.RefFf2Ideal.main_arg2) = m ((c.tc : Thread Cert.Ff2Ideal.nD Cert.Ff2Ideal.τ).loc Cert.Ff2Ideal.main_arg2)
      ∧ m' ((c.tc : Thread Cert.RefFf2Ideal.nD Cert.RefFf2Ideal.τ).loc Cert.RefFf2Ideal.main_arg3) = m ((c.tc : Thread Cert.Ff2Ideal.nD Cert.Ff2Ideal.τ).loc Cert.Ff2Ideal.main_arg3)
      ∧ m' ((c.tc : Thread Cert.RefFf2Ideal.nD Cert.RefFf2Ideal.τ).loc Cert.RefFf2Ideal.main_arg4) = m ((c.tc : Thread Cert.Ff2Ideal.nD Cert.Ff2Ideal.τ).loc Cert.Ff2Ideal.main_arg4)) →
    ∃ (v0 : (c : Dev Cert.Ff2Ideal.nD) → Buf (Elt Ideal) ((c.tc : Thread Cert.Ff2Ideal.nD Cert.Ff2Ideal.τ).loc Cert.Ff2Ideal.main_v17_0)) (v1 : (c : Dev Cert.Ff2Ideal.nD) → Buf (Elt Ideal) ((c.tc : Thread Cert.Ff2Ideal.nD Cert.Ff2Ideal.τ).loc Cert.Ff2Ideal.main_v17_1)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v17_0) = v0 c
          ∧ r.2.mem ((c.tc : Thread Cert.Ff2Ideal.nD Cert.Ff2Ideal.τ).loc Cert.Ff2Ideal.main_v17_1) = v1 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
          ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4))
      ∧ θ_run (Cert.RefFf2Ideal.defs (F := Ideal)) (onTc (τ := Cert.RefFf2Ideal.τ) (Cert.RefFf2Ideal.main (F := Ideal))) ⟨m', fun _ => 0, g'⟩ (fun r => ∀ c : Dev Cert.RefFf2Ideal.nD,
          r.2.mem ((c.tc : Thread Cert.RefFf2Ideal.nD Cert.RefFf2Ideal.τ).loc Cert.RefFf2Ideal.main_v16) = v0 c
          ∧ r.2.mem ((c.tc : Thread Cert.RefFf2Ideal.nD Cert.RefFf2Ideal.τ).loc Cert.RefFf2Ideal.main_v29) = v1 c
          ∧ r.2.mem ((c.tc : Thread Cert.RefFf2Ideal.nD Cert.RefFf2Ideal.τ).loc Cert.RefFf2Ideal.main_arg0) = m' ((c.tc : Thread Cert.RefFf2Ideal.nD Cert.RefFf2Ideal.τ).loc Cert.RefFf2Ideal.main_arg0)
          ∧ r.2.mem ((c.tc : Thread Cert.RefFf2Ideal.nD Cert.RefFf2Ideal.τ).loc Cert.RefFf2Ideal.main_arg1) = m' ((c.tc : Thread Cert.RefFf2Ideal.nD Cert.RefFf2Ideal.τ).loc Cert.RefFf2Ideal.main_arg1)
          ∧ r.2.mem ((c.tc : Thread Cert.RefFf2Ideal.nD Cert.RefFf2Ideal.τ).loc Cert.RefFf2Ideal.main_arg2) = m' ((c.tc : Thread Cert.RefFf2Ideal.nD Cert.RefFf2Ideal.τ).loc Cert.RefFf2Ideal.main_arg2)
          ∧ r.2.mem ((c.tc : Thread Cert.RefFf2Ideal.nD Cert.RefFf2Ideal.τ).loc Cert.RefFf2Ideal.main_arg3) = m' ((c.tc : Thread Cert.RefFf2Ideal.nD Cert.RefFf2Ideal.τ).loc Cert.RefFf2Ideal.main_arg3)
          ∧ r.2.mem ((c.tc : Thread Cert.RefFf2Ideal.nD Cert.RefFf2Ideal.τ).loc Cert.RefFf2Ideal.main_arg4) = m' ((c.tc : Thread Cert.RefFf2Ideal.nD Cert.RefFf2Ideal.τ).loc Cert.RefFf2Ideal.main_arg4))

def preserves_DWOut_DWOutIdeal : Prop :=
  True

def algebraic_DWOutIdeal_RefDWOutIdeal [hDWOutIdeal : Cert.DWOutIdeal.Facts] [hRefDWOutIdeal : Cert.RefDWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.RefDWOutIdeal.nD Cert.RefDWOutIdeal.τ Cert.RefDWOutIdeal.sig) → Buf (Elt Ideal) ℓ) (g' : Dev Cert.RefDWOutIdeal.nD → PrngReg), Pre_DWOutIdeal m →
    (∀ c : Dev Cert.DWOutIdeal.nD,
      m' ((c.tc : Thread Cert.RefDWOutIdeal.nD Cert.RefDWOutIdeal.τ).loc Cert.RefDWOutIdeal.main_arg0) = m ((c.tc : Thread Cert.DWOutIdeal.nD Cert.DWOutIdeal.τ).loc Cert.DWOutIdeal.main_arg0)
      ∧ m' ((c.tc : Thread Cert.RefDWOutIdeal.nD Cert.RefDWOutIdeal.τ).loc Cert.RefDWOutIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v2)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v2) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.RefDWOutIdeal.defs (F := Ideal)) (onTc (τ := Cert.RefDWOutIdeal.τ) (Cert.RefDWOutIdeal.main (F := Ideal))) ⟨m', fun _ => 0, g'⟩ (fun r => ∀ c : Dev Cert.RefDWOutIdeal.nD,
          r.2.mem ((c.tc : Thread Cert.RefDWOutIdeal.nD Cert.RefDWOutIdeal.τ).loc Cert.RefDWOutIdeal.main_v4) = v0 c
          ∧ r.2.mem ((c.tc : Thread Cert.RefDWOutIdeal.nD Cert.RefDWOutIdeal.τ).loc Cert.RefDWOutIdeal.main_arg0) = m' ((c.tc : Thread Cert.RefDWOutIdeal.nD Cert.RefDWOutIdeal.τ).loc Cert.RefDWOutIdeal.main_arg0)
          ∧ r.2.mem ((c.tc : Thread Cert.RefDWOutIdeal.nD Cert.RefDWOutIdeal.τ).loc Cert.RefDWOutIdeal.main_arg1) = m' ((c.tc : Thread Cert.RefDWOutIdeal.nD Cert.RefDWOutIdeal.τ).loc Cert.RefDWOutIdeal.main_arg1))

def preserves_DCat_DCatIdeal : Prop :=
  True

def algebraic_DCatIdeal_RefDCatIdeal [hDCatIdeal : Cert.DCatIdeal.Facts] [hRefDCatIdeal : Cert.RefDCatIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.RefDCatIdeal.nD Cert.RefDCatIdeal.τ Cert.RefDCatIdeal.sig) → Buf (Elt Ideal) ℓ) (g' : Dev Cert.RefDCatIdeal.nD → PrngReg), Pre_DCatIdeal m →
    (∀ c : Dev Cert.DCatIdeal.nD,
      m' ((c.tc : Thread Cert.RefDCatIdeal.nD Cert.RefDCatIdeal.τ).loc Cert.RefDCatIdeal.main_arg0) = m ((c.tc : Thread Cert.DCatIdeal.nD Cert.DCatIdeal.τ).loc Cert.DCatIdeal.main_arg0)
      ∧ m' ((c.tc : Thread Cert.RefDCatIdeal.nD Cert.RefDCatIdeal.τ).loc Cert.RefDCatIdeal.main_arg1) = m ((c.tc : Thread Cert.DCatIdeal.nD Cert.DCatIdeal.τ).loc Cert.DCatIdeal.main_arg1)) →
    ∃ (v0 : (c : Dev Cert.DCatIdeal.nD) → Buf (Elt Ideal) ((c.tc : Thread Cert.DCatIdeal.nD Cert.DCatIdeal.τ).loc Cert.DCatIdeal.main_v2)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v2) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ θ_run (Cert.RefDCatIdeal.defs (F := Ideal)) (onTc (τ := Cert.RefDCatIdeal.τ) (Cert.RefDCatIdeal.main (F := Ideal))) ⟨m', fun _ => 0, g'⟩ (fun r => ∀ c : Dev Cert.RefDCatIdeal.nD,
          r.2.mem ((c.tc : Thread Cert.RefDCatIdeal.nD Cert.RefDCatIdeal.τ).loc Cert.RefDCatIdeal.main_v3) = v0 c
          ∧ r.2.mem ((c.tc : Thread Cert.RefDCatIdeal.nD Cert.RefDCatIdeal.τ).loc Cert.RefDCatIdeal.main_arg0) = m' ((c.tc : Thread Cert.RefDCatIdeal.nD Cert.RefDCatIdeal.τ).loc Cert.RefDCatIdeal.main_arg0)
          ∧ r.2.mem ((c.tc : Thread Cert.RefDCatIdeal.nD Cert.RefDCatIdeal.τ).loc Cert.RefDCatIdeal.main_arg1) = m' ((c.tc : Thread Cert.RefDCatIdeal.nD Cert.RefDCatIdeal.τ).loc Cert.RefDCatIdeal.main_arg1))

def preserves_ProjOut_ProjOutIdeal : Prop :=
  True

def algebraic_ProjOutIdeal_RefProjOutIdeal [hProjOutIdeal : Cert.ProjOutIdeal.Facts] [hRefProjOutIdeal : Cert.RefProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.RefProjOutIdeal.nD Cert.RefProjOutIdeal.τ Cert.RefProjOutIdeal.sig) → Buf (Elt Ideal) ℓ) (g' : Dev Cert.RefProjOutIdeal.nD → PrngReg), Pre_ProjOutIdeal m →
    (∀ c : Dev Cert.ProjOutIdeal.nD,
      m' ((c.tc : Thread Cert.RefProjOutIdeal.nD Cert.RefProjOutIdeal.τ).loc Cert.RefProjOutIdeal.main_arg0) = m ((c.tc : Thread Cert.ProjOutIdeal.nD Cert.ProjOutIdeal.τ).loc Cert.ProjOutIdeal.main_arg0)
      ∧ m' ((c.tc : Thread Cert.RefProjOutIdeal.nD Cert.RefProjOutIdeal.τ).loc Cert.RefProjOutIdeal.main_arg1) = m ((c.tc : Thread Cert.ProjOutIdeal.nD Cert.ProjOutIdeal.τ).loc Cert.ProjOutIdeal.main_arg1)
      ∧ m' ((c.tc : Thread Cert.RefProjOutIdeal.nD Cert.RefProjOutIdeal.τ).loc Cert.RefProjOutIdeal.main_arg2) = m ((c.tc : Thread Cert.ProjOutIdeal.nD Cert.ProjOutIdeal.τ).loc Cert.ProjOutIdeal.main_arg2)
      ∧ m' ((c.tc : Thread Cert.RefProjOutIdeal.nD Cert.RefProjOutIdeal.τ).loc Cert.RefProjOutIdeal.main_arg3) = m ((c.tc : Thread Cert.ProjOutIdeal.nD Cert.ProjOutIdeal.τ).loc Cert.ProjOutIdeal.main_arg3)) →
    ∃ (v0 : (c : Dev Cert.ProjOutIdeal.nD) → Buf (Elt Ideal) ((c.tc : Thread Cert.ProjOutIdeal.nD Cert.ProjOutIdeal.τ).loc Cert.ProjOutIdeal.main_v2_0)) (v1 : (c : Dev Cert.ProjOutIdeal.nD) → Buf (Elt Ideal) ((c.tc : Thread Cert.ProjOutIdeal.nD Cert.ProjOutIdeal.τ).loc Cert.ProjOutIdeal.main_v2_1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v2_0) = v0 c
          ∧ r.2.mem ((c.tc : Thread Cert.ProjOutIdeal.nD Cert.ProjOutIdeal.τ).loc Cert.ProjOutIdeal.main_v2_1) = v1 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ θ_run (Cert.RefProjOutIdeal.defs (F := Ideal)) (onTc (τ := Cert.RefProjOutIdeal.τ) (Cert.RefProjOutIdeal.main (F := Ideal))) ⟨m', fun _ => 0, g'⟩ (fun r => ∀ c : Dev Cert.RefProjOutIdeal.nD,
          r.2.mem ((c.tc : Thread Cert.RefProjOutIdeal.nD Cert.RefProjOutIdeal.τ).loc Cert.RefProjOutIdeal.main_v1) = v0 c
          ∧ r.2.mem ((c.tc : Thread Cert.RefProjOutIdeal.nD Cert.RefProjOutIdeal.τ).loc Cert.RefProjOutIdeal.main_v14) = v1 c
          ∧ r.2.mem ((c.tc : Thread Cert.RefProjOutIdeal.nD Cert.RefProjOutIdeal.τ).loc Cert.RefProjOutIdeal.main_arg0) = m' ((c.tc : Thread Cert.RefProjOutIdeal.nD Cert.RefProjOutIdeal.τ).loc Cert.RefProjOutIdeal.main_arg0)
          ∧ r.2.mem ((c.tc : Thread Cert.RefProjOutIdeal.nD Cert.RefProjOutIdeal.τ).loc Cert.RefProjOutIdeal.main_arg1) = m' ((c.tc : Thread Cert.RefProjOutIdeal.nD Cert.RefProjOutIdeal.τ).loc Cert.RefProjOutIdeal.main_arg1)
          ∧ r.2.mem ((c.tc : Thread Cert.RefProjOutIdeal.nD Cert.RefProjOutIdeal.τ).loc Cert.RefProjOutIdeal.main_arg2) = m' ((c.tc : Thread Cert.RefProjOutIdeal.nD Cert.RefProjOutIdeal.τ).loc Cert.RefProjOutIdeal.main_arg2)
          ∧ r.2.mem ((c.tc : Thread Cert.RefProjOutIdeal.nD Cert.RefProjOutIdeal.τ).loc Cert.RefProjOutIdeal.main_arg3) = m' ((c.tc : Thread Cert.RefProjOutIdeal.nD Cert.RefProjOutIdeal.τ).loc Cert.RefProjOutIdeal.main_arg3))

def preserves_DWGate_DWGateIdeal : Prop :=
  True

def algebraic_DWGateIdeal_RefDWGateIdeal [hDWGateIdeal : Cert.DWGateIdeal.Facts] [hRefDWGateIdeal : Cert.RefDWGateIdeal.Facts] : Prop :=
  ∀ (m : (ℓ : Loc Cert.DWGateIdeal.nD Cert.DWGateIdeal.τ Cert.DWGateIdeal.sig) → Buf (Elt Ideal) ℓ) (g : Dev Cert.DWGateIdeal.nD → PrngReg)
    (m' : (ℓ : Loc Cert.RefDWGateIdeal.nD Cert.RefDWGateIdeal.τ Cert.RefDWGateIdeal.sig) → Buf (Elt Ideal) ℓ) (g' : Dev Cert.RefDWGateIdeal.nD → PrngReg), Pre_DWGateIdeal m →
    (∀ c : Dev Cert.DWGateIdeal.nD,
      m' ((c.tc : Thread Cert.RefDWGateIdeal.nD Cert.RefDWGateIdeal.τ).loc Cert.RefDWGateIdeal.main_arg0) = m ((c.tc : Thread Cert.DWGateIdeal.nD Cert.DWGateIdeal.τ).loc Cert.DWGateIdeal.main_arg0)
      ∧ m' ((c.tc : Thread Cert.RefDWGateIdeal.nD Cert.RefDWGateIdeal.τ).loc Cert.RefDWGateIdeal.main_arg1) = m ((c.tc : Thread Cert.DWGateIdeal.nD Cert.DWGateIdeal.τ).loc Cert.DWGateIdeal.main_arg1)
      ∧ m' ((c.tc : Thread Cert.RefDWGateIdeal.nD Cert.RefDWGateIdeal.τ).loc Cert.RefDWGateIdeal.main_arg2) = m ((c.tc : Thread Cert.DWGateIdeal.nD Cert.DWGateIdeal.τ).loc Cert.DWGateIdeal.main_arg2)) →
    ∃ (v0 : (c : Dev Cert.DWGateIdeal.nD) → Buf (Elt Ideal) ((c.tc : Thread Cert.DWGateIdeal.nD Cert.DWGateIdeal.τ).loc Cert.DWGateIdeal.main_v14)),
      θ_run (Cert.DWGateIdeal.defs (F := Ideal)) (onTc (τ := Cert.DWGateIdeal.τ) (Cert.DWGateIdeal.main (F := Ideal))) ⟨m, fun _ => 0, g⟩ (fun r => ∀ c : Dev Cert.DWGateIdeal.nD,
          r.2.mem ((c.tc : Thread Cert.DWGateIdeal.nD Cert.DWGateIdeal.τ).loc Cert.DWGateIdeal.main_v14) = v0 c
          ∧ r.2.mem ((c.tc : Thread Cert.DWGateIdeal.nD Cert.DWGateIdeal.τ).loc Cert.DWGateIdeal.main_arg0) = m ((c.tc : Thread Cert.DWGateIdeal.nD Cert.DWGateIdeal.τ).loc Cert.DWGateIdeal.main_arg0)
          ∧ r.2.mem ((c.tc : Thread Cert.DWGateIdeal.nD Cert.DWGateIdeal.τ).loc Cert.DWGateIdeal.main_arg1) = m ((c.tc : Thread Cert.DWGateIdeal.nD Cert.DWGateIdeal.τ).loc Cert.DWGateIdeal.main_arg1)
          ∧ r.2.mem ((c.tc : Thread Cert.DWGateIdeal.nD Cert.DWGateIdeal.τ).loc Cert.DWGateIdeal.main_arg2) = m ((c.tc : Thread Cert.DWGateIdeal.nD Cert.DWGateIdeal.τ).loc Cert.DWGateIdeal.main_arg2))
      ∧ θ_run (Cert.RefDWGateIdeal.defs (F := Ideal)) (onTc (τ := Cert.RefDWGateIdeal.τ) (Cert.RefDWGateIdeal.main (F := Ideal))) ⟨m', fun _ => 0, g'⟩ (fun r => ∀ c : Dev Cert.RefDWGateIdeal.nD,
          r.2.mem ((c.tc : Thread Cert.RefDWGateIdeal.nD Cert.RefDWGateIdeal.τ).loc Cert.RefDWGateIdeal.main_v16) = v0 c
          ∧ r.2.mem ((c.tc : Thread Cert.RefDWGateIdeal.nD Cert.RefDWGateIdeal.τ).loc Cert.RefDWGateIdeal.main_arg0) = m' ((c.tc : Thread Cert.RefDWGateIdeal.nD Cert.RefDWGateIdeal.τ).loc Cert.RefDWGateIdeal.main_arg0)
          ∧ r.2.mem ((c.tc : Thread Cert.RefDWGateIdeal.nD Cert.RefDWGateIdeal.τ).loc Cert.RefDWGateIdeal.main_arg1) = m' ((c.tc : Thread Cert.RefDWGateIdeal.nD Cert.RefDWGateIdeal.τ).loc Cert.RefDWGateIdeal.main_arg1)
          ∧ r.2.mem ((c.tc : Thread Cert.RefDWGateIdeal.nD Cert.RefDWGateIdeal.τ).loc Cert.RefDWGateIdeal.main_arg2) = m' ((c.tc : Thread Cert.RefDWGateIdeal.nD Cert.RefDWGateIdeal.τ).loc Cert.RefDWGateIdeal.main_arg2))

def preserves_DWProj_DWProjIdeal : Prop :=
  True

def algebraic_DWProjIdeal_RefDWProjIdeal [hDWProjIdeal : Cert.DWProjIdeal.Facts] [hRefDWProjIdeal : Cert.RefDWProjIdeal.Facts] : Prop :=
  ∀ (m : (ℓ : Loc Cert.DWProjIdeal.nD Cert.DWProjIdeal.τ Cert.DWProjIdeal.sig) → Buf (Elt Ideal) ℓ) (g : Dev Cert.DWProjIdeal.nD → PrngReg)
    (m' : (ℓ : Loc Cert.RefDWProjIdeal.nD Cert.RefDWProjIdeal.τ Cert.RefDWProjIdeal.sig) → Buf (Elt Ideal) ℓ) (g' : Dev Cert.RefDWProjIdeal.nD → PrngReg), Pre_DWProjIdeal m →
    (∀ c : Dev Cert.DWProjIdeal.nD,
      m' ((c.tc : Thread Cert.RefDWProjIdeal.nD Cert.RefDWProjIdeal.τ).loc Cert.RefDWProjIdeal.main_arg0) = m ((c.tc : Thread Cert.DWProjIdeal.nD Cert.DWProjIdeal.τ).loc Cert.DWProjIdeal.main_arg0)
      ∧ m' ((c.tc : Thread Cert.RefDWProjIdeal.nD Cert.RefDWProjIdeal.τ).loc Cert.RefDWProjIdeal.main_arg1) = m ((c.tc : Thread Cert.DWProjIdeal.nD Cert.DWProjIdeal.τ).loc Cert.DWProjIdeal.main_arg1)) →
    ∃ (v0 : (c : Dev Cert.DWProjIdeal.nD) → Buf (Elt Ideal) ((c.tc : Thread Cert.DWProjIdeal.nD Cert.DWProjIdeal.τ).loc Cert.DWProjIdeal.main_v1)),
      θ_run (Cert.DWProjIdeal.defs (F := Ideal)) (onTc (τ := Cert.DWProjIdeal.τ) (Cert.DWProjIdeal.main (F := Ideal))) ⟨m, fun _ => 0, g⟩ (fun r => ∀ c : Dev Cert.DWProjIdeal.nD,
          r.2.mem ((c.tc : Thread Cert.DWProjIdeal.nD Cert.DWProjIdeal.τ).loc Cert.DWProjIdeal.main_v1) = v0 c
          ∧ r.2.mem ((c.tc : Thread Cert.DWProjIdeal.nD Cert.DWProjIdeal.τ).loc Cert.DWProjIdeal.main_arg0) = m ((c.tc : Thread Cert.DWProjIdeal.nD Cert.DWProjIdeal.τ).loc Cert.DWProjIdeal.main_arg0)
          ∧ r.2.mem ((c.tc : Thread Cert.DWProjIdeal.nD Cert.DWProjIdeal.τ).loc Cert.DWProjIdeal.main_arg1) = m ((c.tc : Thread Cert.DWProjIdeal.nD Cert.DWProjIdeal.τ).loc Cert.DWProjIdeal.main_arg1))
      ∧ θ_run (Cert.RefDWProjIdeal.defs (F := Ideal)) (onTc (τ := Cert.RefDWProjIdeal.τ) (Cert.RefDWProjIdeal.main (F := Ideal))) ⟨m', fun _ => 0, g'⟩ (fun r => ∀ c : Dev Cert.RefDWProjIdeal.nD,
          r.2.mem ((c.tc : Thread Cert.RefDWProjIdeal.nD Cert.RefDWProjIdeal.τ).loc Cert.RefDWProjIdeal.main_v4) = v0 c
          ∧ r.2.mem ((c.tc : Thread Cert.RefDWProjIdeal.nD Cert.RefDWProjIdeal.τ).loc Cert.RefDWProjIdeal.main_arg0) = m' ((c.tc : Thread Cert.RefDWProjIdeal.nD Cert.RefDWProjIdeal.τ).loc Cert.RefDWProjIdeal.main_arg0)
          ∧ r.2.mem ((c.tc : Thread Cert.RefDWProjIdeal.nD Cert.RefDWProjIdeal.τ).loc Cert.RefDWProjIdeal.main_arg1) = m' ((c.tc : Thread Cert.RefDWProjIdeal.nD Cert.RefDWProjIdeal.τ).loc Cert.RefDWProjIdeal.main_arg1))

def preserves_AdamWOut_AdamWOutIdeal : Prop :=
  True

def algebraic_AdamWOutIdeal_RefAdamWOutIdeal [hAdamWOutIdeal : Cert.AdamWOutIdeal.Facts] [hRefAdamWOutIdeal : Cert.RefAdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.RefAdamWOutIdeal.nD Cert.RefAdamWOutIdeal.τ Cert.RefAdamWOutIdeal.sig) → Buf (Elt Ideal) ℓ) (g' : Dev Cert.RefAdamWOutIdeal.nD → PrngReg), Pre_AdamWOutIdeal m →
    (∀ c : Dev Cert.AdamWOutIdeal.nD,
      m' ((c.tc : Thread Cert.RefAdamWOutIdeal.nD Cert.RefAdamWOutIdeal.τ).loc Cert.RefAdamWOutIdeal.main_arg0) = m ((c.tc : Thread Cert.AdamWOutIdeal.nD Cert.AdamWOutIdeal.τ).loc Cert.AdamWOutIdeal.main_arg0)
      ∧ m' ((c.tc : Thread Cert.RefAdamWOutIdeal.nD Cert.RefAdamWOutIdeal.τ).loc Cert.RefAdamWOutIdeal.main_arg1) = m ((c.tc : Thread Cert.AdamWOutIdeal.nD Cert.AdamWOutIdeal.τ).loc Cert.AdamWOutIdeal.main_arg1)
      ∧ m' ((c.tc : Thread Cert.RefAdamWOutIdeal.nD Cert.RefAdamWOutIdeal.τ).loc Cert.RefAdamWOutIdeal.main_arg2) = m ((c.tc : Thread Cert.AdamWOutIdeal.nD Cert.AdamWOutIdeal.τ).loc Cert.AdamWOutIdeal.main_arg2)
      ∧ m' ((c.tc : Thread Cert.RefAdamWOutIdeal.nD Cert.RefAdamWOutIdeal.τ).loc Cert.RefAdamWOutIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v3_0)) (v1 : (c : Dev Cert.AdamWOutIdeal.nD) → Buf (Elt Ideal) ((c.tc : Thread Cert.AdamWOutIdeal.nD Cert.AdamWOutIdeal.τ).loc Cert.AdamWOutIdeal.main_v3_1)) (v2 : (c : Dev Cert.AdamWOutIdeal.nD) → Buf (Elt Ideal) ((c.tc : Thread Cert.AdamWOutIdeal.nD Cert.AdamWOutIdeal.τ).loc Cert.AdamWOutIdeal.main_v3_2)) (v3 : (c : Dev Cert.AdamWOutIdeal.nD) → Buf (Elt Ideal) ((c.tc : Thread Cert.AdamWOutIdeal.nD Cert.AdamWOutIdeal.τ).loc Cert.AdamWOutIdeal.main_v3_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v3_0) = v0 c
          ∧ r.2.mem ((c.tc : Thread Cert.AdamWOutIdeal.nD Cert.AdamWOutIdeal.τ).loc Cert.AdamWOutIdeal.main_v3_1) = v1 c
          ∧ r.2.mem ((c.tc : Thread Cert.AdamWOutIdeal.nD Cert.AdamWOutIdeal.τ).loc Cert.AdamWOutIdeal.main_v3_2) = v2 c
          ∧ r.2.mem ((c.tc : Thread Cert.AdamWOutIdeal.nD Cert.AdamWOutIdeal.τ).loc Cert.AdamWOutIdeal.main_v3_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.RefAdamWOutIdeal.defs (F := Ideal)) (onTc (τ := Cert.RefAdamWOutIdeal.τ) (Cert.RefAdamWOutIdeal.main (F := Ideal))) ⟨m', fun _ => 0, g'⟩ (fun r => ∀ c : Dev Cert.RefAdamWOutIdeal.nD,
          r.2.mem ((c.tc : Thread Cert.RefAdamWOutIdeal.nD Cert.RefAdamWOutIdeal.τ).loc Cert.RefAdamWOutIdeal.main_v1) = v0 c
          ∧ r.2.mem ((c.tc : Thread Cert.RefAdamWOutIdeal.nD Cert.RefAdamWOutIdeal.τ).loc Cert.RefAdamWOutIdeal.main_v28) = v1 c
          ∧ r.2.mem ((c.tc : Thread Cert.RefAdamWOutIdeal.nD Cert.RefAdamWOutIdeal.τ).loc Cert.RefAdamWOutIdeal.main_v9) = v2 c
          ∧ r.2.mem ((c.tc : Thread Cert.RefAdamWOutIdeal.nD Cert.RefAdamWOutIdeal.τ).loc Cert.RefAdamWOutIdeal.main_v15) = v3 c
          ∧ r.2.mem ((c.tc : Thread Cert.RefAdamWOutIdeal.nD Cert.RefAdamWOutIdeal.τ).loc Cert.RefAdamWOutIdeal.main_arg0) = m' ((c.tc : Thread Cert.RefAdamWOutIdeal.nD Cert.RefAdamWOutIdeal.τ).loc Cert.RefAdamWOutIdeal.main_arg0)
          ∧ r.2.mem ((c.tc : Thread Cert.RefAdamWOutIdeal.nD Cert.RefAdamWOutIdeal.τ).loc Cert.RefAdamWOutIdeal.main_arg1) = m' ((c.tc : Thread Cert.RefAdamWOutIdeal.nD Cert.RefAdamWOutIdeal.τ).loc Cert.RefAdamWOutIdeal.main_arg1)
          ∧ r.2.mem ((c.tc : Thread Cert.RefAdamWOutIdeal.nD Cert.RefAdamWOutIdeal.τ).loc Cert.RefAdamWOutIdeal.main_arg2) = m' ((c.tc : Thread Cert.RefAdamWOutIdeal.nD Cert.RefAdamWOutIdeal.τ).loc Cert.RefAdamWOutIdeal.main_arg2)
          ∧ r.2.mem ((c.tc : Thread Cert.RefAdamWOutIdeal.nD Cert.RefAdamWOutIdeal.τ).loc Cert.RefAdamWOutIdeal.main_arg3) = m' ((c.tc : Thread Cert.RefAdamWOutIdeal.nD Cert.RefAdamWOutIdeal.τ).loc Cert.RefAdamWOutIdeal.main_arg3))

def preserves_AdamWFf1_AdamWFf1Ideal : Prop :=
  True

def algebraic_AdamWFf1Ideal_RefAdamWFf1Ideal [hAdamWFf1Ideal : Cert.AdamWFf1Ideal.Facts] [hRefAdamWFf1Ideal : Cert.RefAdamWFf1Ideal.Facts] : Prop :=
  ∀ (m : (ℓ : Loc Cert.AdamWFf1Ideal.nD Cert.AdamWFf1Ideal.τ Cert.AdamWFf1Ideal.sig) → Buf (Elt Ideal) ℓ) (g : Dev Cert.AdamWFf1Ideal.nD → PrngReg)
    (m' : (ℓ : Loc Cert.RefAdamWFf1Ideal.nD Cert.RefAdamWFf1Ideal.τ Cert.RefAdamWFf1Ideal.sig) → Buf (Elt Ideal) ℓ) (g' : Dev Cert.RefAdamWFf1Ideal.nD → PrngReg), Pre_AdamWFf1Ideal m →
    (∀ c : Dev Cert.AdamWFf1Ideal.nD,
      m' ((c.tc : Thread Cert.RefAdamWFf1Ideal.nD Cert.RefAdamWFf1Ideal.τ).loc Cert.RefAdamWFf1Ideal.main_arg0) = m ((c.tc : Thread Cert.AdamWFf1Ideal.nD Cert.AdamWFf1Ideal.τ).loc Cert.AdamWFf1Ideal.main_arg0)
      ∧ m' ((c.tc : Thread Cert.RefAdamWFf1Ideal.nD Cert.RefAdamWFf1Ideal.τ).loc Cert.RefAdamWFf1Ideal.main_arg1) = m ((c.tc : Thread Cert.AdamWFf1Ideal.nD Cert.AdamWFf1Ideal.τ).loc Cert.AdamWFf1Ideal.main_arg1)
      ∧ m' ((c.tc : Thread Cert.RefAdamWFf1Ideal.nD Cert.RefAdamWFf1Ideal.τ).loc Cert.RefAdamWFf1Ideal.main_arg2) = m ((c.tc : Thread Cert.AdamWFf1Ideal.nD Cert.AdamWFf1Ideal.τ).loc Cert.AdamWFf1Ideal.main_arg2)
      ∧ m' ((c.tc : Thread Cert.RefAdamWFf1Ideal.nD Cert.RefAdamWFf1Ideal.τ).loc Cert.RefAdamWFf1Ideal.main_arg3) = m ((c.tc : Thread Cert.AdamWFf1Ideal.nD Cert.AdamWFf1Ideal.τ).loc Cert.AdamWFf1Ideal.main_arg3)) →
    ∃ (v0 : (c : Dev Cert.AdamWFf1Ideal.nD) → Buf (Elt Ideal) ((c.tc : Thread Cert.AdamWFf1Ideal.nD Cert.AdamWFf1Ideal.τ).loc Cert.AdamWFf1Ideal.main_v3_0)) (v1 : (c : Dev Cert.AdamWFf1Ideal.nD) → Buf (Elt Ideal) ((c.tc : Thread Cert.AdamWFf1Ideal.nD Cert.AdamWFf1Ideal.τ).loc Cert.AdamWFf1Ideal.main_v3_1)) (v2 : (c : Dev Cert.AdamWFf1Ideal.nD) → Buf (Elt Ideal) ((c.tc : Thread Cert.AdamWFf1Ideal.nD Cert.AdamWFf1Ideal.τ).loc Cert.AdamWFf1Ideal.main_v3_2)) (v3 : (c : Dev Cert.AdamWFf1Ideal.nD) → Buf (Elt Ideal) ((c.tc : Thread Cert.AdamWFf1Ideal.nD Cert.AdamWFf1Ideal.τ).loc Cert.AdamWFf1Ideal.main_v3_3)),
      θ_run (Cert.AdamWFf1Ideal.defs (F := Ideal)) (onTc (τ := Cert.AdamWFf1Ideal.τ) (Cert.AdamWFf1Ideal.main (F := Ideal))) ⟨m, fun _ => 0, g⟩ (fun r => ∀ c : Dev Cert.AdamWFf1Ideal.nD,
          r.2.mem ((c.tc : Thread Cert.AdamWFf1Ideal.nD Cert.AdamWFf1Ideal.τ).loc Cert.AdamWFf1Ideal.main_v3_0) = v0 c
          ∧ r.2.mem ((c.tc : Thread Cert.AdamWFf1Ideal.nD Cert.AdamWFf1Ideal.τ).loc Cert.AdamWFf1Ideal.main_v3_1) = v1 c
          ∧ r.2.mem ((c.tc : Thread Cert.AdamWFf1Ideal.nD Cert.AdamWFf1Ideal.τ).loc Cert.AdamWFf1Ideal.main_v3_2) = v2 c
          ∧ r.2.mem ((c.tc : Thread Cert.AdamWFf1Ideal.nD Cert.AdamWFf1Ideal.τ).loc Cert.AdamWFf1Ideal.main_v3_3) = v3 c
          ∧ r.2.mem ((c.tc : Thread Cert.AdamWFf1Ideal.nD Cert.AdamWFf1Ideal.τ).loc Cert.AdamWFf1Ideal.main_arg0) = m ((c.tc : Thread Cert.AdamWFf1Ideal.nD Cert.AdamWFf1Ideal.τ).loc Cert.AdamWFf1Ideal.main_arg0)
          ∧ r.2.mem ((c.tc : Thread Cert.AdamWFf1Ideal.nD Cert.AdamWFf1Ideal.τ).loc Cert.AdamWFf1Ideal.main_arg1) = m ((c.tc : Thread Cert.AdamWFf1Ideal.nD Cert.AdamWFf1Ideal.τ).loc Cert.AdamWFf1Ideal.main_arg1)
          ∧ r.2.mem ((c.tc : Thread Cert.AdamWFf1Ideal.nD Cert.AdamWFf1Ideal.τ).loc Cert.AdamWFf1Ideal.main_arg2) = m ((c.tc : Thread Cert.AdamWFf1Ideal.nD Cert.AdamWFf1Ideal.τ).loc Cert.AdamWFf1Ideal.main_arg2)
          ∧ r.2.mem ((c.tc : Thread Cert.AdamWFf1Ideal.nD Cert.AdamWFf1Ideal.τ).loc Cert.AdamWFf1Ideal.main_arg3) = m ((c.tc : Thread Cert.AdamWFf1Ideal.nD Cert.AdamWFf1Ideal.τ).loc Cert.AdamWFf1Ideal.main_arg3))
      ∧ θ_run (Cert.RefAdamWFf1Ideal.defs (F := Ideal)) (onTc (τ := Cert.RefAdamWFf1Ideal.τ) (Cert.RefAdamWFf1Ideal.main (F := Ideal))) ⟨m', fun _ => 0, g'⟩ (fun r => ∀ c : Dev Cert.RefAdamWFf1Ideal.nD,
          r.2.mem ((c.tc : Thread Cert.RefAdamWFf1Ideal.nD Cert.RefAdamWFf1Ideal.τ).loc Cert.RefAdamWFf1Ideal.main_v1) = v0 c
          ∧ r.2.mem ((c.tc : Thread Cert.RefAdamWFf1Ideal.nD Cert.RefAdamWFf1Ideal.τ).loc Cert.RefAdamWFf1Ideal.main_v28) = v1 c
          ∧ r.2.mem ((c.tc : Thread Cert.RefAdamWFf1Ideal.nD Cert.RefAdamWFf1Ideal.τ).loc Cert.RefAdamWFf1Ideal.main_v9) = v2 c
          ∧ r.2.mem ((c.tc : Thread Cert.RefAdamWFf1Ideal.nD Cert.RefAdamWFf1Ideal.τ).loc Cert.RefAdamWFf1Ideal.main_v15) = v3 c
          ∧ r.2.mem ((c.tc : Thread Cert.RefAdamWFf1Ideal.nD Cert.RefAdamWFf1Ideal.τ).loc Cert.RefAdamWFf1Ideal.main_arg0) = m' ((c.tc : Thread Cert.RefAdamWFf1Ideal.nD Cert.RefAdamWFf1Ideal.τ).loc Cert.RefAdamWFf1Ideal.main_arg0)
          ∧ r.2.mem ((c.tc : Thread Cert.RefAdamWFf1Ideal.nD Cert.RefAdamWFf1Ideal.τ).loc Cert.RefAdamWFf1Ideal.main_arg1) = m' ((c.tc : Thread Cert.RefAdamWFf1Ideal.nD Cert.RefAdamWFf1Ideal.τ).loc Cert.RefAdamWFf1Ideal.main_arg1)
          ∧ r.2.mem ((c.tc : Thread Cert.RefAdamWFf1Ideal.nD Cert.RefAdamWFf1Ideal.τ).loc Cert.RefAdamWFf1Ideal.main_arg2) = m' ((c.tc : Thread Cert.RefAdamWFf1Ideal.nD Cert.RefAdamWFf1Ideal.τ).loc Cert.RefAdamWFf1Ideal.main_arg2)
          ∧ r.2.mem ((c.tc : Thread Cert.RefAdamWFf1Ideal.nD Cert.RefAdamWFf1Ideal.τ).loc Cert.RefAdamWFf1Ideal.main_arg3) = m' ((c.tc : Thread Cert.RefAdamWFf1Ideal.nD Cert.RefAdamWFf1Ideal.τ).loc Cert.RefAdamWFf1Ideal.main_arg3))

def preserves_AdamWFf2_AdamWFf2Ideal : Prop :=
  True

def algebraic_AdamWFf2Ideal_RefAdamWFf2Ideal [hAdamWFf2Ideal : Cert.AdamWFf2Ideal.Facts] [hRefAdamWFf2Ideal : Cert.RefAdamWFf2Ideal.Facts] : Prop :=
  ∀ (m : (ℓ : Loc Cert.AdamWFf2Ideal.nD Cert.AdamWFf2Ideal.τ Cert.AdamWFf2Ideal.sig) → Buf (Elt Ideal) ℓ) (g : Dev Cert.AdamWFf2Ideal.nD → PrngReg)
    (m' : (ℓ : Loc Cert.RefAdamWFf2Ideal.nD Cert.RefAdamWFf2Ideal.τ Cert.RefAdamWFf2Ideal.sig) → Buf (Elt Ideal) ℓ) (g' : Dev Cert.RefAdamWFf2Ideal.nD → PrngReg), Pre_AdamWFf2Ideal m →
    (∀ c : Dev Cert.AdamWFf2Ideal.nD,
      m' ((c.tc : Thread Cert.RefAdamWFf2Ideal.nD Cert.RefAdamWFf2Ideal.τ).loc Cert.RefAdamWFf2Ideal.main_arg0) = m ((c.tc : Thread Cert.AdamWFf2Ideal.nD Cert.AdamWFf2Ideal.τ).loc Cert.AdamWFf2Ideal.main_arg0)
      ∧ m' ((c.tc : Thread Cert.RefAdamWFf2Ideal.nD Cert.RefAdamWFf2Ideal.τ).loc Cert.RefAdamWFf2Ideal.main_arg1) = m ((c.tc : Thread Cert.AdamWFf2Ideal.nD Cert.AdamWFf2Ideal.τ).loc Cert.AdamWFf2Ideal.main_arg1)
      ∧ m' ((c.tc : Thread Cert.RefAdamWFf2Ideal.nD Cert.RefAdamWFf2Ideal.τ).loc Cert.RefAdamWFf2Ideal.main_arg2) = m ((c.tc : Thread Cert.AdamWFf2Ideal.nD Cert.AdamWFf2Ideal.τ).loc Cert.AdamWFf2Ideal.main_arg2)
      ∧ m' ((c.tc : Thread Cert.RefAdamWFf2Ideal.nD Cert.RefAdamWFf2Ideal.τ).loc Cert.RefAdamWFf2Ideal.main_arg3) = m ((c.tc : Thread Cert.AdamWFf2Ideal.nD Cert.AdamWFf2Ideal.τ).loc Cert.AdamWFf2Ideal.main_arg3)) →
    ∃ (v0 : (c : Dev Cert.AdamWFf2Ideal.nD) → Buf (Elt Ideal) ((c.tc : Thread Cert.AdamWFf2Ideal.nD Cert.AdamWFf2Ideal.τ).loc Cert.AdamWFf2Ideal.main_v3_0)) (v1 : (c : Dev Cert.AdamWFf2Ideal.nD) → Buf (Elt Ideal) ((c.tc : Thread Cert.AdamWFf2Ideal.nD Cert.AdamWFf2Ideal.τ).loc Cert.AdamWFf2Ideal.main_v3_1)) (v2 : (c : Dev Cert.AdamWFf2Ideal.nD) → Buf (Elt Ideal) ((c.tc : Thread Cert.AdamWFf2Ideal.nD Cert.AdamWFf2Ideal.τ).loc Cert.AdamWFf2Ideal.main_v3_2)) (v3 : (c : Dev Cert.AdamWFf2Ideal.nD) → Buf (Elt Ideal) ((c.tc : Thread Cert.AdamWFf2Ideal.nD Cert.AdamWFf2Ideal.τ).loc Cert.AdamWFf2Ideal.main_v3_3)),
      θ_run (Cert.AdamWFf2Ideal.defs (F := Ideal)) (onTc (τ := Cert.AdamWFf2Ideal.τ) (Cert.AdamWFf2Ideal.main (F := Ideal))) ⟨m, fun _ => 0, g⟩ (fun r => ∀ c : Dev Cert.AdamWFf2Ideal.nD,
          r.2.mem ((c.tc : Thread Cert.AdamWFf2Ideal.nD Cert.AdamWFf2Ideal.τ).loc Cert.AdamWFf2Ideal.main_v3_0) = v0 c
          ∧ r.2.mem ((c.tc : Thread Cert.AdamWFf2Ideal.nD Cert.AdamWFf2Ideal.τ).loc Cert.AdamWFf2Ideal.main_v3_1) = v1 c
          ∧ r.2.mem ((c.tc : Thread Cert.AdamWFf2Ideal.nD Cert.AdamWFf2Ideal.τ).loc Cert.AdamWFf2Ideal.main_v3_2) = v2 c
          ∧ r.2.mem ((c.tc : Thread Cert.AdamWFf2Ideal.nD Cert.AdamWFf2Ideal.τ).loc Cert.AdamWFf2Ideal.main_v3_3) = v3 c
          ∧ r.2.mem ((c.tc : Thread Cert.AdamWFf2Ideal.nD Cert.AdamWFf2Ideal.τ).loc Cert.AdamWFf2Ideal.main_arg0) = m ((c.tc : Thread Cert.AdamWFf2Ideal.nD Cert.AdamWFf2Ideal.τ).loc Cert.AdamWFf2Ideal.main_arg0)
          ∧ r.2.mem ((c.tc : Thread Cert.AdamWFf2Ideal.nD Cert.AdamWFf2Ideal.τ).loc Cert.AdamWFf2Ideal.main_arg1) = m ((c.tc : Thread Cert.AdamWFf2Ideal.nD Cert.AdamWFf2Ideal.τ).loc Cert.AdamWFf2Ideal.main_arg1)
          ∧ r.2.mem ((c.tc : Thread Cert.AdamWFf2Ideal.nD Cert.AdamWFf2Ideal.τ).loc Cert.AdamWFf2Ideal.main_arg2) = m ((c.tc : Thread Cert.AdamWFf2Ideal.nD Cert.AdamWFf2Ideal.τ).loc Cert.AdamWFf2Ideal.main_arg2)
          ∧ r.2.mem ((c.tc : Thread Cert.AdamWFf2Ideal.nD Cert.AdamWFf2Ideal.τ).loc Cert.AdamWFf2Ideal.main_arg3) = m ((c.tc : Thread Cert.AdamWFf2Ideal.nD Cert.AdamWFf2Ideal.τ).loc Cert.AdamWFf2Ideal.main_arg3))
      ∧ θ_run (Cert.RefAdamWFf2Ideal.defs (F := Ideal)) (onTc (τ := Cert.RefAdamWFf2Ideal.τ) (Cert.RefAdamWFf2Ideal.main (F := Ideal))) ⟨m', fun _ => 0, g'⟩ (fun r => ∀ c : Dev Cert.RefAdamWFf2Ideal.nD,
          r.2.mem ((c.tc : Thread Cert.RefAdamWFf2Ideal.nD Cert.RefAdamWFf2Ideal.τ).loc Cert.RefAdamWFf2Ideal.main_v1) = v0 c
          ∧ r.2.mem ((c.tc : Thread Cert.RefAdamWFf2Ideal.nD Cert.RefAdamWFf2Ideal.τ).loc Cert.RefAdamWFf2Ideal.main_v28) = v1 c
          ∧ r.2.mem ((c.tc : Thread Cert.RefAdamWFf2Ideal.nD Cert.RefAdamWFf2Ideal.τ).loc Cert.RefAdamWFf2Ideal.main_v9) = v2 c
          ∧ r.2.mem ((c.tc : Thread Cert.RefAdamWFf2Ideal.nD Cert.RefAdamWFf2Ideal.τ).loc Cert.RefAdamWFf2Ideal.main_v15) = v3 c
          ∧ r.2.mem ((c.tc : Thread Cert.RefAdamWFf2Ideal.nD Cert.RefAdamWFf2Ideal.τ).loc Cert.RefAdamWFf2Ideal.main_arg0) = m' ((c.tc : Thread Cert.RefAdamWFf2Ideal.nD Cert.RefAdamWFf2Ideal.τ).loc Cert.RefAdamWFf2Ideal.main_arg0)
          ∧ r.2.mem ((c.tc : Thread Cert.RefAdamWFf2Ideal.nD Cert.RefAdamWFf2Ideal.τ).loc Cert.RefAdamWFf2Ideal.main_arg1) = m' ((c.tc : Thread Cert.RefAdamWFf2Ideal.nD Cert.RefAdamWFf2Ideal.τ).loc Cert.RefAdamWFf2Ideal.main_arg1)
          ∧ r.2.mem ((c.tc : Thread Cert.RefAdamWFf2Ideal.nD Cert.RefAdamWFf2Ideal.τ).loc Cert.RefAdamWFf2Ideal.main_arg2) = m' ((c.tc : Thread Cert.RefAdamWFf2Ideal.nD Cert.RefAdamWFf2Ideal.τ).loc Cert.RefAdamWFf2Ideal.main_arg2)
          ∧ r.2.mem ((c.tc : Thread Cert.RefAdamWFf2Ideal.nD Cert.RefAdamWFf2Ideal.τ).loc Cert.RefAdamWFf2Ideal.main_arg3) = m' ((c.tc : Thread Cert.RefAdamWFf2Ideal.nD Cert.RefAdamWFf2Ideal.τ).loc Cert.RefAdamWFf2Ideal.main_arg3))

def preserves_AdamWGate_AdamWGateIdeal : Prop :=
  True

def algebraic_AdamWGateIdeal_RefAdamWGateIdeal [hAdamWGateIdeal : Cert.AdamWGateIdeal.Facts] [hRefAdamWGateIdeal : Cert.RefAdamWGateIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg)
    (m' : (ℓ : Loc Cert.RefAdamWGateIdeal.nD Cert.RefAdamWGateIdeal.τ Cert.RefAdamWGateIdeal.sig) → Buf (Elt Ideal) ℓ) (g' : Dev Cert.RefAdamWGateIdeal.nD → PrngReg), Pre_AdamWGateIdeal m →
    (∀ c : Dev Cert.AdamWGateIdeal.nD,
      m' ((c.tc : Thread Cert.RefAdamWGateIdeal.nD Cert.RefAdamWGateIdeal.τ).loc Cert.RefAdamWGateIdeal.main_arg0) = m ((c.tc : Thread Cert.AdamWGateIdeal.nD Cert.AdamWGateIdeal.τ).loc Cert.AdamWGateIdeal.main_arg0)
      ∧ m' ((c.tc : Thread Cert.RefAdamWGateIdeal.nD Cert.RefAdamWGateIdeal.τ).loc Cert.RefAdamWGateIdeal.main_arg1) = m ((c.tc : Thread Cert.AdamWGateIdeal.nD Cert.AdamWGateIdeal.τ).loc Cert.AdamWGateIdeal.main_arg1)
      ∧ m' ((c.tc : Thread Cert.RefAdamWGateIdeal.nD Cert.RefAdamWGateIdeal.τ).loc Cert.RefAdamWGateIdeal.main_arg2) = m ((c.tc : Thread Cert.AdamWGateIdeal.nD Cert.AdamWGateIdeal.τ).loc Cert.AdamWGateIdeal.main_arg2)
      ∧ m' ((c.tc : Thread Cert.RefAdamWGateIdeal.nD Cert.RefAdamWGateIdeal.τ).loc Cert.RefAdamWGateIdeal.main_arg3) = m ((c.tc : Thread Cert.AdamWGateIdeal.nD Cert.AdamWGateIdeal.τ).loc Cert.AdamWGateIdeal.main_arg3)) →
    ∃ (v0 : (c : Dev Cert.AdamWGateIdeal.nD) → Buf (Elt Ideal) ((c.tc : Thread Cert.AdamWGateIdeal.nD Cert.AdamWGateIdeal.τ).loc Cert.AdamWGateIdeal.main_v3_0)) (v1 : (c : Dev Cert.AdamWGateIdeal.nD) → Buf (Elt Ideal) ((c.tc : Thread Cert.AdamWGateIdeal.nD Cert.AdamWGateIdeal.τ).loc Cert.AdamWGateIdeal.main_v3_1)) (v2 : (c : Dev Cert.AdamWGateIdeal.nD) → Buf (Elt Ideal) ((c.tc : Thread Cert.AdamWGateIdeal.nD Cert.AdamWGateIdeal.τ).loc Cert.AdamWGateIdeal.main_v3_2)) (v3 : (c : Dev Cert.AdamWGateIdeal.nD) → Buf (Elt Ideal) ((c.tc : Thread Cert.AdamWGateIdeal.nD Cert.AdamWGateIdeal.τ).loc Cert.AdamWGateIdeal.main_v3_3)),
      θ_run (Cert.AdamWGateIdeal.defs (F := Ideal)) (onTc (τ := Cert.AdamWGateIdeal.τ) (Cert.AdamWGateIdeal.main (F := Ideal))) ⟨m, fun _ => 0, g⟩ (fun r => ∀ c : Dev Cert.AdamWGateIdeal.nD,
          r.2.mem ((c.tc : Thread Cert.AdamWGateIdeal.nD Cert.AdamWGateIdeal.τ).loc Cert.AdamWGateIdeal.main_v3_0) = v0 c
          ∧ r.2.mem ((c.tc : Thread Cert.AdamWGateIdeal.nD Cert.AdamWGateIdeal.τ).loc Cert.AdamWGateIdeal.main_v3_1) = v1 c
          ∧ r.2.mem ((c.tc : Thread Cert.AdamWGateIdeal.nD Cert.AdamWGateIdeal.τ).loc Cert.AdamWGateIdeal.main_v3_2) = v2 c
          ∧ r.2.mem ((c.tc : Thread Cert.AdamWGateIdeal.nD Cert.AdamWGateIdeal.τ).loc Cert.AdamWGateIdeal.main_v3_3) = v3 c
          ∧ r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
          ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
          ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
          ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ θ_run (Cert.RefAdamWGateIdeal.defs (F := Ideal)) (onTc (τ := Cert.RefAdamWGateIdeal.τ) (Cert.RefAdamWGateIdeal.main (F := Ideal))) ⟨m', fun _ => 0, g'⟩ (fun r => ∀ c : Dev Cert.RefAdamWGateIdeal.nD,
          r.2.mem ((c.tc : Thread Cert.RefAdamWGateIdeal.nD Cert.RefAdamWGateIdeal.τ).loc Cert.RefAdamWGateIdeal.main_v1) = v0 c
          ∧ r.2.mem ((c.tc : Thread Cert.RefAdamWGateIdeal.nD Cert.RefAdamWGateIdeal.τ).loc Cert.RefAdamWGateIdeal.main_v28) = v1 c
          ∧ r.2.mem ((c.tc : Thread Cert.RefAdamWGateIdeal.nD Cert.RefAdamWGateIdeal.τ).loc Cert.RefAdamWGateIdeal.main_v9) = v2 c
          ∧ r.2.mem ((c.tc : Thread Cert.RefAdamWGateIdeal.nD Cert.RefAdamWGateIdeal.τ).loc Cert.RefAdamWGateIdeal.main_v15) = v3 c
          ∧ r.2.mem ((c.tc : Thread Cert.RefAdamWGateIdeal.nD Cert.RefAdamWGateIdeal.τ).loc Cert.RefAdamWGateIdeal.main_arg0) = m' ((c.tc : Thread Cert.RefAdamWGateIdeal.nD Cert.RefAdamWGateIdeal.τ).loc Cert.RefAdamWGateIdeal.main_arg0)
          ∧ r.2.mem ((c.tc : Thread Cert.RefAdamWGateIdeal.nD Cert.RefAdamWGateIdeal.τ).loc Cert.RefAdamWGateIdeal.main_arg1) = m' ((c.tc : Thread Cert.RefAdamWGateIdeal.nD Cert.RefAdamWGateIdeal.τ).loc Cert.RefAdamWGateIdeal.main_arg1)
          ∧ r.2.mem ((c.tc : Thread Cert.RefAdamWGateIdeal.nD Cert.RefAdamWGateIdeal.τ).loc Cert.RefAdamWGateIdeal.main_arg2) = m' ((c.tc : Thread Cert.RefAdamWGateIdeal.nD Cert.RefAdamWGateIdeal.τ).loc Cert.RefAdamWGateIdeal.main_arg2)
          ∧ r.2.mem ((c.tc : Thread Cert.RefAdamWGateIdeal.nD Cert.RefAdamWGateIdeal.τ).loc Cert.RefAdamWGateIdeal.main_arg3) = m' ((c.tc : Thread Cert.RefAdamWGateIdeal.nD Cert.RefAdamWGateIdeal.τ).loc Cert.RefAdamWGateIdeal.main_arg3))

def preserves_AdamWProj_AdamWProjIdeal : Prop :=
  True

def algebraic_AdamWProjIdeal_RefAdamWProjIdeal [hAdamWProjIdeal : Cert.AdamWProjIdeal.Facts] [hRefAdamWProjIdeal : Cert.RefAdamWProjIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg)
    (m' : (ℓ : Loc Cert.RefAdamWProjIdeal.nD Cert.RefAdamWProjIdeal.τ Cert.RefAdamWProjIdeal.sig) → Buf (Elt Ideal) ℓ) (g' : Dev Cert.RefAdamWProjIdeal.nD → PrngReg), Pre_AdamWProjIdeal m →
    (∀ c : Dev Cert.AdamWProjIdeal.nD,
      m' ((c.tc : Thread Cert.RefAdamWProjIdeal.nD Cert.RefAdamWProjIdeal.τ).loc Cert.RefAdamWProjIdeal.main_arg0) = m ((c.tc : Thread Cert.AdamWProjIdeal.nD Cert.AdamWProjIdeal.τ).loc Cert.AdamWProjIdeal.main_arg0)
      ∧ m' ((c.tc : Thread Cert.RefAdamWProjIdeal.nD Cert.RefAdamWProjIdeal.τ).loc Cert.RefAdamWProjIdeal.main_arg1) = m ((c.tc : Thread Cert.AdamWProjIdeal.nD Cert.AdamWProjIdeal.τ).loc Cert.AdamWProjIdeal.main_arg1)
      ∧ m' ((c.tc : Thread Cert.RefAdamWProjIdeal.nD Cert.RefAdamWProjIdeal.τ).loc Cert.RefAdamWProjIdeal.main_arg2) = m ((c.tc : Thread Cert.AdamWProjIdeal.nD Cert.AdamWProjIdeal.τ).loc Cert.AdamWProjIdeal.main_arg2)
      ∧ m' ((c.tc : Thread Cert.RefAdamWProjIdeal.nD Cert.RefAdamWProjIdeal.τ).loc Cert.RefAdamWProjIdeal.main_arg3) = m ((c.tc : Thread Cert.AdamWProjIdeal.nD Cert.AdamWProjIdeal.τ).loc Cert.AdamWProjIdeal.main_arg3)) →
    ∃ (v0 : (c : Dev Cert.AdamWProjIdeal.nD) → Buf (Elt Ideal) ((c.tc : Thread Cert.AdamWProjIdeal.nD Cert.AdamWProjIdeal.τ).loc Cert.AdamWProjIdeal.main_v3_0)) (v1 : (c : Dev Cert.AdamWProjIdeal.nD) → Buf (Elt Ideal) ((c.tc : Thread Cert.AdamWProjIdeal.nD Cert.AdamWProjIdeal.τ).loc Cert.AdamWProjIdeal.main_v3_1)) (v2 : (c : Dev Cert.AdamWProjIdeal.nD) → Buf (Elt Ideal) ((c.tc : Thread Cert.AdamWProjIdeal.nD Cert.AdamWProjIdeal.τ).loc Cert.AdamWProjIdeal.main_v3_2)) (v3 : (c : Dev Cert.AdamWProjIdeal.nD) → Buf (Elt Ideal) ((c.tc : Thread Cert.AdamWProjIdeal.nD Cert.AdamWProjIdeal.τ).loc Cert.AdamWProjIdeal.main_v3_3)),
      θ_run (Cert.AdamWProjIdeal.defs (F := Ideal)) (onTc (τ := Cert.AdamWProjIdeal.τ) (Cert.AdamWProjIdeal.main (F := Ideal))) ⟨m, fun _ => 0, g⟩ (fun r => ∀ c : Dev Cert.AdamWProjIdeal.nD,
          r.2.mem ((c.tc : Thread Cert.AdamWProjIdeal.nD Cert.AdamWProjIdeal.τ).loc Cert.AdamWProjIdeal.main_v3_0) = v0 c
          ∧ r.2.mem ((c.tc : Thread Cert.AdamWProjIdeal.nD Cert.AdamWProjIdeal.τ).loc Cert.AdamWProjIdeal.main_v3_1) = v1 c
          ∧ r.2.mem ((c.tc : Thread Cert.AdamWProjIdeal.nD Cert.AdamWProjIdeal.τ).loc Cert.AdamWProjIdeal.main_v3_2) = v2 c
          ∧ r.2.mem ((c.tc : Thread Cert.AdamWProjIdeal.nD Cert.AdamWProjIdeal.τ).loc Cert.AdamWProjIdeal.main_v3_3) = v3 c
          ∧ r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
          ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
          ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
          ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3))
      ∧ θ_run (Cert.RefAdamWProjIdeal.defs (F := Ideal)) (onTc (τ := Cert.RefAdamWProjIdeal.τ) (Cert.RefAdamWProjIdeal.main (F := Ideal))) ⟨m', fun _ => 0, g'⟩ (fun r => ∀ c : Dev Cert.RefAdamWProjIdeal.nD,
          r.2.mem ((c.tc : Thread Cert.RefAdamWProjIdeal.nD Cert.RefAdamWProjIdeal.τ).loc Cert.RefAdamWProjIdeal.main_v1) = v0 c
          ∧ r.2.mem ((c.tc : Thread Cert.RefAdamWProjIdeal.nD Cert.RefAdamWProjIdeal.τ).loc Cert.RefAdamWProjIdeal.main_v28) = v1 c
          ∧ r.2.mem ((c.tc : Thread Cert.RefAdamWProjIdeal.nD Cert.RefAdamWProjIdeal.τ).loc Cert.RefAdamWProjIdeal.main_v9) = v2 c
          ∧ r.2.mem ((c.tc : Thread Cert.RefAdamWProjIdeal.nD Cert.RefAdamWProjIdeal.τ).loc Cert.RefAdamWProjIdeal.main_v15) = v3 c
          ∧ r.2.mem ((c.tc : Thread Cert.RefAdamWProjIdeal.nD Cert.RefAdamWProjIdeal.τ).loc Cert.RefAdamWProjIdeal.main_arg0) = m' ((c.tc : Thread Cert.RefAdamWProjIdeal.nD Cert.RefAdamWProjIdeal.τ).loc Cert.RefAdamWProjIdeal.main_arg0)
          ∧ r.2.mem ((c.tc : Thread Cert.RefAdamWProjIdeal.nD Cert.RefAdamWProjIdeal.τ).loc Cert.RefAdamWProjIdeal.main_arg1) = m' ((c.tc : Thread Cert.RefAdamWProjIdeal.nD Cert.RefAdamWProjIdeal.τ).loc Cert.RefAdamWProjIdeal.main_arg1)
          ∧ r.2.mem ((c.tc : Thread Cert.RefAdamWProjIdeal.nD Cert.RefAdamWProjIdeal.τ).loc Cert.RefAdamWProjIdeal.main_arg2) = m' ((c.tc : Thread Cert.RefAdamWProjIdeal.nD Cert.RefAdamWProjIdeal.τ).loc Cert.RefAdamWProjIdeal.main_arg2)
          ∧ r.2.mem ((c.tc : Thread Cert.RefAdamWProjIdeal.nD Cert.RefAdamWProjIdeal.τ).loc Cert.RefAdamWProjIdeal.main_arg3) = m' ((c.tc : Thread Cert.RefAdamWProjIdeal.nD Cert.RefAdamWProjIdeal.τ).loc Cert.RefAdamWProjIdeal.main_arg3))

def preserves_AdamWIn_AdamWInIdeal : Prop :=
  True

def algebraic_AdamWInIdeal_RefAdamWInIdeal [hAdamWInIdeal : Cert.AdamWInIdeal.Facts] [hRefAdamWInIdeal : Cert.RefAdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.RefAdamWInIdeal.nD Cert.RefAdamWInIdeal.τ Cert.RefAdamWInIdeal.sig) → Buf (Elt Ideal) ℓ) (g' : Dev Cert.RefAdamWInIdeal.nD → PrngReg), Pre_AdamWInIdeal m →
    (∀ c : Dev Cert.AdamWInIdeal.nD,
      m' ((c.tc : Thread Cert.RefAdamWInIdeal.nD Cert.RefAdamWInIdeal.τ).loc Cert.RefAdamWInIdeal.main_arg0) = m ((c.tc : Thread Cert.AdamWInIdeal.nD Cert.AdamWInIdeal.τ).loc Cert.AdamWInIdeal.main_arg0)
      ∧ m' ((c.tc : Thread Cert.RefAdamWInIdeal.nD Cert.RefAdamWInIdeal.τ).loc Cert.RefAdamWInIdeal.main_arg1) = m ((c.tc : Thread Cert.AdamWInIdeal.nD Cert.AdamWInIdeal.τ).loc Cert.AdamWInIdeal.main_arg1)
      ∧ m' ((c.tc : Thread Cert.RefAdamWInIdeal.nD Cert.RefAdamWInIdeal.τ).loc Cert.RefAdamWInIdeal.main_arg2) = m ((c.tc : Thread Cert.AdamWInIdeal.nD Cert.AdamWInIdeal.τ).loc Cert.AdamWInIdeal.main_arg2)
      ∧ m' ((c.tc : Thread Cert.RefAdamWInIdeal.nD Cert.RefAdamWInIdeal.τ).loc Cert.RefAdamWInIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v6_0)) (v1 : (c : Dev Cert.AdamWInIdeal.nD) → Buf (Elt Ideal) ((c.tc : Thread Cert.AdamWInIdeal.nD Cert.AdamWInIdeal.τ).loc Cert.AdamWInIdeal.main_v6_1)) (v2 : (c : Dev Cert.AdamWInIdeal.nD) → Buf (Elt Ideal) ((c.tc : Thread Cert.AdamWInIdeal.nD Cert.AdamWInIdeal.τ).loc Cert.AdamWInIdeal.main_v6_2)) (v3 : (c : Dev Cert.AdamWInIdeal.nD) → Buf (Elt Ideal) ((c.tc : Thread Cert.AdamWInIdeal.nD Cert.AdamWInIdeal.τ).loc Cert.AdamWInIdeal.main_v6_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v6_0) = v0 c
          ∧ r.2.mem ((c.tc : Thread Cert.AdamWInIdeal.nD Cert.AdamWInIdeal.τ).loc Cert.AdamWInIdeal.main_v6_1) = v1 c
          ∧ r.2.mem ((c.tc : Thread Cert.AdamWInIdeal.nD Cert.AdamWInIdeal.τ).loc Cert.AdamWInIdeal.main_v6_2) = v2 c
          ∧ r.2.mem ((c.tc : Thread Cert.AdamWInIdeal.nD Cert.AdamWInIdeal.τ).loc Cert.AdamWInIdeal.main_v6_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.RefAdamWInIdeal.defs (F := Ideal)) (onTc (τ := Cert.RefAdamWInIdeal.τ) (Cert.RefAdamWInIdeal.main (F := Ideal))) ⟨m', fun _ => 0, g'⟩ (fun r => ∀ c : Dev Cert.RefAdamWInIdeal.nD,
          r.2.mem ((c.tc : Thread Cert.RefAdamWInIdeal.nD Cert.RefAdamWInIdeal.τ).loc Cert.RefAdamWInIdeal.main_v4) = v0 c
          ∧ r.2.mem ((c.tc : Thread Cert.RefAdamWInIdeal.nD Cert.RefAdamWInIdeal.τ).loc Cert.RefAdamWInIdeal.main_v31) = v1 c
          ∧ r.2.mem ((c.tc : Thread Cert.RefAdamWInIdeal.nD Cert.RefAdamWInIdeal.τ).loc Cert.RefAdamWInIdeal.main_v12) = v2 c
          ∧ r.2.mem ((c.tc : Thread Cert.RefAdamWInIdeal.nD Cert.RefAdamWInIdeal.τ).loc Cert.RefAdamWInIdeal.main_v18) = v3 c
          ∧ r.2.mem ((c.tc : Thread Cert.RefAdamWInIdeal.nD Cert.RefAdamWInIdeal.τ).loc Cert.RefAdamWInIdeal.main_arg0) = m' ((c.tc : Thread Cert.RefAdamWInIdeal.nD Cert.RefAdamWInIdeal.τ).loc Cert.RefAdamWInIdeal.main_arg0)
          ∧ r.2.mem ((c.tc : Thread Cert.RefAdamWInIdeal.nD Cert.RefAdamWInIdeal.τ).loc Cert.RefAdamWInIdeal.main_arg1) = m' ((c.tc : Thread Cert.RefAdamWInIdeal.nD Cert.RefAdamWInIdeal.τ).loc Cert.RefAdamWInIdeal.main_arg1)
          ∧ r.2.mem ((c.tc : Thread Cert.RefAdamWInIdeal.nD Cert.RefAdamWInIdeal.τ).loc Cert.RefAdamWInIdeal.main_arg2) = m' ((c.tc : Thread Cert.RefAdamWInIdeal.nD Cert.RefAdamWInIdeal.τ).loc Cert.RefAdamWInIdeal.main_arg2)
          ∧ r.2.mem ((c.tc : Thread Cert.RefAdamWInIdeal.nD Cert.RefAdamWInIdeal.τ).loc Cert.RefAdamWInIdeal.main_arg3) = m' ((c.tc : Thread Cert.RefAdamWInIdeal.nD Cert.RefAdamWInIdeal.τ).loc Cert.RefAdamWInIdeal.main_arg3))

def Claim : Prop :=
  ∃ (hKernel : Cert.Kernel.Facts) (hKernelIdeal : Cert.KernelIdeal.Facts) (hReferenceIdeal : Cert.ReferenceIdeal.Facts) (hDFfHidden : Cert.DFfHidden.Facts) (hDFfHiddenIdeal : Cert.DFfHiddenIdeal.Facts) (hRefDFfHiddenIdeal : Cert.RefDFfHiddenIdeal.Facts) (hDWFf1 : Cert.DWFf1.Facts) (hDWFf1Ideal : Cert.DWFf1Ideal.Facts) (hRefDWFf1Ideal : Cert.RefDWFf1Ideal.Facts) (hDH1 : Cert.DH1.Facts) (hDH1Ideal : Cert.DH1Ideal.Facts) (hRefDH1Ideal : Cert.RefDH1Ideal.Facts) (hFf1 : Cert.Ff1.Facts) (hFf1Ideal : Cert.Ff1Ideal.Facts) (hRefFf1Ideal : Cert.RefFf1Ideal.Facts) (hFf2 : Cert.Ff2.Facts) (hFf2Ideal : Cert.Ff2Ideal.Facts) (hRefFf2Ideal : Cert.RefFf2Ideal.Facts) (hDWOut : Cert.DWOut.Facts) (hDWOutIdeal : Cert.DWOutIdeal.Facts) (hRefDWOutIdeal : Cert.RefDWOutIdeal.Facts) (hDCat : Cert.DCat.Facts) (hDCatIdeal : Cert.DCatIdeal.Facts) (hRefDCatIdeal : Cert.RefDCatIdeal.Facts) (hProjOut : Cert.ProjOut.Facts) (hProjOutIdeal : Cert.ProjOutIdeal.Facts) (hRefProjOutIdeal : Cert.RefProjOutIdeal.Facts) (hDWGate : Cert.DWGate.Facts) (hDWGateIdeal : Cert.DWGateIdeal.Facts) (hRefDWGateIdeal : Cert.RefDWGateIdeal.Facts) (hDWProj : Cert.DWProj.Facts) (hDWProjIdeal : Cert.DWProjIdeal.Facts) (hRefDWProjIdeal : Cert.RefDWProjIdeal.Facts) (hAdamWOut : Cert.AdamWOut.Facts) (hAdamWOutIdeal : Cert.AdamWOutIdeal.Facts) (hRefAdamWOutIdeal : Cert.RefAdamWOutIdeal.Facts) (hAdamWFf1 : Cert.AdamWFf1.Facts) (hAdamWFf1Ideal : Cert.AdamWFf1Ideal.Facts) (hRefAdamWFf1Ideal : Cert.RefAdamWFf1Ideal.Facts) (hAdamWFf2 : Cert.AdamWFf2.Facts) (hAdamWFf2Ideal : Cert.AdamWFf2Ideal.Facts) (hRefAdamWFf2Ideal : Cert.RefAdamWFf2Ideal.Facts) (hAdamWGate : Cert.AdamWGate.Facts) (hAdamWGateIdeal : Cert.AdamWGateIdeal.Facts) (hRefAdamWGateIdeal : Cert.RefAdamWGateIdeal.Facts) (hAdamWProj : Cert.AdamWProj.Facts) (hAdamWProjIdeal : Cert.AdamWProjIdeal.Facts) (hRefAdamWProjIdeal : Cert.RefAdamWProjIdeal.Facts) (hAdamWIn : Cert.AdamWIn.Facts) (hAdamWInIdeal : Cert.AdamWInIdeal.Facts) (hRefAdamWInIdeal : Cert.RefAdamWInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DFfHidden (hDFfHidden := hDFfHidden)
    ∧ quiescent_DFfHiddenIdeal (hDFfHiddenIdeal := hDFfHiddenIdeal)
    ∧ quiescent_RefDFfHiddenIdeal (hRefDFfHiddenIdeal := hRefDFfHiddenIdeal)
    ∧ quiescent_DWFf1 (hDWFf1 := hDWFf1)
    ∧ quiescent_DWFf1Ideal (hDWFf1Ideal := hDWFf1Ideal)
    ∧ quiescent_RefDWFf1Ideal (hRefDWFf1Ideal := hRefDWFf1Ideal)
    ∧ quiescent_DH1 (hDH1 := hDH1)
    ∧ quiescent_DH1Ideal (hDH1Ideal := hDH1Ideal)
    ∧ quiescent_RefDH1Ideal (hRefDH1Ideal := hRefDH1Ideal)
    ∧ quiescent_Ff1 (hFf1 := hFf1)
    ∧ quiescent_Ff1Ideal (hFf1Ideal := hFf1Ideal)
    ∧ quiescent_RefFf1Ideal (hRefFf1Ideal := hRefFf1Ideal)
    ∧ quiescent_Ff2 (hFf2 := hFf2)
    ∧ quiescent_Ff2Ideal (hFf2Ideal := hFf2Ideal)
    ∧ quiescent_RefFf2Ideal (hRefFf2Ideal := hRefFf2Ideal)
    ∧ quiescent_DWOut (hDWOut := hDWOut)
    ∧ quiescent_DWOutIdeal (hDWOutIdeal := hDWOutIdeal)
    ∧ quiescent_RefDWOutIdeal (hRefDWOutIdeal := hRefDWOutIdeal)
    ∧ quiescent_DCat (hDCat := hDCat)
    ∧ quiescent_DCatIdeal (hDCatIdeal := hDCatIdeal)
    ∧ quiescent_RefDCatIdeal (hRefDCatIdeal := hRefDCatIdeal)
    ∧ quiescent_ProjOut (hProjOut := hProjOut)
    ∧ quiescent_ProjOutIdeal (hProjOutIdeal := hProjOutIdeal)
    ∧ quiescent_RefProjOutIdeal (hRefProjOutIdeal := hRefProjOutIdeal)
    ∧ quiescent_DWGate (hDWGate := hDWGate)
    ∧ quiescent_DWGateIdeal (hDWGateIdeal := hDWGateIdeal)
    ∧ quiescent_RefDWGateIdeal (hRefDWGateIdeal := hRefDWGateIdeal)
    ∧ quiescent_DWProj (hDWProj := hDWProj)
    ∧ quiescent_DWProjIdeal (hDWProjIdeal := hDWProjIdeal)
    ∧ quiescent_RefDWProjIdeal (hRefDWProjIdeal := hRefDWProjIdeal)
    ∧ quiescent_AdamWOut (hAdamWOut := hAdamWOut)
    ∧ quiescent_AdamWOutIdeal (hAdamWOutIdeal := hAdamWOutIdeal)
    ∧ quiescent_RefAdamWOutIdeal (hRefAdamWOutIdeal := hRefAdamWOutIdeal)
    ∧ quiescent_AdamWFf1 (hAdamWFf1 := hAdamWFf1)
    ∧ quiescent_AdamWFf1Ideal (hAdamWFf1Ideal := hAdamWFf1Ideal)
    ∧ quiescent_RefAdamWFf1Ideal (hRefAdamWFf1Ideal := hRefAdamWFf1Ideal)
    ∧ quiescent_AdamWFf2 (hAdamWFf2 := hAdamWFf2)
    ∧ quiescent_AdamWFf2Ideal (hAdamWFf2Ideal := hAdamWFf2Ideal)
    ∧ quiescent_RefAdamWFf2Ideal (hRefAdamWFf2Ideal := hRefAdamWFf2Ideal)
    ∧ quiescent_AdamWGate (hAdamWGate := hAdamWGate)
    ∧ quiescent_AdamWGateIdeal (hAdamWGateIdeal := hAdamWGateIdeal)
    ∧ quiescent_RefAdamWGateIdeal (hRefAdamWGateIdeal := hRefAdamWGateIdeal)
    ∧ quiescent_AdamWProj (hAdamWProj := hAdamWProj)
    ∧ quiescent_AdamWProjIdeal (hAdamWProjIdeal := hAdamWProjIdeal)
    ∧ quiescent_RefAdamWProjIdeal (hRefAdamWProjIdeal := hRefAdamWProjIdeal)
    ∧ quiescent_AdamWIn (hAdamWIn := hAdamWIn)
    ∧ quiescent_AdamWInIdeal (hAdamWInIdeal := hAdamWInIdeal)
    ∧ quiescent_RefAdamWInIdeal (hRefAdamWInIdeal := hRefAdamWInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DFfHidden_DFfHiddenIdeal
    ∧ algebraic_DFfHiddenIdeal_RefDFfHiddenIdeal (hDFfHiddenIdeal := hDFfHiddenIdeal) (hRefDFfHiddenIdeal := hRefDFfHiddenIdeal)
    ∧ preserves_DWFf1_DWFf1Ideal
    ∧ algebraic_DWFf1Ideal_RefDWFf1Ideal (hDWFf1Ideal := hDWFf1Ideal) (hRefDWFf1Ideal := hRefDWFf1Ideal)
    ∧ preserves_DH1_DH1Ideal
    ∧ algebraic_DH1Ideal_RefDH1Ideal (hDH1Ideal := hDH1Ideal) (hRefDH1Ideal := hRefDH1Ideal)
    ∧ preserves_Ff1_Ff1Ideal
    ∧ algebraic_Ff1Ideal_RefFf1Ideal (hFf1Ideal := hFf1Ideal) (hRefFf1Ideal := hRefFf1Ideal)
    ∧ preserves_Ff2_Ff2Ideal
    ∧ algebraic_Ff2Ideal_RefFf2Ideal (hFf2Ideal := hFf2Ideal) (hRefFf2Ideal := hRefFf2Ideal)
    ∧ preserves_DWOut_DWOutIdeal
    ∧ algebraic_DWOutIdeal_RefDWOutIdeal (hDWOutIdeal := hDWOutIdeal) (hRefDWOutIdeal := hRefDWOutIdeal)
    ∧ preserves_DCat_DCatIdeal
    ∧ algebraic_DCatIdeal_RefDCatIdeal (hDCatIdeal := hDCatIdeal) (hRefDCatIdeal := hRefDCatIdeal)
    ∧ preserves_ProjOut_ProjOutIdeal
    ∧ algebraic_ProjOutIdeal_RefProjOutIdeal (hProjOutIdeal := hProjOutIdeal) (hRefProjOutIdeal := hRefProjOutIdeal)
    ∧ preserves_DWGate_DWGateIdeal
    ∧ algebraic_DWGateIdeal_RefDWGateIdeal (hDWGateIdeal := hDWGateIdeal) (hRefDWGateIdeal := hRefDWGateIdeal)
    ∧ preserves_DWProj_DWProjIdeal
    ∧ algebraic_DWProjIdeal_RefDWProjIdeal (hDWProjIdeal := hDWProjIdeal) (hRefDWProjIdeal := hRefDWProjIdeal)
    ∧ preserves_AdamWOut_AdamWOutIdeal
    ∧ algebraic_AdamWOutIdeal_RefAdamWOutIdeal (hAdamWOutIdeal := hAdamWOutIdeal) (hRefAdamWOutIdeal := hRefAdamWOutIdeal)
    ∧ preserves_AdamWFf1_AdamWFf1Ideal
    ∧ algebraic_AdamWFf1Ideal_RefAdamWFf1Ideal (hAdamWFf1Ideal := hAdamWFf1Ideal) (hRefAdamWFf1Ideal := hRefAdamWFf1Ideal)
    ∧ preserves_AdamWFf2_AdamWFf2Ideal
    ∧ algebraic_AdamWFf2Ideal_RefAdamWFf2Ideal (hAdamWFf2Ideal := hAdamWFf2Ideal) (hRefAdamWFf2Ideal := hRefAdamWFf2Ideal)
    ∧ preserves_AdamWGate_AdamWGateIdeal
    ∧ algebraic_AdamWGateIdeal_RefAdamWGateIdeal (hAdamWGateIdeal := hAdamWGateIdeal) (hRefAdamWGateIdeal := hRefAdamWGateIdeal)
    ∧ preserves_AdamWProj_AdamWProjIdeal
    ∧ algebraic_AdamWProjIdeal_RefAdamWProjIdeal (hAdamWProjIdeal := hAdamWProjIdeal) (hRefAdamWProjIdeal := hRefAdamWProjIdeal)
    ∧ preserves_AdamWIn_AdamWInIdeal
    ∧ algebraic_AdamWInIdeal_RefAdamWInIdeal (hAdamWInIdeal := hAdamWInIdeal) (hRefAdamWInIdeal := hRefAdamWInIdeal)
-- ==== Pre_finite.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S256x1024 .f32) (main_arg5 : FVec F S1x1024 .f32) (main_arg6 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S8192x1024 .f32) (main_arg1 : FVec F S8192x256 .f32) (main_arg2 : FVec F S8192x1024 .f32) (main_arg3 : FVec F S1024x1024 .f32) (main_arg4 : FVec F S256x1024 .f32) (main_arg5 : FVec F S1x1024 .f32) (main_arg6 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 42
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x1024, .bf16⟩
  | .hbm, ⟨24, _⟩ => ⟨S256x1024, .bf16⟩
  | .hbm, ⟨25, _⟩ => ⟨S8192x1024, .bf16⟩
  | .hbm, ⟨26, _⟩ => ⟨S8192x1024, .bf16⟩
  | .hbm, ⟨27, _⟩ => ⟨S8192x1024, .f32⟩
  | .hbm, ⟨28, _⟩ => ⟨S8192x1024, .bf16⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x256, .f32⟩
  | .local _ .vmem, ⟨4, _⟩ => ⟨S512x256, .f32⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_cst_2 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_43 : BitVec 32 := 0#32
  let v98 : BitVec 1 := Scalar.cmpi .ne v97 c0_i32_43
  v98

def k0_cond2 (i : grid0.Coords) : BitVec 1 :=
  let arg0 : BitVec 32 := BitVec.ofNat 32 (i 0).val
  let c0_i32_44 : BitVec 32 := 0#32
  let v99 : BitVec 1 := Scalar.cmpi .sgt arg0 c0_i32_44
  let v100 : BitVec 32 := Scalar.extui v99
  let c0_i32_45 : BitVec 32 := 0#32
  let v101 : BitVec 1 := Scalar.cmpi .ne v100 c0_i32_45
  v101

def k0_cond3 (i : grid0.Coords) : BitVec 1 :=
  let arg0 : BitVec 32 := BitVec.ofNat 32 (i 0).val
  let c0_i32_46 : BitVec 32 := 0#32
  let v102 : BitVec 1 := Scalar.cmpi .eq arg0 c0_i32_46
  let v103 : BitVec 32 := Scalar.extui v102
  let c0_i32_47 : BitVec 32 := 0#32
  let v104 : BitVec 1 := Scalar.cmpi .ne v103 c0_i32_47
  v104

def k0_cond4 (i : grid0.Coords) : BitVec 1 :=
  let arg0 : BitVec 32 := BitVec.ofNat 32 (i 0).val
  let c0_i32_48 : BitVec 32 := 0#32
  let v105 : BitVec 1 := Scalar.cmpi .sgt arg0 c0_i32_48
  let v106 : BitVec 32 := Scalar.extui v105
  let c0_i32_49 : BitVec 32 := 0#32
  let v107 : BitVec 1 := Scalar.cmpi .ne v106 c0_i32_49
  v107

def k0_cond5 (i : grid0.Coords) : BitVec 1 :=
  let arg0 : BitVec 32 := BitVec.ofNat 32 (i 0).val
  let c0_i32_50 : BitVec 32 := 0#32
  let v108 : BitVec 1 := Scalar.cmpi .eq arg0 c0_i32_50
  let v109 : BitVec 32 := Scalar.extui v108
  let c0_i32_51 : BitVec 32 := 0#32
  let v110 : BitVec 1 := Scalar.cmpi .ne v109 c0_i32_51
  v110

def k0_cond6 (i : grid0.Coords) : BitVec 1 :=
  let arg0 : BitVec 32 := BitVec.ofNat 32 (i 0).val
  let c0_i32_52 : BitVec 32 := 0#32
  let v111 : BitVec 1 := Scalar.cmpi .sgt arg0 c0_i32_52
  let v112 : BitVec 32 := Scalar.extui v111
  let c0_i32_53 : BitVec 32 := 0#32
  let v113 : BitVec 1 := Scalar.cmpi .ne v112 c0_i32_53
  v113

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]
-- ==== ReferenceIdeal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1024x1024, .f32⟩
  | 4 => ⟨S256x1024, .f32⟩
  | 5 => ⟨S1x1024, .f32⟩
  | 6 => ⟨S1x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192, .f32⟩
  | 68 => ⟨S_, .f32⟩
  | 69 => ⟨S8192, .f32⟩
  | 70 => ⟨S8192, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8192, .f32⟩
  | 79 => ⟨S_, .f32⟩
  | 80 => ⟨S8192, .f32⟩
  | 81 => ⟨S8192, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S8192x1024, .f32⟩
  | 95 => ⟨S8192x1024, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .bf16⟩
  | 8 => ⟨S8192x1024, .bf16⟩
  | 9 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_cst_15 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_cst_17 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_cst_21 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_22 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_24 : Ref sig .tc := ⟨.hbm, 124, rfl⟩
abbrev main_v92 : Ref sig .tc := ⟨.hbm, 125, rfl⟩
abbrev main_v93 : Ref sig .tc := ⟨.hbm, 126, rfl⟩
abbrev main_cst_25 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩

abbrev nD : Nat := 1
abbrev τ : Topo := Topo.v7x

variable {F : FTy → Type} [FloatOps F]
-- ==== DFfHidden.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 28
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | .hbm, ⟨25, _⟩ => ⟨S8192x1024, .bf16⟩
  | .hbm, ⟨26, _⟩ => ⟨S4096x1024, .bf16⟩
  | .hbm, ⟨27, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDFfHiddenIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .i1⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== DWFf1.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x4096, .bf16⟩
  | .hbm, ⟨20, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDWFf1Ideal.lean ====
abbrev S8192x1024 : Shape := ⟨2, ![8192, 1024]⟩
abbrev S1x1024 : Shape := ⟨2, ![1, 1024]⟩
abbrev S8192x4096 : Shape := ⟨2, ![8192, 4096]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S4096x1024, .f32⟩
  | .hbm, ⟨22, _⟩ => ⟨S1024x4096, .f32⟩
  | .hbm, ⟨23, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DH1.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S8x1024 : Shape := ⟨2, ![8, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩
abbrev S_ : Shape := ⟨0, ![]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S1024x4096, .bf16⟩
  | .hbm, ⟨6, _⟩ => ⟨S8192x4096, .bf16⟩
  | .hbm, ⟨7, _⟩ => ⟨S8192x1024, .f32⟩
  | .hbm, ⟨8, _⟩ => ⟨S8192x1024, .bf16⟩
  | .hbm, ⟨9, _⟩ => ⟨S8x1024, .f32⟩
  | .hbm, ⟨10, _⟩ => ⟨S_, .f32⟩
  | .hbm, ⟨11, _⟩ => ⟨S1024, .f32⟩
  | .hbm, ⟨12, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .sgt arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== RefDH1Ideal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Ff1.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x1024 : Shape := ⟨2, ![1024, 1024]⟩

abbrev nBuf : Space → Nat
  | .hbm => 22
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x4096, .bf16⟩
  | .hbm, ⟨20, _⟩ => ⟨S8192x4096, .bf16⟩
  | .hbm, ⟨21, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefFf1Ideal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Ff2.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S4096x1024, .bf16⟩
  | .hbm, ⟨27, _⟩ => ⟨S8192x1024, .f32⟩
  | .hbm, ⟨28, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefFf2Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== DWOut.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDWOutIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DCat.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S2048x1024, .bf16⟩
  | .hbm, ⟨3, _⟩ => ⟨S8192x1024, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDCatIdeal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | .hbm, ⟨6, _⟩ => ⟨S8192x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjOut.lean ====
abbrev S8192x1024 : Shape := ⟨2, ![8192, 1024]⟩
abbrev S8192x2048 : Shape := ⟨2, ![8192, 2048]⟩
abbrev S2048x1024 : Shape := ⟨2, ![2048, 1024]⟩
abbrev S1x1024 : Shape := ⟨2, ![1, 1024]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1x1024, .f32⟩
  | .hbm, ⟨4, _⟩ => ⟨S8192x2048, .bf16⟩
  | .hbm, ⟨5, _⟩ => ⟨S2048x1024, .bf16⟩
  | .hbm, ⟨6, _⟩ => ⟨S8192x1024, .f32⟩
  | .hbm, ⟨7, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefProjOutIdeal.lean ====
abbrev S8192x1024 : Shape := ⟨2, ![8192, 1024]⟩
abbrev S8192x2048 : Shape := ⟨2, ![8192, 2048]⟩
abbrev S2048x1024 : Shape := ⟨2, ![2048, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== DWGate.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S2048x1024 : Shape := ⟨2, ![2048, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDWGateIdeal.lean ====
abbrev S8192x1024 : Shape := ⟨2, ![8192, 1024]⟩
abbrev S1x1024 : Shape := ⟨2, ![1, 1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DWProj.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefDWProjIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamWOut.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RefAdamWOutIdeal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamWFf1.lean ====
abbrev S8x1024x512 : Shape := ⟨3, ![8, 1024, 512]⟩
abbrev S1x1024x512 : Shape := ⟨3, ![1, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 11
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamWFf1Ideal.lean ====
abbrev S8x1024x512 : Shape := ⟨3, ![8, 1024, 512]⟩
abbrev S1x1024x512 : Shape := ⟨3, ![1, 1024, 512]⟩
abbrev S_ : Shape := ⟨0, ![]⟩
abbrev S1024x512 : Shape := ⟨2, ![1024, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S1024x512, .f32⟩
  | .hbm, ⟨42, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamWFf2.lean ====
abbrev S8x512x1024 : Shape := ⟨3, ![8, 512, 1024]⟩
abbrev S1x512x1024 : Shape := ⟨3, ![1, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamWFf2Ideal.lean ====
abbrev S8x512x1024 : Shape := ⟨3, ![8, 512, 1024]⟩
abbrev S1x512x1024 : Shape := ⟨3, ![1, 512, 1024]⟩
abbrev S_ : Shape := ⟨0, ![]⟩
abbrev S512x1024 : Shape := ⟨2, ![512, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512x1024, .f32⟩
  | .hbm, ⟨42, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamWGate.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RefAdamWGateIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamWProj.lean ====
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RefAdamWProjIdeal.lean ====
abbrev S8x256x128 : Shape := ⟨3, ![8, 256, 128]⟩
abbrev S1x256x128 : Shape := ⟨3, ![1, 256, 128]⟩
abbrev S_ : Shape := ⟨0, ![]⟩
abbrev S256x128 : Shape := ⟨2, ![256, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | .hbm, ⟨39, _⟩ => ⟨S256x128, .f32⟩
  | .hbm, ⟨40, _⟩ => ⟨S_, .f32⟩
  | .hbm, ⟨41, _⟩ => ⟨S256x128, .f32⟩
  | .hbm, ⟨42, _⟩ => ⟨S256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamWIn.lean ====
abbrev S8x578x1024 : Shape := ⟨3, ![8, 578, 1024]⟩
abbrev S1x1024x578 : Shape := ⟨3, ![1, 1024, 578]⟩
abbrev S1024x578 : Shape := ⟨2, ![1024, 578]⟩
abbrev S578x1024 : Shape := ⟨2, ![578, 1024]⟩
abbrev S8x578x256 : Shape := ⟨3, ![8, 578, 256]⟩
abbrev S578x256 : Shape := ⟨2, ![578, 256]⟩
abbrev S1x578x256 : Shape := ⟨3, ![1, 578, 256]⟩

abbrev nBuf : Space → Nat
  | .hbm => 14
  | .vmem => 16
  | .smem => 0
  | _ => 0

abbrev bufTy : (tb : Table) → Fin (tcTables nBuf tb) → BufTy
  | .hbm, ⟨0, _⟩ => ⟨S8x578x1024, .bf16⟩
  | .hbm, ⟨1, _⟩ => ⟨S1x1024x578, .f32⟩
  | .hbm, ⟨2, _⟩ => ⟨S1x1024x578, .f32⟩
  | .hbm, ⟨3, _⟩ => ⟨S1x1024x578, .f32⟩
  | .hbm, ⟨4, _⟩ => ⟨S1024x578, .f32⟩
  | .hbm, ⟨5, _⟩ => ⟨S578x1024, .f32⟩
  | .hbm, ⟨6, _⟩ => ⟨S1024x578, .f32⟩
  | .hbm, ⟨7, _⟩ => ⟨S578x1024, .f32⟩
  | .hbm, ⟨8, _⟩ => ⟨S1024x578, .f32⟩
  | .hbm, ⟨9, _⟩ => ⟨S578x1024, .f32⟩
  | .hbm, ⟨10, _⟩ => ⟨S578x1024, .f32⟩
  | .hbm, ⟨11, _⟩ => ⟨S578x1024, .f32⟩
  | .hbm, ⟨12, _⟩ => ⟨S578x1024, .f32⟩
  | .hbm, ⟨13, _⟩ => ⟨S578x1024, .f32⟩
  | .local _ .vmem, ⟨0, _⟩ => ⟨S8x578x256, .bf16⟩
  | .local _ .vmem, ⟨1, _⟩ => ⟨S8x578x256, .bf16⟩
  | .local _ .vmem, ⟨2, _⟩ => ⟨S578x256, .f32⟩
  | .local _ .vmem, ⟨3, _⟩ => ⟨S578x256, .f32⟩
  | .local _ .vmem, ⟨4, _⟩ => ⟨S578x256, .f32⟩
  | .local _ .vmem, ⟨5, _⟩ => ⟨S578x256, .f32⟩
  | .local _ .vmem, ⟨6, _⟩ => ⟨S578x256, .f32⟩
  | .local _ .vmem, ⟨7, _⟩ => ⟨S578x256, .f32⟩
  | .local _ .vmem, ⟨8, _⟩ => ⟨S578x256, .f32⟩
  | .local _ .vmem, ⟨9, _⟩ => ⟨S578x256, .f32⟩
  | .local _ .vmem, ⟨10, _⟩ => ⟨S578x256, .f32⟩
  | .local _ .vmem, ⟨11, _⟩ => ⟨S578x256, .f32⟩
  | .local _ .vmem, ⟨12, _⟩ => ⟨S578x256, .f32⟩
  | .local _ .vmem, ⟨13, _⟩ => ⟨S578x256, .f32⟩
  | .local _ .vmem, ⟨14, _⟩ => ⟨S578x256, .f32⟩
  | .local _ .vmem, ⟨15, _⟩ => ⟨S578x256, .f32⟩
  | _, _ => ⟨S8x578x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x578x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S578x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S578x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S578x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S578x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S578x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S578x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S578x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamWInIdeal.lean ====
abbrev S8x578x1024 : Shape := ⟨3, ![8, 578, 1024]⟩
abbrev S1x1024x578 : Shape := ⟨3, ![1, 1024, 578]⟩
abbrev S1x578x1024 : Shape := ⟨3, ![1, 578, 1024]⟩
abbrev S_ : Shape := ⟨0, ![]⟩
abbrev S578x1024 : Shape := ⟨2, ![578, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x578x1024, .bf16⟩
  | .hbm, ⟨1, _⟩ => ⟨S1x1024x578, .f32⟩
  | .hbm, ⟨2, _⟩ => ⟨S1x1024x578, .f32⟩
  | .hbm, ⟨3, _⟩ => ⟨S1x1024x578, .f32⟩
  | .hbm, ⟨4, _⟩ => ⟨S1x578x1024, .f32⟩
  | .hbm, ⟨5, _⟩ => ⟨S1x578x1024, .f32⟩
  | .hbm, ⟨6, _⟩ => ⟨S1x578x1024, .f32⟩
  | .hbm, ⟨7, _⟩ => ⟨S8x578x1024, .f32⟩
  | .hbm, ⟨8, _⟩ => ⟨S_, .f32⟩
  | .hbm, ⟨9, _⟩ => ⟨S578x1024, .f32⟩
  | .hbm, ⟨10, _⟩ => ⟨S578x1024, .f32⟩
  | .hbm, ⟨11, _⟩ => ⟨S578x1024, .f32⟩
  | .hbm, ⟨12, _⟩ => ⟨S578x1024, .f32⟩
  | .hbm, ⟨13, _⟩ => ⟨S_, .f32⟩
  | .hbm, ⟨14, _⟩ => ⟨S578x1024, .f32⟩
  | .hbm, ⟨15, _⟩ => ⟨S578x1024, .f32⟩
  | .hbm, ⟨16, _⟩ => ⟨S_, .f32⟩
  | .hbm, ⟨17, _⟩ => ⟨S578x1024, .f32⟩
  | .hbm, ⟨18, _⟩ => ⟨S578x1024, .f32⟩
  | .hbm, ⟨19, _⟩ => ⟨S578x1024, .f32⟩
  | .hbm, ⟨20, _⟩ => ⟨S_, .f32⟩
  | .hbm, ⟨21, _⟩ => ⟨S578x1024, .f32⟩
  | .hbm, ⟨22, _⟩ => ⟨S578x1024, .f32⟩
  | .hbm, ⟨23, _⟩ => ⟨S578x1024, .f32⟩
  | .hbm, ⟨24, _⟩ => ⟨S_, .f32⟩
  | .hbm, ⟨25, _⟩ => ⟨S578x1024, .f32⟩
  | .hbm, ⟨26, _⟩ => ⟨S578x1024, .f32⟩
  | .hbm, ⟨27, _⟩ => ⟨S578x1024, .f32⟩
  | .hbm, ⟨28, _⟩ => ⟨S_, .f32⟩
  | .hbm, ⟨29, _⟩ => ⟨S578x1024, .f32⟩
  | .hbm, ⟨30, _⟩ => ⟨S578x1024, .f32⟩
  | .hbm, ⟨31, _⟩ => ⟨S_, .f32⟩
  | .hbm, ⟨32, _⟩ => ⟨S578x1024, .f32⟩
  | .hbm, ⟨33, _⟩ => ⟨S578x1024, .f32⟩
  | .hbm, ⟨34, _⟩ => ⟨S578x1024, .f32⟩
  | .hbm, ⟨35, _⟩ => ⟨S_, .f32⟩
  | .hbm, ⟨36, _⟩ => ⟨S578x1024, .f32⟩
  | .hbm, ⟨37, _⟩ => ⟨S578x1024, .f32⟩
  | .hbm, ⟨38, _⟩ => ⟨S578x1024, .f32⟩
  | .hbm, ⟨39, _⟩ => ⟨S_, .f32⟩
  | .hbm, ⟨40, _⟩ => ⟨S578x1024, .f32⟩
  | .hbm, ⟨41, _⟩ => ⟨S578x1024, .f32⟩
  | .hbm, ⟨42, _⟩ => ⟨S578x1024, .f32⟩
  | .hbm, ⟨43, _⟩ => ⟨S_, .f32⟩
  | .hbm, ⟨44, _⟩ => ⟨S578x1024, .f32⟩
  | .hbm, ⟨45, _⟩ => ⟨S578x1024, .f32⟩
  | _, _ => ⟨S8x578x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Products.lean ====
/-
  The three shapes of a tile's product, read at an index at the ideal values: rows by columns, rows by rows, columns by
  columns.
-/
module

public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

open scoped BigOperators

namespace Cert.Products

open Idealize.ShloMosaic Idealize.ShloMosaic.ValueIdx

theorem split2 {M N : ℕ} (i : (⟨2, ![M, N]⟩ : Shape).Idx) : ∃ (r : Fin M) (c : Fin N), i = ix2 r c :=
  ⟨i 0, i 1, funext fun a => by match a with | ⟨0, _⟩ => rfl | ⟨1, _⟩ => rfl⟩

/-- Two indices with the same coordinates. -/
theorem same2 {M N : ℕ} {i j : (⟨2, ![M, N]⟩ : Shape).Idx} (h0 : (i 0).val = (j 0).val) (h1 : (i 1).val = (j 1).val) : i = j :=
  funext fun a => Fin.ext (match a with | ⟨0, _⟩ => h0 | ⟨1, _⟩ => h1)

/-- A sum's `j`-th stretch of `B` terms. -/
def part {n : ℕ} (f : Fin n → EReal) (B j : ℕ) (h : B * j + B ≤ n) : EReal :=
  ∑ k : Fin B, f ⟨B * j + k.val, by have := k.isLt; omega⟩

theorem parts {n : ℕ} (f : Fin n → EReal) (B m : ℕ) (h : m * B = n) :
    ∑ r : Fin n, f r = ∑ j : Fin m, part f B j.val (by have := Nat.mul_le_mul_right B (Nat.succ_le_of_lt j.isLt); subst h; rw [Nat.mul_comm B]; exact (Nat.succ_mul _ _).symm.le.trans this) := by
  subst h
  rw [← Equiv.sum_comp finProdFinEquiv f, Fintype.sum_prod_type]
  refine Finset.sum_congr rfl fun j _ => Finset.sum_congr rfl fun k _ => congrArg f (Fin.ext ?_)
  exact Nat.add_comm _ _

/-- The products summed at an entry of a product of columns by columns. -/
def pairs {K M N : ℕ} {φ₁ φ₂ : FTy} (l : FVec Ideal ⟨2, ![K, M]⟩ φ₁) (r : FVec Ideal ⟨2, ![K, N]⟩ φ₂) (i : (⟨2, ![M, N]⟩ : Shape).Idx)
    (k : Fin K) : EReal := l (ix2 k (i 0)) * r (ix2 k (i 1))

/-- A zero added in front, at the ideal values. -/
theorem zadd (x : EReal) : (FloatOps.ofBits (F := Ideal) .f32 0x00000000#32 : EReal) + x = x := by
  rw [show (FloatOps.ofBits (F := Ideal) .f32 0x00000000#32 : EReal) = 0 from Ideal.ofBits_zero_f32, zero_add]

/-- Rows by columns. -/
theorem nn {M K N : ℕ} {φ₁ φ₂ : FTy} (l : FVec Ideal ⟨2, ![M, K]⟩ φ₁) (r : FVec Ideal ⟨2, ![K, N]⟩ φ₂) (i : (⟨2, ![M, N]⟩ : Shape).Idx) :
    FloatOps.matmul (DotDims.plain M K N) none l r (constant ⟨2, ![M, N]⟩ .f32 0x00000000#32) i
      = ∑ k : Fin K, l (ix2 (i 0) k) * r (ix2 k (i 1)) := by
  obtain ⟨a, b, rfl⟩ := split2 i
  exact (Ideal.matmul_plain_apply ..).trans (zadd _)

/-- Rows by rows. -/
theorem nt {M K N : ℕ} {φ₁ φ₂ : FTy} (l : FVec Ideal ⟨2, ![M, K]⟩ φ₁) (r : FVec Ideal ⟨2, ![N, K]⟩ φ₂) (i : (⟨2, ![M, N]⟩ : Shape).Idx) :
    FloatOps.matmul (DotDims.transposedRhs M K N) none l r (constant ⟨2, ![M, N]⟩ .f32 0x00000000#32) i
      = ∑ k : Fin K, l (ix2 (i 0) k) * r (ix2 (i 1) k) := by
  obtain ⟨a, b, rfl⟩ := split2 i
  exact (Ideal.matmul_transposedRhs_apply ..).trans (zadd _)

/-- The dimensions of a product of columns by columns. -/
def cols (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem cols_rank (K M N : ℕ) : (cols K M N).contr.rank = 1 := rfl
theorem cols_size (K M N : ℕ) : (cols K M N).contr.size ⟨0, by rw [cols_rank]; exact Nat.one_pos⟩ = K := rfl
/-- The contracted coordinate. -/
def colsContr (K M N : ℕ) : (cols K M N).contr.Idx ≃ Fin K := contrEquiv1 _ K (cols_rank K M N) (cols_size K M N)

/-- Columns by columns. -/
theorem tn {K M N : ℕ} {φ₁ φ₂ : FTy} (l : FVec Ideal ⟨2, ![K, M]⟩ φ₁) (r : FVec Ideal ⟨2, ![K, N]⟩ φ₂) (i : (⟨2, ![M, N]⟩ : Shape).Idx) :
    FloatOps.matmul (cols K M N) none l r (constant ⟨2, ![M, N]⟩ .f32 0x00000000#32) i
      = ∑ k : Fin K, l (ix2 k (i 0)) * r (ix2 k (i 1)) := by
  obtain ⟨a, b, rfl⟩ := split2 i
  rw [Ideal.matmul_constant_zero_apply, ← Equiv.sum_comp (colsContr K M N).symm]
  refine Finset.sum_congr rfl fun k _ => ?_
  have hk := contrEquiv1_symm_val _ K (cols_rank K M N) (cols_size K M N) k
  rw [show (cols K M N).lhsIdx (ix2 a b) ((colsContr K M N).symm k) = ix2 k a from
      funext fun d => Fin.ext (match d with | ⟨0, _⟩ => hk | ⟨1, _⟩ => rfl),
    show (cols K M N).rhsIdx (ix2 a b) ((colsContr K M N).symm k) = ix2 k b from
      funext fun d => Fin.ext (match d with | ⟨0, _⟩ => hk | ⟨1, _⟩ => rfl)]
  rfl

/-- Twice a number, as a product with two and as a sum. -/
theorem two (z : EReal) : z * ((2 : ℝ) : EReal) = z + z := by
  induction z with
  | bot => rw [EReal.bot_mul_coe_of_pos (by norm_num)]; rfl
  | top => rw [EReal.top_mul_coe_of_pos (by norm_num)]; rfl
  | coe x => rw [← EReal.coe_mul, ← EReal.coe_add]; congr 1; ring

/-- The squared relu's transpose, as the kernel and as the reference's branch write it. -/
theorem relu_back (a s z : Ideal .f32) (hz : z = (0 : EReal)) :
    (s : EReal) * ((2 : ℝ) : EReal) * FloatOps.maximumf a z
      = Scalar.select (FloatOps.cmpf .ogt a z) (FloatOps.addf (FloatOps.mulf (FloatOps.maximumf a z) s) (FloatOps.mulf s (FloatOps.maximumf a z))) z := by
  subst hz
  show (s : EReal) * ((2 : ℝ) : EReal) * max (a : EReal) 0 = _
  by_cases h : (0 : EReal) < a
  · rw [show FloatOps.cmpf (F := Ideal) (φ := .f32) .ogt a (0 : EReal) = 1 from by
      show BitVec.ofBool (decide ((0 : EReal) < a)) = 1
      rw [decide_eq_true h]; rfl]
    show _ = max (a : EReal) 0 * s + s * max (a : EReal) 0
    rw [mul_comm (max (a : EReal) 0) s, ← two, mul_right_comm]
  · rw [show FloatOps.cmpf (F := Ideal) (φ := .f32) .ogt a (0 : EReal) = 0 from by
      show BitVec.ofBool (decide ((0 : EReal) < a)) = 0
      rw [decide_eq_false h]; rfl]
    show _ = (0 : EReal)
    rw [max_eq_right (not_lt.1 h), mul_zero]

end Cert.Products
-- ==== Proof.Reals.lean ====
/-
  The real-number side of the claim: what an extended-real operation gives at operands that are reals, the sums and the
  constants both programs use, and one identity, `rms_back`: the two ways the gradient of a root-mean-square normalisation
  is written.
-/
module

public import Idealize.ShloMosaic.PureOps.Ideal.Laws
public import Idealize.ShloMosaic.Lib.IdealHost

@[expose] public section

noncomputable section

open scoped BigOperators

namespace Cert.Gate

open Idealize.ShloMosaic

/-! ## Operations at real operands -/

theorem mul_r {x y : EReal} {a b : ℝ} (hx : x = a) (hy : y = b) : x * y = ((a * b : ℝ) : EReal) := by
  rw [hx, hy, EReal.coe_mul]
theorem add_r {x y : EReal} {a b : ℝ} (hx : x = a) (hy : y = b) : x + y = ((a + b : ℝ) : EReal) := by
  rw [hx, hy, EReal.coe_add]
theorem sub_r {x y : EReal} {a b : ℝ} (hx : x = a) (hy : y = b) : x - y = ((a - b : ℝ) : EReal) := by
  rw [hx, hy, EReal.coe_sub]
theorem neg_r {x : EReal} {a : ℝ} (hx : x = a) : -x = ((-a : ℝ) : EReal) := by rw [hx, EReal.coe_neg]
theorem div_r {x y : EReal} {a b : ℝ} (hb : b ≠ 0) (hx : x = a) (hy : y = b) : Ideal.div x y = ((a / b : ℝ) : EReal) := by
  rw [hx, hy, Ideal.div_coe hb, ← EReal.coe_mul, mul_one_div]
theorem rsqrt_r {x : EReal} {a : ℝ} (ha : 0 < a) (hx : x = a) : Ideal.rsqrt x = (((Real.sqrt a)⁻¹ : ℝ) : EReal) := by
  rw [hx, Ideal.rsqrt_coe, if_neg (not_lt.2 ha.le), if_neg ha.ne']
theorem exp_r {x : EReal} {a : ℝ} (hx : x = a) : Ideal.exp x = ((Real.exp a : ℝ) : EReal) := by rw [hx, Ideal.exp_coe]
theorem finsum_r {ι : Type*} (s : Finset ι) {f : ι → EReal} {g : ι → ℝ} (h : ∀ k ∈ s, f k = g k) :
    ∑ k ∈ s, f k = ((∑ k ∈ s, g k : ℝ) : EReal) := by
  classical
  induction s using Finset.induction_on with
  | empty => simp
  | insert a s ha ih =>
    rw [Finset.sum_insert ha, Finset.sum_insert ha, EReal.coe_add, h a (Finset.mem_insert_self _ _),
      ih fun k hk => h k (Finset.mem_insert_of_mem hk)]
theorem sum_r {ι : Type*} [Fintype ι] {f : ι → EReal} {g : ι → ℝ} (h : ∀ k, f k = g k) :
    ∑ k, f k = ((∑ k, g k : ℝ) : EReal) := finsum_r _ fun k _ => h k
theorem zsum_r {ι : Type*} [Fintype ι] {z : EReal} {f : ι → EReal} {g : ι → ℝ} (hz : z = 0) (h : ∀ k, f k = g k) :
    z + ∑ k, f k = ((∑ k, g k : ℝ) : EReal) := by rw [hz, zero_add, sum_r h]
theorem to_r {x : EReal} {a b : ℝ} (hx : x = a) (h : a = b) : x = b := by rw [hx, h]

/-! ## Constants -/

/-- The small number both normalisations add under their root. -/
def eps : ℝ := (2 ^ 23 + 407485 : ℕ) * (2 : ℝ) ^ ((107 : ℤ) - 127 - 23)
theorem eps_pos : 0 < eps := by unfold eps; positivity
theorem bits_eps : Ideal.ofBits .f32 0x358637BD#32 = ((eps : ℝ) : EReal) := by
  simp [Ideal.ofBits, Ideal.ieee, eps]
theorem bits_half : Ideal.ofBits .f32 0x3F000000#32 = (((1 / 2 : ℝ)) : EReal) := by
  simp [Ideal.ofBits, Ideal.ieee]; rw [← EReal.coe_mul]; norm_cast; norm_num [zpow_neg]
theorem bits_one : Ideal.ofBits .f32 0x3F800000#32 = ((1 : ℝ) : EReal) := by
  rw [Ideal.ofBits_one_f32]; rfl
theorem bits_zero : Ideal.ofBits .f32 0x00000000#32 = ((0 : ℝ) : EReal) := by
  rw [Ideal.ofBits_zero_f32]; rfl
theorem bits_two : Ideal.ofBits .f32 0x40000000#32 = ((2 : ℝ) : EReal) := by
  simp [Ideal.ofBits, Ideal.ieee]; norm_cast; norm_num [zpow_neg]
theorem bits_neg_half : Ideal.ofBits .f32 0xBF000000#32 = ((-(1 / 2) : ℝ) : EReal) := by
  simp [Ideal.ofBits, Ideal.ieee]; norm_cast; norm_num [zpow_neg]
theorem bits_1024 : Ideal.ofBits .f32 0x44800000#32 = ((1024 : ℝ) : EReal) := by
  simp [Ideal.ofBits, Ideal.ieee]; norm_cast; norm_num [zpow_neg]
theorem bits_1024th : Ideal.ofBits .f32 0x3A800000#32 = ((1 / 1024 : ℝ) : EReal) := by
  simp [Ideal.ofBits, Ideal.ieee]; rw [← EReal.coe_mul]; norm_cast; norm_num [zpow_neg]
theorem bits_2048th : Ideal.ofBits .f32 0x3A000000#32 = ((1 / 2048 : ℝ) : EReal) := by
  simp [Ideal.ofBits, Ideal.ieee]; rw [← EReal.coe_mul]; norm_cast; norm_num [zpow_neg]

/-! ## Sums over rows, cut into chunks -/

theorem sum_split (m n : ℕ) (f : ℕ → ℝ) : ∑ r : Fin (m * n), f r.val = ∑ c : Fin m, ∑ a : Fin n, f (n * c.val + a.val) := by
  rw [← Equiv.sum_comp finProdFinEquiv, Fintype.sum_prod_type]
  refine Finset.sum_congr rfl fun c _ => Finset.sum_congr rfl fun a _ => ?_
  rw [finProdFinEquiv_apply_val, add_comm]

/-! ## The identity -/

/-- The gradient of `x ↦ x · r` with `r = 1/√m`, `m = (Σ x²)/n + ε`: through the derivative of the root (`q` is a half of
    what each of the two factors of `x · x` receives), and folded. -/
theorem rms_back {m x g r q S T n : ℝ} (hm : 0 < m) (hr : r = (Real.sqrt m)⁻¹) (hT : T = r * S)
    (hq : q = S * (-(1 / 2) * (r / m)) / n) :
    g * r + x * q + q * x = (g - x * r * (T / n)) * r := by
  have hrr : r / m = r * r * r := by
    have h1 : r * r = m⁻¹ := by rw [hr, ← mul_inv, Real.mul_self_sqrt hm.le]
    rw [h1, div_eq_mul_inv, mul_comm]
  rw [hq, hrr, hT]; ring

end Cert.Gate
-- ==== Proof.DFfHidden.lean ====
/-
  The feed-forward block's hidden gradient: the kernel's tiles against the transpose of the squared relu and its product.
-/
module

public import proofs.«01_k».proof.Defs
public import proofs.«01_k».proof.Proof.Products
public import proofs.«01_k».proof.Proof.Reals
public import proofs.«01_k».proof.Proof.Gen.DFfHiddenIdeal.Value
public import proofs.«01_k».proof.Proof.Gen.RefDFfHiddenIdeal.Run
public import proofs.«01_k».proof.Proof.Gen.RefDFfHiddenIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.DFfHid

open Cert.Products Cert.DFfHiddenIdeal Cert.DFfHiddenIdeal.Gen Idealize.ShloMosaic Idealize.ShloMosaic.ValueIdx
open Idealize.ShloMosaic.TcCoe Idealize.SL.Sem

variable (m : (ℓ : Loc nD τ sig) → Buf (Elt Ideal) ℓ) (c : Dev nD)

theorem V14 : V m c main_v14 = truncf (F := Ideal) .bf16 (Cert.RefDFfHiddenIdeal.Read.val_main_v13 (F := Ideal)
    (m ((c.tc : Thread nD τ).loc main_arg0)) (m ((c.tc : Thread nD τ).loc main_arg1)) (m ((c.tc : Thread nD τ).loc main_arg2))) bitsLt_bf16_f32 := by
  show StableHlo.after (List.flatten [hostOps0, hostOps0_1, hostOps0_2]) _ (Proc.devRef .tc main_v14) = _
  simp only [hostOps0, hostOps0_1, hostOps0_2, List.flatten_cons, List.flatten_nil, List.append_nil, List.cons_append, List.nil_append]
  after_results
  rfl
theorem V15 : V m c main_v15 = truncf (F := Ideal) .bf16 (m ((c.tc : Thread nD τ).loc main_arg4)) bitsLt_bf16_f32 := by
  show StableHlo.after (List.flatten [hostOps0, hostOps0_1, hostOps0_2]) _ (Proc.devRef .tc main_v15) = _
  simp only [hostOps0, hostOps0_1, hostOps0_2, List.flatten_cons, List.flatten_nil, List.append_nil, List.cons_append, List.nil_append]
  after_results
theorem V16 : V m c main_v16 = truncf (F := Ideal) .bf16 (m ((c.tc : Thread nD τ).loc main_arg3)) bitsLt_bf16_f32 := by
  show StableHlo.after (List.flatten [hostOps0, hostOps0_1, hostOps0_2]) _ (Proc.devRef .tc main_v16) = _
  simp only [hostOps0, hostOps0_1, hostOps0_2, List.flatten_cons, List.flatten_nil, List.append_nil, List.cons_append, List.nil_append]
  after_results

theorem e0 : ∀ t : Fin cfg0.N, win0_0.index t = ![t.val / 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, t.val % 2] := (by decide +kernel : ∀ t : Fin grid0.N, _)
theorem e3 : ∀ t : Fin cfg0.N, win0_3.index t = ![t.val / 2, t.val % 2] := (by decide +kernel : ∀ t : Fin grid0.N, _)
theorem lt32 (t : Fin cfg0.N) : t.val < 32 := t.isLt.trans_eq N_0

theorem b0 (t : Fin cfg0.N) (i : S512x1024.Idx) (h : 512 * (t.val / 2) + (i 0).val < 8192) :
    (iblk m c 0 t : Vec Ideal S512x1024 .bf16) i = V m c main_v15 (ValueIdx.ix2 (⟨512 * (t.val / 2) + (i 0).val, h⟩ : Fin 8192) (i 1)) := by
  unfold iblk
  blk_simp [e0 t]
  congr 1
  blk_ext [e0 t]
theorem b1 (t : Fin cfg0.N) (i : S2048x1024.Idx) (h : 2048 * (t.val % 2) + (i 0).val < 4096) :
    (iblk m c 1 t : Vec Ideal S2048x1024 .bf16) i = V m c main_v16 (ValueIdx.ix2 (⟨2048 * (t.val % 2) + (i 0).val, h⟩ : Fin 4096) (i 1)) := by
  unfold iblk
  blk_simp [e1 t]
  congr 1
  blk_ext [e1 t]
theorem b2 (t : Fin cfg0.N) (i : S512x2048.Idx) (h : 512 * (t.val / 2) + (i 0).val < 8192) (h' : 2048 * (t.val % 2) + (i 1).val < 4096) :
    (iblk m c 2 t : Vec Ideal S512x2048 .bf16) i
      = V m c main_v14 (ValueIdx.ix2 (⟨512 * (t.val / 2) + (i 0).val, h⟩ : Fin 8192) (⟨2048 * (t.val % 2) + (i 1).val, h'⟩ : Fin 4096)) := by
  unfold iblk
  blk_simp [e2 t]
  congr 1
  blk_ext [e2 t]

theorem pay (w : FVec Ideal S2048x1024 .bf16) (d : FVec Ideal S512x1024 .bf16) (h : FVec Ideal S512x2048 .bf16) (i : S512x2048.Idx) :
    k0_pay1 (F := Ideal) w d h i = ((∑ k : Fin 1024, d (ix2 (i 0) k) * w (ix2 (i 1) k)) * ((2 : ℝ) : EReal)) * h i := by
  unfold k0_pay1
  rw [shapeCast_self, shapeCast_self, shapeCast_self]
  exact congrArg₂ (fun x y : EReal => x * y * h i) (nt d w i) Cert.Gate.bits_two

theorem o3 (t : Fin cfg0.N) (y : S512x2048.Idx) (h : 512 * (t.val / 2) + (y 0).val < 8192) (h' : 2048 * (t.val % 2) + (y 1).val < 4096) :
    out0_3 (iblk m c 0 t) (iblk m c 1 t) (iblk m c 2 t) y = Cert.RefDFfHiddenIdeal.Read.val_main_v25 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      (ValueIdx.ix2 (⟨512 * (t.val / 2) + (y 0).val, h⟩ : Fin 8192) (⟨2048 * (t.val % 2) + (y 1).val, h'⟩ : Fin 4096)) := by
  unfold out0_3
  frame_out
  rw [pay, b2 m c t y h h', V14]
  rw [Finset.sum_congr rfl fun k _ => congrArg₂ (fun a b : EReal => a * b) (b0 m c t (ix2 (y 0) k) h) (b1 m c t (ix2 (y 1) k) h'), V15, V16]
  have hz : Cert.RefDFfHiddenIdeal.Read.val_main_v23 (F := Ideal) (ValueIdx.ix2 (⟨512 * (t.val / 2) + (y 0).val, h⟩ : Fin 8192) (⟨2048 * (t.val % 2) + (y 1).val, h'⟩ : Fin 4096)) = (0 : EReal) :=
    (Cert.RefDFfHiddenIdeal.Read.val_main_v23_apply _).trans Ideal.ofBits_zero_f32
  refine Eq.trans ?_ (relu_back (Cert.RefDFfHiddenIdeal.Read.val_main_v12 (F := Ideal)
      (m ((c.tc : Thread nD τ).loc main_arg0)) (m ((c.tc : Thread nD τ).loc main_arg1)) (m ((c.tc : Thread nD τ).loc main_arg2)) _)
    (Cert.RefDFfHiddenIdeal.Read.val_main_v19 (F := Ideal) (m ((c.tc : Thread nD τ).loc main_arg3)) (m ((c.tc : Thread nD τ).loc main_arg4)) _) _ hz)
  rw [Cert.RefDFfHiddenIdeal.Read.val_main_v19_apply]
  refine congrArg₂ (fun a b : EReal => a * ((2 : ℝ) : EReal) * b) (Finset.sum_congr rfl fun k _ => ?_) rfl
  exact congrArg₂ (fun a b : EReal => a * b) (congrArg (m ((c.tc : Thread nD τ).loc main_arg4)) (funext fun a => by match a with | ⟨0, _⟩ => rfl | ⟨1, _⟩ => rfl))
    (congrArg (m ((c.tc : Thread nD τ).loc main_arg3)) (funext fun a => by match a with | ⟨0, _⟩ => rfl | ⟨1, _⟩ => rfl))

theorem arr3 : (dats m 0 c).arrAt 3 cfg0.N = Cert.RefDFfHiddenIdeal.Read.val_main_v25 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 3 _ (by decide +kernel) fun t hf y => ?_
  have ht := lt32 t
  have h0 : (y 0).val < 512 := (y 0).isLt
  have h1 : (y 1).val < 2048 := (y 1).isLt
  blk_simp
  rw [after0_3]
  refine (o3 m c t y (by omega) (by omega)).trans ?_
  congr 1
  blk_ext [e3 t]

theorem algebraic : algebraic_DFfHiddenIdeal_RefDFfHiddenIdeal (hDFfHiddenIdeal := Cert.DFfHiddenIdeal.Gen.facts)
    (hRefDFfHiddenIdeal := Cert.RefDFfHiddenIdeal.Gen.facts) := by
  intro m g m' g' hp hm
  refine ⟨fun c => Cert.RefDFfHiddenIdeal.Read.val_main_v25 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)), ?_, ?_⟩
  · refine (θ_run _ _ _).mono (fun r h c => ?_) (Cert.DFfHiddenIdeal.Value.run_blocks (F := Ideal) m g)
    exact ⟨(h c).1.trans (arr3 m c), (h c).2⟩
  · refine (θ_run _ _ _).mono (fun r h c => ?_) (Cert.RefDFfHiddenIdeal.Value.run (F := Ideal) m' g')
    obtain ⟨q0, q1, q2, q3, q4⟩ := hm c
    refine ⟨(h c).1.trans ?_, (h c).2⟩
    rw [q0, q1, q2, q3, q4]
    rfl

end Cert.DFfHid
-- ==== Proof.DWFf1.lean ====
/-
  The feed-forward block's first weights' gradient: two row stretches accumulated in the scratch, against the whole sum.
-/
module

public import proofs.«01_k».proof.Defs
public import proofs.«01_k».proof.Proof.Products
public import proofs.«01_k».proof.Proof.Gen.DWFf1Ideal.Value
public import proofs.«01_k».proof.Proof.Gen.RefDWFf1Ideal.Run
public import proofs.«01_k».proof.Proof.Gen.RefDWFf1Ideal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.WUpBack

open Cert.Products Cert.DWFf1Ideal Cert.DWFf1Ideal.Gen Idealize.ShloMosaic Idealize.ShloMosaic.ValueIdx
open Idealize.ShloMosaic.TcCoe Idealize.SL.Sem

variable (m : (ℓ : Loc nD τ sig) → Buf (Elt Ideal) ℓ) (c : Dev nD)

/-- The normed rows the weights multiply, as the reference computes them. -/
abbrev rows : FVec Ideal S8192x1024 .f32 := Cert.RefDWFf1Ideal.Read.val_main_v12 (F := Ideal) (m ((c.tc : Thread nD τ).loc main_arg0)) (m ((c.tc : Thread nD τ).loc main_arg1))

theorem V12' : V m c main_v12 = truncf (F := Ideal) .bf16 (rows m c) bitsLt_bf16_f32 := by
  show StableHlo.after hostOps0 _ (Proc.devRef .tc main_v12) = _
  after_results
  rfl
theorem V13' : V m c main_v13 = truncf (F := Ideal) .bf16 (m ((c.tc : Thread nD τ).loc main_arg2)) bitsLt_bf16_f32 := by
  show StableHlo.after hostOps0 _ (Proc.devRef .tc main_v13) = _
  after_results

theorem e0 : ∀ t : Fin cfg0.N, win0_0.index t = ![t.val % 2, 0] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![0, t.val / 2] := (by decide +kernel : ∀ t : Fin grid0.N, _)
theorem lt8 (t : Fin cfg0.N) : t.val < 8 := t.isLt.trans_eq N_0

theorem b0 (t : Fin cfg0.N) (i : S4096x1024.Idx) (h : 4096 * (t.val % 2) + (i 0).val < 8192) :
    (iblk m c 0 t : Vec Ideal S4096x1024 .bf16) i = V m c main_v12 (ValueIdx.ix2 (⟨4096 * (t.val % 2) + (i 0).val, h⟩ : Fin 8192) (i 1)) := by
  unfold iblk
  blk_simp [e0 t]
  congr 1
  blk_ext [e0 t]
theorem b1 (t : Fin cfg0.N) (i : S4096x1024.Idx) (h : 4096 * (t.val % 2) + (i 0).val < 8192) (h' : 1024 * (t.val / 2) + (i 1).val < 4096) :
    (iblk m c 1 t : Vec Ideal S4096x1024 .bf16) i
      = V m c main_v13 (ValueIdx.ix2 (⟨4096 * (t.val % 2) + (i 0).val, h⟩ : Fin 8192) (⟨1024 * (t.val / 2) + (i 1).val, h'⟩ : Fin 4096)) := by
  unfold iblk
  blk_simp [e1 t]
  congr 1
  blk_ext [e1 t]

/-- The products summed at an entry of the array. -/
abbrev terms (i : S1024x4096.Idx) : Fin 8192 → EReal :=
  pairs (K := 8192) (M := 1024) (N := 4096) (φ₁ := .f32) (φ₂ := .f32) (rows m c) (m ((c.tc : Thread nD τ).loc main_arg2)) i

/-- The cell a tile's entry is. -/
def cell (q : ℕ) (y : S1024x1024.Idx) (h : q < 4) : S1024x4096.Idx :=
  ix2 (y 0) (⟨1024 * q + (y 1).val, by have h1 : (y 1).val < 1024 := (y 1).isLt; omega⟩ : Fin 4096)

/-- A point's product, its transposed factor first. -/
theorem pay (l r : FVec Ideal S4096x1024 .bf16) (y : S1024x1024.Idx) :
    k0_pay1 (F := Ideal) r l y = ∑ k : Fin 4096, l (ix2 k (y 0)) * r (ix2 k (y 1)) := by
  unfold k0_pay1
  rw [shapeCast_self, shapeCast_self]
  exact tn l r y

theorem step (q j : ℕ) (hq : q < 4) (hj : j < 2) (h : 2 * q + j < cfg0.N) (y : S1024x1024.Idx) :
    k0_pay1 (F := Ideal) (iblk m c 1 ⟨2 * q + j, h⟩) (iblk m c 0 ⟨2 * q + j, h⟩) y = part (terms m c (cell q y hq)) 4096 j (by omega) := by
  have e : (2 * q + j) % 2 = j := by omega
  have e' : (2 * q + j) / 2 = q := by omega
  have h1 : (y 1).val < 1024 := (y 1).isLt
  rw [pay]
  refine Finset.sum_congr rfl fun k _ => ?_
  have hk : k.val < 4096 := k.isLt
  refine (congrArg₂ (fun a b : EReal => a * b) (b0 m c ⟨2 * q + j, h⟩ (ix2 k (y 0)) (by show 4096 * ((2 * q + j) % 2) + k.val < _; omega))
    (b1 m c ⟨2 * q + j, h⟩ (ix2 k (y 1)) (by show 4096 * ((2 * q + j) % 2) + k.val < _; omega) (by show 1024 * ((2 * q + j) / 2) + (y 1).val < _; omega))).trans ?_
  rw [V12', V13']
  refine congrArg₂ (fun a b : EReal => a * b) (congrArg (rows m c) (same2 ?_ rfl)) (congrArg (m ((c.tc : Thread nD τ).loc main_arg2)) (same2 ?_ ?_))
  · show 4096 * ((2 * q + j) % 2) + k.val = 4096 * j + k.val; rw [e]
  · show 4096 * ((2 * q + j) % 2) + k.val = 4096 * j + k.val; rw [e]
  · show 1024 * ((2 * q + j) / 2) + (y 1).val = 1024 * q + (y 1).val; rw [e']

theorem p4 (v : FVec Ideal S1024x1024 .f32) (i : S1024x1024.Idx) : (k0_pay4 (F := Ideal) v i : EReal) = v i := rfl

theorem s0 (q : ℕ) (hq : q < 4) (h : 2 * q + 0 < cfg0.N) (y : S1024x1024.Idx) :
    (outsAt0 m c (2 * q) h).2 y = part (terms m c (cell q y hq)) 4096 0 (by omega) := by
  rw [outsAt0_A m c ⟨2 * q, h⟩ (by show 2 * q % 2 = 0; omega) (by show ¬2 * q % 2 = 1; omega) (by show ¬2 * q % 2 = 1; omega)]
  frame_out
  unfold k0_pay2
  rw [shapeCast_self]
  exact step m c q 0 hq (by omega) h y

theorem oL (q : ℕ) (hq : q < 4) (h : 2 * q + 1 < cfg0.N) (y : S1024x1024.Idx) :
    (outsAt0 m c (2 * q + 1) h).1 y = ∑ r : Fin 8192, terms m c (cell q y hq) r := by
  rw [outsAt0_B m c ⟨2 * q + 1, h⟩ (by show ¬(2 * q + 1) % 2 = 0; omega) (by show (2 * q + 1) % 2 = 1; omega) (by show (2 * q + 1) % 2 = 1; omega)]
  frame_out
  refine (p4 _ y).trans ?_
  unfold k0_pay3
  rw [shapeCast_self]
  refine (congrArg₂ (fun a b : EReal => a + b) (congrFun (Memref.IsWhole.read_unread _ _) y) (step m c q 1 hq (by omega) h y)).trans ?_
  rw [show (outsAt0 m c (2 * q + 1 - 1) (by omega)).2 y = _ from s0 m c q hq (by omega) y, parts _ 4096 2 rfl, Fin.sum_univ_two]
  rfl

theorem last : ∀ t : Fin cfg0.N, (cfg0.win 2).flush t = true → t.val % 2 = 1 := (by decide +kernel : ∀ t : Fin grid0.N, _)

theorem arr2 : (dats m 0 c).arrAt 2 cfg0.N = Cert.RefDWFf1Ideal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 2 _ (by decide +kernel) fun t hf y => ?_
  have ht := lt8 t
  have hl := last t hf
  have he := e2 t
  obtain ⟨q, hq⟩ : ∃ q, t.val = 2 * q + 1 := ⟨t.val / 2, by omega⟩
  obtain ⟨n, hn⟩ := t
  obtain rfl : n = 2 * q + 1 := hq
  have hq : q < 4 := by have : 2 * q + 1 < 8 := ht; omega
  blk_simp
  rw [after0_2]
  refine (oL m c q hq hn y).trans ?_
  refine Eq.trans (b := Cert.RefDWFf1Ideal.Read.val_main_v15 (F := Ideal) (m ((c.tc : Thread nD τ).loc main_arg0)) (m ((c.tc : Thread nD τ).loc main_arg1)) (m ((c.tc : Thread nD τ).loc main_arg2)) (cell q y hq)) ?_ ?_
  · rw [Cert.RefDWFf1Ideal.Read.val_main_v15_apply, Cert.RefDWFf1Ideal.Read.val_main_v14_apply]
    refine Finset.sum_congr rfl fun k _ => (mul_comm _ _).trans ?_
    exact congrArg₂ (fun a b : EReal => a * b) (congrArg (m ((c.tc : Thread nD τ).loc main_arg2)) (same2 rfl rfl)) (congrArg (rows m c) (same2 rfl rfl))
  · refine congrArg (Cert.RefDWFf1Ideal.Read.val_main_v15 (F := Ideal) (m ((c.tc : Thread nD τ).loc main_arg0)) (m ((c.tc : Thread nD τ).loc main_arg1)) (m ((c.tc : Thread nD τ).loc main_arg2))) ?_
    have e' : (2 * q + 1) / 2 = q := by omega
    rw [e'] at he
    blk_ext [he]
    · rfl
    · exact congrArg (· + (y 1).val) (Nat.mul_comm 1024 q)

theorem algebraic : algebraic_DWFf1Ideal_RefDWFf1Ideal (hDWFf1Ideal := Cert.DWFf1Ideal.Gen.facts)
    (hRefDWFf1Ideal := Cert.RefDWFf1Ideal.Gen.facts) := by
  intro m g m' g' hp hm
  refine ⟨fun c => Cert.RefDWFf1Ideal.Read.val_main_v16 (F := Ideal) (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (arr2 m c), (h c).2⟩) (Cert.DWFf1Ideal.Value.run_blocks (F := Ideal) m g)
  · refine (θ_run _ _ _).mono (fun r h c => ?_) (Cert.RefDWFf1Ideal.Value.run (F := Ideal) m' g')
    obtain ⟨q0, q1, q2⟩ := hm c
    refine ⟨(h c).1.trans ?_, (h c).2⟩
    rw [q0, q1, q2]
    rfl

end Cert.WUpBack
-- ==== Proof.RowNorm.lean ====
/-
  A row divided by the root of its mean square and scaled by a gain, read at an index at the ideal values.
-/
module

public import proofs.«01_k».proof.Proof.Products

@[expose] public section

noncomputable section

open scoped BigOperators

namespace Cert.RowNorm

open Cert.Products Idealize.ShloMosaic Idealize.ShloMosaic.ValueIdx

/-- One over the root of a row's mean square. -/
def scale (row : Fin 1024 → EReal) : EReal :=
  FloatOps.hostUnary (F := Ideal) (φ := .f32) .rsqrt (FloatOps.addf (F := Ideal) (φ := .f32)
    (FloatOps.hostDivf (F := Ideal) (φ := .f32) (∑ k, row k * row k) (FloatOps.ofBits .f32 0x44800000#32)) (FloatOps.ofBits .f32 0x358637BD#32))

/-- The tile's rows summed, kept as a column. -/
theorem column {R : ℕ} (v : FVec Ideal ⟨2, ![R, 1024]⟩ .f32) (hr : (⟨2, ![R, 1024]⟩ : Shape).Reduces [1] ⟨1, ![R]⟩)
    (hc : (⟨1, ![R]⟩ : Shape).ShapeCasts ⟨2, ![R, 1]⟩) (i : (⟨2, ![R, 1]⟩ : Shape).Idx) :
    shapeCast ⟨2, ![R, 1]⟩ (multiReduction .add [1] ⟨1, ![R]⟩ v 0x00000000#32 hr (.inl rfl) rfl) hc i = ∑ k : Fin 1024, v (ix2 (i 0) k) := by
  rw [shapeCast_apply _ hc i (ix1 (i 0)) (by
    rewrite [Shape.rowMajor_val_one, Shape.rowMajor_val_two]
    have h1 : (i 1).val < 1 := (i 1).isLt
    show (i 0).val = (i 0).val * 1 + (i 1).val
    omega)]
  exact (Ideal.multiReduction_add_single ..).trans (Finset.sum_congr rfl fun k _ => congrArg v (same2 rfl rfl))

/-- The tile's rows, each scaled, times the gain along the columns. -/
theorem tile {R : ℕ} (hR : R ≠ 1) (v : FVec Ideal ⟨2, ![R, 1024]⟩ .f32) (g : FVec Ideal ⟨2, ![1, 1024]⟩ .f32)
    (hr : (⟨2, ![R, 1024]⟩ : Shape).Reduces [1] ⟨1, ![R]⟩) (hc : (⟨1, ![R]⟩ : Shape).ShapeCasts ⟨2, ![R, 1]⟩)
    (hb : (⟨2, ![R, 1]⟩ : Shape).Broadcasts ⟨2, ![R, 1024]⟩) (hg : (⟨2, ![1, 1024]⟩ : Shape).Broadcasts ⟨2, ![R, 1024]⟩)
    (i : (⟨2, ![R, 1024]⟩ : Shape).Idx) :
    mulf (mulf v (broadcastTo ⟨2, ![R, 1024]⟩ (rsqrt (addf (divf
        (shapeCast ⟨2, ![R, 1]⟩ (multiReduction .add [1] ⟨1, ![R]⟩ (mulf v v) 0x00000000#32 hr (.inl rfl) rfl) hc)
        (broadcast ⟨2, ![R, 1]⟩ (Scalar.ofBits .f32 0x44800000#32))) (broadcast ⟨2, ![R, 1]⟩ (Scalar.ofBits .f32 0x358637BD#32)))) hb))
        (broadcastTo ⟨2, ![R, 1024]⟩ g hg) i
      = (v i * scale (fun k => v (ix2 (i 0) k)) * g (ix2 (0 : Fin 1) (i 1)) : EReal) := by
  refine congrArg₂ (fun a b : EReal => a * b) (congrArg (fun a : EReal => v i * a) ?_) ?_
  · refine (broadcastTo_apply _ hb i (ix2 (i 0) (0 : Fin 1)) fun a => ?_).trans ?_
    · match a with
      | ⟨0, _⟩ => exact (if_neg hR).symm
      | ⟨1, _⟩ => rfl
    · exact congrArg (fun s : EReal => FloatOps.hostUnary (F := Ideal) (φ := .f32) .rsqrt (FloatOps.addf (F := Ideal) (φ := .f32)
        (FloatOps.hostDivf (F := Ideal) (φ := .f32) s (FloatOps.ofBits .f32 0x44800000#32)) (FloatOps.ofBits .f32 0x358637BD#32)))
        (column (mulf v v) hr hc (ix2 (i 0) (0 : Fin 1)))
  · exact broadcastTo_apply g hg i (ix2 (0 : Fin 1) (i 1)) fun a => by match a with | ⟨0, _⟩ => rfl | ⟨1, _⟩ => rfl

end Cert.RowNorm
-- ==== Proof.NormBack.lean ====
/-
  The gradient of a row's root-mean-square normalisation, over the extended reals: the folded form and the form that goes
  through the derivative of the root agree for every row, infinite entries included.
-/
module

public import proofs.«01_k».proof.Proof.RowNorm
public import proofs.«01_k».proof.Proof.Reals

@[expose] public section

noncomputable section

open scoped BigOperators

namespace Cert.NormBack

open Cert.Gate Cert.RowNorm Idealize.ShloMosaic

/-- A row's mean square, with the small number added. -/
def mean2 (h : Fin 1024 → EReal) : EReal :=
  Ideal.div (∑ k, h k * h k) (Ideal.ofBits .f32 0x44800000#32) + Ideal.ofBits .f32 0x358637BD#32

theorem scale_eq (h : Fin 1024 → EReal) : scale h = Ideal.rsqrt (mean2 h) := rfl

/-- The folded form. -/
def folded (h g : Fin 1024 → EReal) (j : Fin 1024) : EReal :=
  (g j - h j * scale h * Ideal.div (∑ k, g k * (h k * scale h)) (Ideal.ofBits .f32 0x44800000#32)) * scale h

/-- Half of what each factor of `h · h` receives. -/
def half (h g : Fin 1024 → EReal) : EReal :=
  Ideal.div ((∑ k, h k * g k) * (Ideal.ofBits .f32 0xBF000000#32 * Ideal.div (scale h) (mean2 h))) (Ideal.ofBits .f32 0x44800000#32)

/-- The form through the derivative of the root. -/
def through (h g : Fin 1024 → EReal) (j : Fin 1024) : EReal := g j * scale h + h j * half h g + half h g * h j

theorem sum_scale {ι : Type*} (s : Finset ι) (f : ι → EReal) {r : ℝ} (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

theorem mean2_top {h : Fin 1024 → EReal} (hs : ∑ k, h k * h k = ⊤) : mean2 h = ⊤ := by
  unfold mean2
  rw [hs, bits_1024, bits_eps, Ideal.div_coe (by norm_num), EReal.top_mul_coe_of_pos (by norm_num)]
  rfl

theorem square_nonneg (x : EReal) : 0 ≤ x * x := by
  rcases le_total 0 x with h | h
  · exact mul_nonneg h h
  · rw [← neg_neg (x * x), ← neg_mul, ← mul_neg]
    exact mul_nonneg (EReal.neg_nonneg.2 h) (EReal.neg_nonneg.2 h)

/-- Either every entry is a real, or the sum of the squares is infinite. -/
theorem cases (h : Fin 1024 → EReal) : (∃ x : Fin 1024 → ℝ, ∀ k, h k = (x k : EReal)) ∨ ∑ k, h k * h k = ⊤ := by
  by_cases hk : ∀ k, h k ≠ ⊤ ∧ h k ≠ ⊥
  · exact .inl ⟨fun k => (h k).toReal, fun k => (EReal.coe_toReal (hk k).1 (hk k).2).symm⟩
  · right
    push Not at hk
    obtain ⟨k, hk⟩ := hk
    have e : h k * h k = ⊤ := by
      by_cases ht : h k = ⊤
      · rw [ht]; rfl
      · rw [hk ht]; rfl
    refine top_le_iff.1 (e ▸ Finset.single_le_sum (f := fun k => h k * h k) (fun k _ => square_nonneg (h k)) (Finset.mem_univ k))

theorem back (h g : Fin 1024 → EReal) (j : Fin 1024) : folded h g j = through h g j := by
  unfold folded through half
  rcases cases h with ⟨x, hx⟩ | hs
  · obtain ⟨μ, hμ, hm⟩ : ∃ μ : ℝ, 0 < μ ∧ mean2 h = (μ : EReal) :=
      ⟨(∑ k, x k * x k) / 1024 + eps,
        add_pos_of_nonneg_of_pos (div_nonneg (Finset.sum_nonneg fun _ _ => mul_self_nonneg _) (by norm_num)) eps_pos,
        add_r (div_r (by norm_num) (sum_r fun k => mul_r (hx k) (hx k)) bits_1024) bits_eps⟩
    have hr : scale h = (((Real.sqrt μ)⁻¹ : ℝ) : EReal) := (scale_eq h).trans (rsqrt_r hμ hm)
    have hr0 : 0 ≤ (Real.sqrt μ)⁻¹ := inv_nonneg.2 (Real.sqrt_nonneg μ)
    have hrr : (Real.sqrt μ)⁻¹ / μ = (Real.sqrt μ)⁻¹ * (Real.sqrt μ)⁻¹ * (Real.sqrt μ)⁻¹ := by
      rw [← mul_inv, Real.mul_self_sqrt hμ.le, div_eq_mul_inv, mul_comm]
    rw [div_r hμ.ne' hr hm, hr, bits_1024, bits_neg_half, Ideal.div_coe (by norm_num), Ideal.div_coe (by norm_num), hx j, hrr]
    generalize (Real.sqrt μ)⁻¹ = r at hr0
    have hS : ∑ k, g k * (h k * (r : EReal)) = (∑ k, h k * g k) * (r : EReal) :=
      (Finset.sum_congr rfl fun k _ => by rw [mul_comm (h k) (g k), mul_assoc]).trans (sum_scale _ _ hr0)
    rw [hS]
    generalize ∑ k, h k * g k = S
    rw [sub_eq_add_neg, EReal.right_distrib_of_nonneg_of_ne_top (EReal.coe_nonneg.2 hr0) (EReal.coe_ne_top r), add_assoc]
    refine congrArg (fun a => g j * (r : EReal) + a) ?_
    have e : (x j : EReal) * (S * (((-(1 / 2) : ℝ) : EReal) * ((r * r * r : ℝ) : EReal)) * ((1 / 1024 : ℝ) : EReal))
        = S * ((x j * (-(1 / 2) * (r * r * r)) * (1 / 1024) : ℝ) : EReal) := by
      push_cast
      rw [mul_comm (x j : EReal), mul_assoc S, mul_assoc S]
      congr 1
      rw [mul_right_comm, mul_comm (x j : EReal)]
    rw [mul_comm _ (x j : EReal), e, ← Cert.Products.two, mul_assoc S, ← EReal.coe_mul]
    simp only [← EReal.coe_mul]
    rw [mul_left_comm, ← mul_neg]
    simp only [← EReal.coe_mul, ← EReal.coe_neg]
    rw [mul_assoc S, ← EReal.coe_mul, mul_assoc S, ← EReal.coe_mul]
    congr 2
    ring
  · have hm := mean2_top hs
    have hr : scale h = 0 := by rw [scale_eq, hm]; rfl
    have hd : Ideal.div 0 ⊤ = 0 := by simp [Ideal.div]
    rw [hm, hr, hd, mul_zero, mul_zero, mul_zero, mul_zero, bits_1024, Ideal.div_coe (by norm_num), zero_mul, mul_zero, zero_mul, add_zero, add_zero]

end Cert.NormBack
-- ==== Proof.MlpNormRef.lean ====
/-
  The gradient at the feed-forward block's input, as the reference computes it: its three results read at an index.
-/
module

public import proofs.«01_k».proof.Proof.NormBack
public import proofs.«01_k».proof.Proof.Gen.RefDH1Ideal.Read

@[expose] public section

noncomputable section

open scoped BigOperators

namespace Cert.MlpNorm

open Cert.Products Cert.RowNorm Cert.NormBack Cert.RefDH1Ideal Cert.RefDH1Ideal.Gen Cert.RefDH1Ideal.Read Idealize.ShloMosaic
open Idealize.ShloMosaic.ValueIdx

variable (x0 : (⟨S8192x1024, .f32⟩ : BufTy).Contents (Elt Ideal)) (x1 : (⟨S1x1024, .f32⟩ : BufTy).Contents (Elt Ideal))
  (x2 : (⟨S1024x4096, .f32⟩ : BufTy).Contents (Elt Ideal)) (x3 : (⟨S8192x4096, .f32⟩ : BufTy).Contents (Elt Ideal))
  (x4 : (⟨S8192x1024, .f32⟩ : BufTy).Contents (Elt Ideal))

/-- A row of the block's input. -/
abbrev row (r : Fin 8192) (k : Fin 1024) : EReal := x0 (ix2 r k)
/-- The gradient at the norm's result. -/
abbrev up (r : Fin 8192) (k : Fin 1024) : EReal := ∑ q : Fin 4096, (x3 (ix2 r q) * x2 (ix2 k q) : EReal)
/-- That gradient with the gain. -/
abbrev gain (r : Fin 8192) (k : Fin 1024) : EReal := up x2 x3 r k * x1 (ix2 (0 : Fin 1) k)

theorem r16 (i : S8192x1024.Idx) : val_main_v16 (F := Ideal) x2 x3 i = up x2 x3 (i 0) (i 1) := by
  rw [val_main_v16_apply]
  exact Finset.sum_congr rfl fun q _ => congrArg₂ (fun a b : EReal => a * b) (congrArg x3 (same2 rfl rfl)) (congrArg x2 (same2 rfl rfl))

theorem r6 (i : S8192x1.Idx) : val_main_v6 (F := Ideal) x0 i = mean2 (row x0 (i 0)) := by
  rw [val_main_v6_apply, val_main_v4_apply, val_main_v2_apply, val_main_v1_apply, val_main_v3_apply, val_main_v5_apply]
  refine congrArg (fun s : EReal => Ideal.div s (Ideal.ofBits .f32 0x44800000#32) + Ideal.ofBits .f32 0x358637BD#32) ?_
  refine (zadd _).trans (Finset.sum_congr rfl fun k _ => ?_)
  exact congrArg (fun j => (x0 j * x0 j : EReal)) (same2 rfl rfl)

theorem r7 (i : S8192x1.Idx) : val_main_v7 (F := Ideal) x0 i = scale (row x0 (i 0)) := by
  rw [scale_eq, ← r6 x0 i]; rfl

theorem r12 (i : S8192x1024.Idx) : val_main_v12 (F := Ideal) x0 i = (x0 i * scale (row x0 (i 0)) : EReal) := by
  rw [val_main_v12_apply, val_main_v11_apply, r7]; rfl

theorem r21 (i : S8192x1024.Idx) : val_main_v21 (F := Ideal) x1 x2 x3 i = gain x1 x2 x3 (i 0) (i 1) := by
  rw [val_main_v21_apply, val_main_v20_apply, r16]
  exact congrArg (fun a : EReal => up x2 x3 (i 0) (i 1) * a) (congrArg x1 (same2 rfl rfl))

theorem r29 (i : S8192x1.Idx) : val_main_v29 (F := Ideal) x0 x1 x2 x3 i = half (row x0 (i 0)) (gain x1 x2 x3 (i 0)) := by
  rw [val_main_v29_apply, val_main_v27_apply, val_main_v24_apply, val_main_v23_apply, val_main_v10_apply, val_main_v9_apply,
    val_main_v8_apply, val_main_v28_apply, r7, r6]
  refine congrArg (fun s : EReal => Ideal.div (s * (Ideal.ofBits .f32 0xBF000000#32 * Ideal.div (scale (row x0 (i 0))) (mean2 (row x0 (i 0)))))
    (Ideal.ofBits .f32 0x44800000#32)) ?_
  refine (zadd _).trans (Finset.sum_congr rfl fun k _ => ?_)
  have h1 : (i 1).val < 1 := (i 1).isLt
  have e : idx_main_v23 (idx_main_v24 i) k = ix2 (i 0) k := same2 (by show (i 0).val * 1 + (i 1).val = (i 0).val; omega) rfl
  refine (congrArg (val_main_v22 (F := Ideal) x0 x1 x2 x3) e).trans ((val_main_v22_apply x0 x1 x2 x3 _).trans ?_)
  exact congrArg (fun a : EReal => row x0 (i 0) k * a) (r21 x1 x2 x3 (ix2 (i 0) k : S8192x1024.Idx))

theorem r31 (i : S8192x1024.Idx) : val_main_v31 (F := Ideal) x0 x1 x2 x3 i = half (row x0 (i 0)) (gain x1 x2 x3 (i 0)) := by
  rw [val_main_v31_apply, val_main_v30_apply, Fin.sum_univ_one, r29]
  exact zadd _

/-- The first result, and the second but for the rounding. -/
theorem r36 (i : S8192x1024.Idx) : val_main_v36 (F := Ideal) x0 x1 x2 x3 x4 i
    = (x4 i + folded (row x0 (i 0)) (gain x1 x2 x3 (i 0)) (i 1) : EReal) := by
  refine Eq.trans ?_ (congrArg (fun a : EReal => x4 i + a) (back (row x0 (i 0)) (gain x1 x2 x3 (i 0)) (i 1)).symm)
  rw [val_main_v36_apply, val_main_v35_apply, val_main_v33_apply, val_main_v34_apply, val_main_v32_apply, val_main_v26_apply,
    val_main_v25_apply, r31, r7, r21]
  have e : x0 i = row x0 (i 0) (i 1) := congrArg x0 (same2 rfl rfl)
  unfold through
  rw [← e]
  rfl

/-- The third result. -/
theorem r19 (i : S1x1024.Idx) : val_main_v19 (F := Ideal) x0 x2 x3 i
    = ∑ r : Fin 8192, (up x2 x3 r (i 1) * (x0 (ix2 r (i 1)) * scale (row x0 r)) : EReal) := by
  rw [val_main_v19_apply, val_main_v18_apply]
  refine (zadd _).trans (Finset.sum_congr rfl fun r _ => ?_)
  have h0 : (i 0).val < 1 := (i 0).isLt
  have e : idx_main_v18 (idx_main_v19 i) r = ix2 r (i 1) := same2 rfl (by show (i 0).val * 1024 + (i 1).val = (i 1).val; omega)
  refine (congrArg (val_main_v17 (F := Ideal) x0 x2 x3) e).trans ((val_main_v17_apply x0 x2 x3 _).trans ?_)
  exact (congrArg₂ (fun a b : EReal => a * b) (r12 x0 (ix2 r (i 1) : S8192x1024.Idx)) (r16 x2 x3 (ix2 r (i 1) : S8192x1024.Idx))).trans (mul_comm _ _)

end Cert.MlpNorm
-- ==== Proof.MlpNorm.lean ====
/-
  The gradient at the feed-forward block's input: the kernel's row tiles and its running sum against the whole arrays.
-/
module

public import proofs.«01_k».proof.Defs
public import proofs.«01_k».proof.Proof.MlpNormRef
public import proofs.«01_k».proof.Proof.Gen.DH1Ideal.Frame
public import proofs.«01_k».proof.Proof.Gen.RefDH1Ideal.Run
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Tactic

@[expose] public section

noncomputable section

open scoped BigOperators

namespace Cert.MlpNorm

open Cert.Products Cert.RowNorm Cert.NormBack Cert.DH1Ideal Cert.DH1Ideal.Gen Idealize.ShloMosaic Idealize.ShloMosaic.ValueIdx
open Idealize.ShloMosaic.TcCoe Idealize.SL.Sem

/-! ## The payloads at an index -/

section
variable (w : FVec Ideal S1024x4096 .bf16) (d : FVec Ideal S256x4096 .bf16) (u h : FVec Ideal S256x1024 .f32) (g : FVec Ideal S1x1024 .f32)

theorem pay2 (i : S256x1024.Idx) : k0_pay2 (F := Ideal) w d i = ∑ q : Fin 4096, (d (ix2 (i 0) q) * w (ix2 (i 1) q) : EReal) := by
  unfold k0_pay2
  rw [shapeCast_self, shapeCast_self]
  exact nt d w i

/-- A tile's row. -/
abbrev trow (r : Fin 256) (k : Fin 1024) : EReal := h (ix2 r k)
abbrev tgain (r : Fin 256) (k : Fin 1024) : EReal := k0_pay2 (F := Ideal) w d (ix2 r k) * g (ix2 (0 : Fin 1) k)

theorem pay3 (i : S256x1.Idx) : k0_pay3 (F := Ideal) h i = scale (trow h (i 0)) :=
  congrArg (fun s : EReal => FloatOps.hostUnary (F := Ideal) (φ := .f32) .rsqrt (FloatOps.addf (F := Ideal) (φ := .f32)
    (FloatOps.hostDivf (F := Ideal) (φ := .f32) s (FloatOps.ofBits .f32 0x44800000#32)) (FloatOps.ofBits .f32 0x358637BD#32)))
    (column (mulf h h) reduces_S256x1024_S256 shapeCasts_S256_S256x1 i)

theorem spread (v : FVec Ideal S256x1 .f32) (i : S256x1024.Idx) :
    broadcastTo S256x1024 v broadcasts_S256x1_S256x1024 i = v (ix2 (i 0) (0 : Fin 1)) :=
  broadcastTo_apply v _ i _ fun a => by match a with | ⟨0, _⟩ => rfl | ⟨1, _⟩ => rfl

theorem pay4 (i : S256x1024.Idx) : k0_pay4 (F := Ideal) h i = (h i * scale (trow h (i 0)) : EReal) :=
  congrArg (fun a : EReal => h i * a) ((spread (k0_pay3 (F := Ideal) h) i).trans (pay3 h _))

theorem gained (i : S256x1024.Idx) : mulf (k0_pay2 (F := Ideal) w d) (broadcastTo S256x1024 g broadcasts_S1x1024_S256x1024) i
    = tgain w d g (i 0) (i 1) := by
  refine congrArg₂ (fun a b : EReal => a * b) (congrArg (k0_pay2 (F := Ideal) w d) (same2 rfl rfl)) ?_
  exact broadcastTo_apply g _ i (ix2 (0 : Fin 1) (i 1)) fun a => by match a with | ⟨0, _⟩ => rfl | ⟨1, _⟩ => rfl

theorem pay6 (i : S256x1024.Idx) : k0_pay6 (F := Ideal) w d u h g i = (u i + folded (trow h (i 0)) (tgain w d g (i 0)) (i 1) : EReal) := by
  have e : h i = trow h (i 0) (i 1) := congrArg h (same2 rfl rfl)
  unfold k0_pay6 folded
  refine congrArg (fun a : EReal => u i + a) (congrArg₂ (fun a b : EReal => a * b) (congrArg₂ (fun a b : EReal => a - b) (gained w d g i)
    (congrArg₂ (fun a b : EReal => a * b) ((pay4 h i).trans (congrArg (fun a : EReal => a * scale (trow h (i 0))) e)) ?_))
    ((spread (k0_pay3 (F := Ideal) h) i).trans (pay3 h _)))
  refine (spread _ i).trans (congrArg (fun a : EReal => Ideal.div a (Ideal.ofBits .f32 0x44800000#32)) ?_)
  refine (column _ reduces_S256x1024_S256 shapeCasts_S256_S256x1 _).trans (Finset.sum_congr rfl fun k _ => ?_)
  exact congrArg₂ (fun a b : EReal => a * b) (gained w d g (ix2 (i 0) k : S256x1024.Idx)) (pay4 h (ix2 (i 0) k : S256x1024.Idx))

/-- The tile's rows summed eight apart. -/
theorem pay5 (i : S8x1024.Idx) : k0_pay5 (F := Ideal) w d h i
    = ∑ k : Fin 32, (mulf (k0_pay2 (F := Ideal) w d) (k0_pay4 (F := Ideal) h)
        (ix2 (⟨8 * k.val + (i 0).val, by have := k.isLt; have h0 : (i 0).val < 8 := (i 0).isLt; omega⟩ : Fin 256) (i 1)) : EReal) := by
  unfold k0_pay5
  generalize mulf (k0_pay2 (F := Ideal) w d) (k0_pay4 (F := Ideal) h) = v
  refine (Ideal.multiReduction_add_single ..).trans (Finset.sum_congr rfl fun k _ => ?_)
  have hk : k.val < 32 := k.isLt
  have h0 : (i 0).val < 8 := (i 0).isLt
  refine shapeCast_apply v shapeCasts_S256x1024_S32x8x1024 _ (ix2 (⟨8 * k.val + (i 0).val, by omega⟩ : Fin 256) (i 1)) ?_
  rewrite [Shape.rowMajor_val_two, Shape.rowMajor_val_three]
  show (8 * k.val + (i 0).val) * 1024 + (i 1).val = (k.val * 8 + (i 0).val) * 1024 + (i 1).val
  omega

theorem pay1 (v : FVec Ideal S8x1024 .f32) (o : Vec Ideal S8x1024 .f32) (i : S8x1024.Idx) : k0_pay1 (F := Ideal) v o i = (o i + v i : EReal) := by
  unfold k0_pay1; rw [shapeCast_self]; rfl
end

variable (m : (ℓ : Loc nD τ sig) → Buf (Elt Ideal) ℓ) (c : Dev nD)

/-! ## The blocks the body reads -/

/-- The five argument arrays. -/
abbrev a0 : FVec Ideal S8192x1024 .f32 := m ((c.tc : Thread nD τ).loc main_arg0)
abbrev a1 : FVec Ideal S1x1024 .f32 := m ((c.tc : Thread nD τ).loc main_arg1)
abbrev a2 : FVec Ideal S1024x4096 .f32 := m ((c.tc : Thread nD τ).loc main_arg2)
abbrev a3 : FVec Ideal S8192x4096 .f32 := m ((c.tc : Thread nD τ).loc main_arg3)
abbrev a4 : FVec Ideal S8192x1024 .f32 := m ((c.tc : Thread nD τ).loc main_arg4)

theorem V0' : V m c main_v0 = truncf (F := Ideal) .bf16 (a2 m c) bitsLt_bf16_f32 := by
  show StableHlo.after hostOps0 _ (Proc.devRef .tc main_v0) = _
  after_results
theorem V1' : V m c main_v1 = truncf (F := Ideal) .bf16 (a3 m c) bitsLt_bf16_f32 := by
  show StableHlo.after hostOps0 _ (Proc.devRef .tc main_v1) = _
  after_results
theorem Va0 : V m c main_arg0 = a0 m c := by
  show StableHlo.after hostOps0 _ (Proc.devRef .tc main_arg0) = _
  after_results
theorem Va1 : V m c main_arg1 = a1 m c := by
  show StableHlo.after hostOps0 _ (Proc.devRef .tc main_arg1) = _
  after_results
theorem Va4 : V m c main_arg4 = a4 m c := by
  show StableHlo.after hostOps0 _ (Proc.devRef .tc main_arg4) = _
  after_results

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem lt32 (t : Fin cfg0.N) : t.val < 32 := t.isLt.trans_eq N_0

theorem b0 (t : Fin cfg0.N) (i : S256x4096.Idx) (h : 256 * t.val + (i 0).val < 8192) :
    (iblk m c 0 t : Vec Ideal S256x4096 .bf16) i = V m c main_v1 (ValueIdx.ix2 (⟨256 * t.val + (i 0).val, h⟩ : Fin 8192) (i 1)) := by
  unfold iblk
  blk_simp [e0 t]
  congr 1
  blk_ext [e0 t]
theorem b1 (t : Fin cfg0.N) (i : S1024x4096.Idx) : (iblk m c 1 t : Vec Ideal S1024x4096 .bf16) i = V m c main_v0 i := by
  unfold iblk
  blk_simp [e1 t]
  congr 1
  blk_ext [e1 t]
theorem b2 (t : Fin cfg0.N) (i : S256x1024.Idx) (h : 256 * t.val + (i 0).val < 8192) :
    (iblk m c 2 t : Vec Ideal S256x1024 .f32) i = V m c main_arg4 (ValueIdx.ix2 (⟨256 * t.val + (i 0).val, h⟩ : Fin 8192) (i 1)) := by
  unfold iblk
  blk_simp [e2 t]
  congr 1
  blk_ext [e2 t]
theorem b3 (t : Fin cfg0.N) (i : S256x1024.Idx) (h : 256 * t.val + (i 0).val < 8192) :
    (iblk m c 3 t : Vec Ideal S256x1024 .f32) i = V m c main_arg0 (ValueIdx.ix2 (⟨256 * t.val + (i 0).val, h⟩ : Fin 8192) (i 1)) := by
  unfold iblk
  blk_simp [e3 t]
  congr 1
  blk_ext [e3 t]
theorem b4 (t : Fin cfg0.N) (i : S1x1024.Idx) : (iblk m c 4 t : Vec Ideal S1x1024 .f32) i = V m c main_arg1 i := by
  unfold iblk
  blk_simp [e4 t]
  congr 1
  blk_ext [e4 t]

theorem prod (t : Fin cfg0.N) (y : S256x1024.Idx) (h : 256 * t.val + (y 0).val < 8192) :
    k0_pay2 (F := Ideal) (iblk m c 1 t) (iblk m c 0 t) y = up (a2 m c) (a3 m c) ⟨256 * t.val + (y 0).val, h⟩ (y 1) := by
  rw [pay2, Finset.sum_congr rfl fun q _ => congrArg₂ (fun a b : EReal => a * b) (b0 m c t (ix2 (y 0) q) h) (b1 m c t (ix2 (y 1) q)), V0', V1']
  rfl

theorem rows (t : Fin cfg0.N) (r : Fin 256) (h : 256 * t.val + r.val < 8192) :
    trow (iblk m c 3 t) r = row (a0 m c) ⟨256 * t.val + r.val, h⟩ :=
  funext fun k => (b3 m c t (ix2 r k) h).trans (by rw [Va0])

theorem gains (t : Fin cfg0.N) (r : Fin 256) (h : 256 * t.val + r.val < 8192) :
    tgain (iblk m c 1 t) (iblk m c 0 t) (iblk m c 4 t) r = gain (a1 m c) (a2 m c) (a3 m c) ⟨256 * t.val + r.val, h⟩ :=
  funext fun k => congrArg₂ (fun a b : EReal => a * b) (prod m c t (ix2 r k) h) ((b4 m c t _).trans (by rw [Va1]))

/-- The first result, as the reference computes it. -/
abbrev out5 : FVec Ideal S8192x1024 .f32 :=
  Cert.RefDH1Ideal.Read.val_main_v36 (F := Ideal) (a0 m c) (a1 m c) (a2 m c) (a3 m c) (a4 m c)

theorem res (t : Fin cfg0.N) (y : S256x1024.Idx) (h : 256 * t.val + (y 0).val < 8192) :
    k0_pay6 (F := Ideal) (iblk m c 1 t) (iblk m c 0 t) (iblk m c 2 t) (iblk m c 3 t) (iblk m c 4 t) y
      = out5 m c (ValueIdx.ix2 (⟨256 * t.val + (y 0).val, h⟩ : Fin 8192) (y 1)) := by
  refine (pay6 _ _ _ _ _ y).trans (Eq.trans ?_ (r36 (a0 m c) (a1 m c) (a2 m c) (a3 m c) (a4 m c) _).symm)
  rw [rows m c t (y 0) h, gains m c t (y 0) h]
  refine congrArg₂ (fun a b : EReal => a + b) ((b2 m c t y h).trans (by rw [Va4])) rfl

/-! ## The row tiles -/

theorem o5 (t : Fin cfg0.N) (y : S256x1024.Idx) (h : 256 * t.val + (y 0).val < 8192) :
    (outsAt0 m c t.val t.isLt).1 y = out5 m c (ValueIdx.ix2 (⟨256 * t.val + (y 0).val, h⟩ : Fin 8192) (y 1)) := by
  have ht := lt32 t
  by_cases q : t.val % 32 = 0
  · rw [outsAt0_A m c t q (by omega)]; frame_out
    exact res m c t y h
  · rw [outsAt0_B m c t q (by omega)]; frame_out
    exact res m c t y h

theorem o6 (t : Fin cfg0.N) (y : S256x1024.Idx) (h : 256 * t.val + (y 0).val < 8192) :
    (outsAt0 m c t.val t.isLt).2.1 y = out5 m c (ValueIdx.ix2 (⟨256 * t.val + (y 0).val, h⟩ : Fin 8192) (y 1)) := by
  have ht := lt32 t
  by_cases q : t.val % 32 = 0
  · rw [outsAt0_A m c t q (by omega)]; frame_out
    exact res m c t y h
  · rw [outsAt0_B m c t q (by omega)]; frame_out
    exact res m c t y h

theorem arr5 : (dats m 0 c).arrAt 5 cfg0.N = out5 m c := by
  refine (dats m 0 c).arrAt_eq_of_covers 5 _ (by decide +kernel) fun t hf y => ?_
  have ht := lt32 t
  have h0 : (y 0).val < 256 := (y 0).isLt
  blk_simp
  rw [after0_5]
  refine (o5 m c t y (by omega)).trans ?_
  refine congrArg (out5 m c) ?_
  blk_ext [e5 t]

theorem arr6 : (dats m 0 c).arrAt 6 cfg0.N = (out5 m c : S8192x1024.Idx → EReal) := by
  refine (dats m 0 c).arrAt_eq_of_covers 6 _ (by decide +kernel) fun t hf y => ?_
  have ht := lt32 t
  have h0 : (y 0).val < 256 := (y 0).isLt
  blk_simp
  rw [after0_6]
  refine (o6 m c t y (by omega)).trans ?_
  refine congrArg (out5 m c) ?_
  blk_ext [e6 t]

/-! ## The running sum -/

/-- A row's part of the gain's gradient; rows past the last have none. -/
def part (r : ℕ) (j : Fin 1024) : EReal :=
  if h : r < 8192 then up (a2 m c) (a3 m c) ⟨r, h⟩ j * (a0 m c (ix2 (⟨r, h⟩ : Fin 8192) j) * scale (row (a0 m c) ⟨r, h⟩)) else 0

theorem cut (a b : ℕ) (f : ℕ → EReal) : ∑ r : Fin (a * b), f r.val = ∑ p : Fin a, ∑ q : Fin b, f (b * p.val + q.val) := by
  rw [← Equiv.sum_comp finProdFinEquiv, Fintype.sum_prod_type]
  refine Finset.sum_congr rfl fun p _ => Finset.sum_congr rfl fun q _ => ?_
  rw [finProdFinEquiv_apply_val, add_comm]

theorem normed (t : Fin cfg0.N) (y : S256x1024.Idx) (h : 256 * t.val + (y 0).val < 8192) : k0_pay4 (F := Ideal) (iblk m c 3 t) y
    = (a0 m c (ix2 (⟨256 * t.val + (y 0).val, h⟩ : Fin 8192) (y 1)) * scale (row (a0 m c) ⟨256 * t.val + (y 0).val, h⟩) : EReal) := by
  rw [pay4, rows m c t (y 0) h, b3 m c t y h, Va0]

theorem onePart (t : Fin cfg0.N) (y : S256x1024.Idx) :
    mulf (k0_pay2 (F := Ideal) (iblk m c 1 t) (iblk m c 0 t)) (k0_pay4 (F := Ideal) (iblk m c 3 t)) y = part m c (256 * t.val + (y 0).val) (y 1) := by
  have ht := lt32 t
  have h0 : (y 0).val < 256 := (y 0).isLt
  have h : 256 * t.val + (y 0).val < 8192 := by omega
  unfold part
  rw [dif_pos h]
  exact congrArg₂ (fun a b : EReal => a * b) (prod m c t y h) (normed m c t y h)

theorem partial5 (t : Fin cfg0.N) (y : S8x1024.Idx) : k0_pay5 (F := Ideal) (iblk m c 1 t) (iblk m c 0 t) (iblk m c 3 t) y
    = ∑ k : Fin 32, part m c (256 * t.val + (8 * k.val + (y 0).val)) (y 1) :=
  (pay5 _ _ _ y).trans (Finset.sum_congr rfl fun k _ => onePart m c t _)

/-- The last grid point. -/
def tz : Fin cfg0.N := ⟨31, by rw [show cfg0.N = 32 from N_0]; decide⟩

theorem o7 (y : S8x1024.Idx) : (outsAt0 m c tz.val tz.isLt).2.2 y = ∑ q : Fin 1024, part m c (8 * q.val + (y 0).val) (y 1) := by
  rw [Pipeline.eq_sum_fin_of_reset_step_apply_last (fun n h => (outsAt0 m c n h).2.2) 32 (fun _ => (0 : EReal))
    (fun t y => ∑ k : Fin 32, part m c (256 * t.val + (8 * k.val + (y 0).val)) (y 1))
    (fun t h y => by
      have ht := lt32 t
      dsimp only
      rw [outsAt0_A m c t h (by omega)]; frame_out
      rw [zero_add]
      exact partial5 m c t y)
    (fun t h y => by
      have ht := lt32 t
      dsimp only
      rw [outsAt0_B m c t h (by omega)]; frame_out
      refine (pay1 _ _ y).trans (congrArg (_ + ·) ?_)
      exact partial5 m c t y)
    (le_of_eq N_0) tz rfl y, zero_add]
  refine Eq.trans ?_ (cut 32 32 fun q => part m c (8 * q + (y 0).val) (y 1)).symm
  refine (Fintype.sum_equiv (finCongr N_0) _ _ fun t => ?_)
  refine Finset.sum_congr rfl fun k _ => ?_
  have e : 256 * t.val + (8 * k.val + (y 0).val) = 8 * (32 * t.val + k.val) + (y 0).val := by ring
  rw [e]; rfl

theorem arr7 : (dats m 0 c).arrAt 7 cfg0.N = (fun y => ∑ q : Fin 1024, part m c (8 * q.val + (y 0).val) (y 1) : S8x1024.Idx → EReal) := by
  refine (dats m 0 c).arrAt_eq_of_after_last 7 tz (by decide +kernel) _ fun y => ?_
  blk_simp
  rw [after0_7]
  exact o7 m c y

/-! ## The host's sum of the eight rows -/

theorem colsum (x : FVec Ideal S8x1024 .f32) (i : S1x1024.Idx) :
    broadcastInDim S1x1024 ![1] bcast_S1024_S1x1024_1 (Host.reduceAdd x (constant S_ .f32 0x00000000#32) reducesTo_S8x1024_S1024_d0 h_S_) i
      = (∑ a : Fin 8, x (ix2 a (i 1)) : EReal) := by
  rw [broadcastInDim_apply _ bcast_S1024_S1x1024_1 _ i (fun a => match a with | ⟨0, _⟩ => ⟨(i 1).val, (i 1).isLt⟩)
    (fun a => match a with | ⟨0, _⟩ => by show (i 1).val = if (1024 : Nat) = 1 then 0 else (i 1).val; rw [if_neg (by decide)])]
  simp only [Host.reduceAdd, Ideal.hostReduceAdd_def]
  rw [Ideal.hostReduceAdd_single reducesTo_S8x1024_S1024_d0 (by decide)]
  exact (zadd _).trans (Finset.sum_congr rfl fun k _ => congrArg x (same2 rfl rfl))

/-- The gain's gradient, as the reference computes it. -/
abbrev outG : FVec Ideal S1x1024 .f32 := Cert.RefDH1Ideal.Read.val_main_v19 (F := Ideal) (a0 m c) (a2 m c) (a3 m c)

theorem gather (i : S1x1024.Idx) : (∑ a : Fin 8, ∑ q : Fin 1024, part m c (8 * q.val + a.val) (i 1)) = outG m c i := by
  refine Eq.trans ?_ (r19 (a0 m c) (a2 m c) (a3 m c) i).symm
  rw [Finset.sum_comm]
  refine (cut 1024 8 fun r => part m c r (i 1)).symm.trans (Finset.sum_congr rfl fun r _ => ?_)
  exact dif_pos r.isLt

theorem res4 {r : PUnit.{1} × MemSt nD τ sig (Elt Ideal)}
    (h : Pipeline.FramePost cfgs (dats m) 0 (Pipeline.afterTail₀ cfgs (dats m) 0 (V0 m) [hostOps1]) r) :
    r.2.mem ((c.tc : Thread nD τ).loc main_v4) = outG m c := by
  rw [Pipeline.FramePost.rest_eq h c main_v4 (by decide)]
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v2_2) = (dats m 0 c).arrAt 7 cfg0.N from
    Pipeline.withArrays_arr (cfgs 0).spec launch0.win.arr_inj c _ _ 7, arr7 m c]
  funext i
  exact (colsum _ i).trans (gather m c i)

/-! ## The claim -/

theorem algebraic : algebraic_DH1Ideal_RefDH1Ideal (hDH1Ideal := Cert.DH1Ideal.Gen.facts) (hRefDH1Ideal := Cert.RefDH1Ideal.Gen.facts) := by
  intro m g m' g' _ hm
  refine ⟨fun c => out5 m c, fun c => (out5 m c : S8192x1024.Idx → EReal), fun c => outG m c, ?_, ?_⟩
  · refine (θ_run _ _ _).mono ?_ (θ_run_and (Cert.DH1Ideal.Gen.run_main m g) (Cert.DH1Ideal.Gen.frame m g))
    rintro r ⟨h, hf, -⟩ c
    exact ⟨(h.out_eq c 5).trans (arr5 m c), (h.out_eq c 6).trans (arr6 m c), res4 m c h, hf c⟩
  · refine (θ_run _ _ _).mono ?_ (Cert.RefDH1Ideal.Value.run (F := Ideal) m' g')
    intro r h c
    obtain ⟨k0, k1, k2, kf⟩ := h c
    obtain ⟨q0, q1, q2, q3, q4⟩ := hm c
    refine ⟨k0.trans ?_, k1.trans ?_, k2.trans ?_, kf⟩
    · unfold Cert.RefDH1Ideal.Value.res_main_v36
      rw [q0, q1, q2, q3, q4]; rfl
    · unfold Cert.RefDH1Ideal.Value.res_main_v37
      rw [q0, q1, q2, q3, q4]; rfl
    · rw [q0, q2, q3]; rfl

end Cert.MlpNorm
-- ==== Proof.Ff1.lean ====
/-
  The feed-forward block's first product and its relu: the kernel's tiles, the relu and its square, against the whole product's.
-/
module

public import proofs.«01_k».proof.Defs
public import proofs.«01_k».proof.Proof.Products
public import proofs.«01_k».proof.Proof.Gen.Ff1Ideal.Value
public import proofs.«01_k».proof.Proof.Gen.RefFf1Ideal.Run
public import proofs.«01_k».proof.Proof.Gen.RefFf1Ideal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.Up

open Cert.Products Cert.Ff1Ideal Cert.Ff1Ideal.Gen Idealize.ShloMosaic Idealize.ShloMosaic.ValueIdx
open Idealize.ShloMosaic.TcCoe Idealize.SL.Sem

variable (m : (ℓ : Loc nD τ sig) → Buf (Elt Ideal) ℓ) (c : Dev nD)

theorem V12' : V m c main_v12 = truncf (F := Ideal) .bf16 (Cert.RefFf1Ideal.Read.val_main_v11 (F := Ideal)
    (m ((c.tc : Thread nD τ).loc main_arg0)) (m ((c.tc : Thread nD τ).loc main_arg1))) bitsLt_bf16_f32 := by
  show StableHlo.after hostOps0 _ (Proc.devRef .tc main_v12) = _
  after_results
  rfl
theorem V13' : V m c main_v13 = truncf (F := Ideal) .bf16 (m ((c.tc : Thread nD τ).loc main_arg2)) bitsLt_bf16_f32 := by
  show StableHlo.after hostOps0 _ (Proc.devRef .tc main_v13) = _
  after_results

theorem e0 : ∀ t : Fin cfg0.N, win0_0.index t = ![t.val / 4, 0] := (by decide +kernel : ∀ t : Fin grid0.N, _)
theorem e1 : ∀ t : Fin cfg0.N, win0_1.index t = ![0, t.val % 4] := (by decide +kernel : ∀ t : Fin grid0.N, _)
theorem e2 : ∀ t : Fin cfg0.N, win0_2.index t = ![t.val / 4, t.val % 4] := (by decide +kernel : ∀ t : Fin grid0.N, _)
theorem e3 : ∀ t : Fin cfg0.N, win0_3.index t = ![t.val / 4, t.val % 4] := (by decide +kernel : ∀ t : Fin grid0.N, _)
theorem lt32 (t : Fin cfg0.N) : t.val < 32 := t.isLt.trans_eq N_0

theorem b0 (t : Fin cfg0.N) (i : S1024x1024.Idx) (h : 1024 * (t.val / 4) + (i 0).val < 8192) :
    (iblk m c 0 t : Vec Ideal S1024x1024 .bf16) i = V m c main_v12 (ValueIdx.ix2 (⟨1024 * (t.val / 4) + (i 0).val, h⟩ : Fin 8192) (i 1)) := by
  unfold iblk
  blk_simp [e0 t]
  congr 1
  blk_ext [e0 t]
theorem b1 (t : Fin cfg0.N) (i : S1024x1024.Idx) (h : 1024 * (t.val % 4) + (i 1).val < 4096) :
    (iblk m c 1 t : Vec Ideal S1024x1024 .bf16) i = V m c main_v13 (ValueIdx.ix2 (i 0) (⟨1024 * (t.val % 4) + (i 1).val, h⟩ : Fin 4096)) := by
  unfold iblk
  blk_simp [e1 t]
  congr 1
  blk_ext [e1 t]

theorem pay (w d : FVec Ideal S1024x1024 .bf16) (i : S1024x1024.Idx) :
    k0_pay1 (F := Ideal) w d i = FloatOps.maximumf (F := Ideal) (φ := .f32) (∑ k : Fin 1024, d (ix2 (i 0) k) * w (ix2 k (i 1)) : EReal) (FloatOps.ofBits .f32 0x00000000#32) := by
  unfold k0_pay1
  rw [shapeCast_self, shapeCast_self]
  exact congrArg (fun x => FloatOps.maximumf (F := Ideal) (φ := .f32) x (FloatOps.ofBits .f32 0x00000000#32)) (nn d w i)

theorem hid (t : Fin cfg0.N) (y : S1024x1024.Idx) (h : 1024 * (t.val / 4) + (y 0).val < 8192) (h' : 1024 * (t.val % 4) + (y 1).val < 4096) :
    k0_pay1 (F := Ideal) (iblk m c 1 t) (iblk m c 0 t) y = Cert.RefFf1Ideal.Read.val_main_v13 (F := Ideal)
      (m ((c.tc : Thread nD τ).loc main_arg0)) (m ((c.tc : Thread nD τ).loc main_arg1)) (m ((c.tc : Thread nD τ).loc main_arg2))
      (ValueIdx.ix2 (⟨1024 * (t.val / 4) + (y 0).val, h⟩ : Fin 8192) (⟨1024 * (t.val % 4) + (y 1).val, h'⟩ : Fin 4096)) := by
  rw [pay, Finset.sum_congr rfl fun k _ => congrArg₂ (fun a b : EReal => a * b) (b0 m c t (ix2 (y 0) k) h) (b1 m c t (ix2 k (y 1)) h'), V12', V13']
  refine Eq.trans ?_ (Cert.RefFf1Ideal.Read.val_main_v13_apply _ _ _ _).symm
  rw [Cert.RefFf1Ideal.Read.val_main_v12_apply]
  refine congrArg (fun x => FloatOps.maximumf (F := Ideal) (φ := .f32) x (FloatOps.ofBits .f32 0x00000000#32)) (Finset.sum_congr rfl fun k _ => ?_)
  exact congrArg₂ (fun a b : EReal => a * b) (congrArg (Cert.RefFf1Ideal.Read.val_main_v11 (F := Ideal)
    (m ((c.tc : Thread nD τ).loc main_arg0)) (m ((c.tc : Thread nD τ).loc main_arg1))) (same2 rfl rfl)) (congrArg (m ((c.tc : Thread nD τ).loc main_arg2)) (same2 rfl rfl))

theorem arr2 : (dats m 0 c).arrAt 2 cfg0.N = Cert.RefFf1Ideal.Read.val_main_v14 (F := Ideal)
      (m ((c.tc : Thread nD τ).loc main_arg0)) (m ((c.tc : Thread nD τ).loc main_arg1)) (m ((c.tc : Thread nD τ).loc main_arg2)) := by
  refine (dats m 0 c).arrAt_eq_of_covers 2 _ (by decide +kernel) fun t hf y => ?_
  have ht := lt32 t
  have h0 : (y 0).val < 1024 := (y 0).isLt
  have h1 : (y 1).val < 1024 := (y 1).isLt
  blk_simp
  rw [after0_2]
  unfold out0_2
  frame_out
  refine (hid m c t y (by omega) (by omega)).trans ?_
  refine congrArg (Cert.RefFf1Ideal.Read.val_main_v13 (F := Ideal)
      (m ((c.tc : Thread nD τ).loc main_arg0)) (m ((c.tc : Thread nD τ).loc main_arg1)) (m ((c.tc : Thread nD τ).loc main_arg2))) ?_
  blk_ext [e2 t]

theorem arr3 : (dats m 0 c).arrAt 3 cfg0.N = Cert.RefFf1Ideal.Read.val_main_v17 (F := Ideal)
      (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht := lt32 t
  have h0 : (y 0).val < 1024 := (y 0).isLt
  have h1 : (y 1).val < 1024 := (y 1).isLt
  blk_simp
  rw [after0_3]
  unfold out0_3
  frame_out
  refine (congrArg (fun x : EReal => x * x) (hid m c t y (by omega) (by omega))).trans ?_
  refine congrArg (fun i => (Cert.RefFf1Ideal.Read.val_main_v13 (F := Ideal)
      (m ((c.tc : Thread nD τ).loc main_arg0)) (m ((c.tc : Thread nD τ).loc main_arg1)) (m ((c.tc : Thread nD τ).loc main_arg2)) i
      * Cert.RefFf1Ideal.Read.val_main_v13 (F := Ideal)
      (m ((c.tc : Thread nD τ).loc main_arg0)) (m ((c.tc : Thread nD τ).loc main_arg1)) (m ((c.tc : Thread nD τ).loc main_arg2)) i : EReal)) ?_
  blk_ext [e3 t]

theorem algebraic : algebraic_Ff1Ideal_RefFf1Ideal (hFf1Ideal := Cert.Ff1Ideal.Gen.facts)
    (hRefFf1Ideal := Cert.RefFf1Ideal.Gen.facts) := by
  intro m g m' g' hp hm
  refine ⟨fun c => Cert.RefFf1Ideal.Read.val_main_v14 (F := Ideal)
      (m ((c.tc : Thread nD τ).loc main_arg0)) (m ((c.tc : Thread nD τ).loc main_arg1)) (m ((c.tc : Thread nD τ).loc main_arg2)),
    fun c => Cert.RefFf1Ideal.Read.val_main_v17 (F := Ideal)
      (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (arr2 m c), (h c).2.1.trans (arr3 m c), (h c).2.2⟩) (Cert.Ff1Ideal.Value.run_blocks (F := Ideal) m g)
  · refine (θ_run _ _ _).mono (fun r h c => ?_) (Cert.RefFf1Ideal.Value.run (F := Ideal) m' g')
    obtain ⟨q0, q1, q2⟩ := hm c
    refine ⟨(h c).1.trans ?_, (h c).2.1.trans ?_, (h c).2.2⟩
    · rw [q0, q1, q2]; rfl
    · rw [q0, q1, q2]; rfl

end Cert.Up
-- ==== Proof.Ff2.lean ====
/-
  The feed-forward block's second product onto the residual, and the norm of the sum: the kernel's row tiles against the whole arrays.
-/
module

public import proofs.«01_k».proof.Defs
public import proofs.«01_k».proof.Proof.RowNorm
public import proofs.«01_k».proof.Proof.Gen.Ff2Ideal.Value
public import proofs.«01_k».proof.Proof.Gen.RefFf2Ideal.Run
public import proofs.«01_k».proof.Proof.Gen.RefFf2Ideal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.Down

open Cert.Products Cert.RowNorm Cert.Ff2Ideal Cert.Ff2Ideal.Gen Idealize.ShloMosaic Idealize.ShloMosaic.ValueIdx
open Idealize.ShloMosaic.TcCoe Idealize.SL.Sem

variable (m : (ℓ : Loc nD τ sig) → Buf (Elt Ideal) ℓ) (c : Dev nD)

/-- The squared hidden activations, as the reference computes them. -/
abbrev hid2 : FVec Ideal S8192x4096 .f32 := Cert.RefFf2Ideal.Read.val_main_v14 (F := Ideal) (m ((c.tc : Thread nD τ).loc main_arg0)) (m ((c.tc : Thread nD τ).loc main_arg1)) (m ((c.tc : Thread nD τ).loc main_arg2))
/-- The residual after the feed-forward block, as the reference computes it. -/
abbrev sum2 : FVec Ideal S8192x1024 .f32 := Cert.RefFf2Ideal.Read.val_main_v16 (F := Ideal) (m ((c.tc : Thread nD τ).loc main_arg0)) (m ((c.tc : Thread nD τ).loc main_arg1)) (m ((c.tc : Thread nD τ).loc main_arg2)) (m ((c.tc : Thread nD τ).loc main_arg3))

theorem V15' : V m c main_v15 = truncf (F := Ideal) .bf16 (hid2 m c) bitsLt_bf16_f32 := by
  show StableHlo.after (List.flatten [hostOps0, hostOps0_1, hostOps0_2]) _ (Proc.devRef .tc main_v15) = _
  simp only [hostOps0, hostOps0_1, hostOps0_2, List.flatten_cons, List.flatten_nil, List.append_nil, List.cons_append, List.nil_append]
  after_results
  rfl
theorem V16' : V m c main_v16 = truncf (F := Ideal) .bf16 (m ((c.tc : Thread nD τ).loc main_arg3)) bitsLt_bf16_f32 := by
  show StableHlo.after (List.flatten [hostOps0, hostOps0_1, hostOps0_2]) _ (Proc.devRef .tc main_v16) = _
  simp only [hostOps0, hostOps0_1, hostOps0_2, List.flatten_cons, List.flatten_nil, List.append_nil, List.cons_append, List.nil_append]
  after_results

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem lt16 (t : Fin cfg0.N) : t.val < 16 := t.isLt.trans_eq N_0

theorem b0 (t : Fin cfg0.N) (i : S512x4096.Idx) (h : 512 * t.val + (i 0).val < 8192) :
    (iblk m c 0 t : Vec Ideal S512x4096 .bf16) i = V m c main_v15 (ValueIdx.ix2 (⟨512 * t.val + (i 0).val, h⟩ : Fin 8192) (i 1)) := by
  unfold iblk
  blk_simp [e0 t]
  congr 1
  blk_ext [e0 t]
theorem b1 (t : Fin cfg0.N) (i : S4096x1024.Idx) : (iblk m c 1 t : Vec Ideal S4096x1024 .bf16) i = V m c main_v16 i := by
  unfold iblk
  blk_simp [e1 t]
  congr 1
  blk_ext [e1 t]
theorem b2 (t : Fin cfg0.N) (i : S512x1024.Idx) (h : 512 * t.val + (i 0).val < 8192) :
    (iblk m c 2 t : Vec Ideal S512x1024 .f32) i = V m c main_arg0 (ValueIdx.ix2 (⟨512 * t.val + (i 0).val, h⟩ : Fin 8192) (i 1)) := by
  unfold iblk
  blk_simp [e2 t]
  congr 1
  blk_ext [e2 t]
theorem b3 (t : Fin cfg0.N) (i : S1x1024.Idx) : (iblk m c 3 t : Vec Ideal S1x1024 .f32) i = V m c main_arg4 i := by
  unfold iblk
  blk_simp [e3 t]
  congr 1
  blk_ext [e3 t]

theorem pay (w : FVec Ideal S4096x1024 .bf16) (d : FVec Ideal S512x4096 .bf16) (x : FVec Ideal S512x1024 .f32) (i : S512x1024.Idx) :
    k0_pay1 (F := Ideal) w d x i = (x i + ∑ k : Fin 4096, d (ix2 (i 0) k) * w (ix2 k (i 1)) : EReal) := by
  unfold k0_pay1
  rw [shapeCast_self, shapeCast_self]
  exact (congrArg (fun a : EReal => a + x i) (nn d w i)).trans (add_comm _ _)

theorem res (t : Fin cfg0.N) (y : S512x1024.Idx) (h : 512 * t.val + (y 0).val < 8192) :
    k0_pay1 (F := Ideal) (iblk m c 1 t) (iblk m c 0 t) (iblk m c 2 t) y
      = sum2 m c (ValueIdx.ix2 (⟨512 * t.val + (y 0).val, h⟩ : Fin 8192) (y 1)) := by
  rw [pay, Finset.sum_congr rfl fun k _ => congrArg₂ (fun a b : EReal => a * b) (b0 m c t (ix2 (y 0) k) h) (b1 m c t (ix2 k (y 1))), b2 m c t y h,
    V15', V16', V_main_arg0]
  refine Eq.trans ?_ (Cert.RefFf2Ideal.Read.val_main_v16_apply _ _ _ _ _).symm
  rw [Cert.RefFf2Ideal.Read.val_main_v15_apply]
  refine congrArg₂ (fun a b : EReal => a + b) rfl (Finset.sum_congr rfl fun k _ => ?_)
  exact congrArg₂ (fun a b : EReal => a * b) (congrArg (hid2 m c) (same2 rfl rfl)) (congrArg (m ((c.tc : Thread nD τ).loc main_arg3)) (same2 rfl rfl))

/-- The reference's norm, at an index. -/
theorem ref (i : S8192x1024.Idx) : Cert.RefFf2Ideal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i
    = (sum2 m c i * scale (fun k => sum2 m c (ValueIdx.ix2 (i 0) k)) * (m ((c.tc : Thread nD τ).loc main_arg4)) (ValueIdx.ix2 (0 : Fin 1) (i 1)) : EReal) := by
  rw [Cert.RefFf2Ideal.Read.val_main_v28_apply, Cert.RefFf2Ideal.Read.val_main_v26_apply, Cert.RefFf2Ideal.Read.val_main_v25_apply,
    Cert.RefFf2Ideal.Read.val_main_v24_apply, Cert.RefFf2Ideal.Read.val_main_v23_apply, Cert.RefFf2Ideal.Read.val_main_v21_apply,
    Cert.RefFf2Ideal.Read.val_main_v19_apply, Cert.RefFf2Ideal.Read.val_main_v18_apply, Cert.RefFf2Ideal.Read.val_main_v27_apply,
    Cert.RefFf2Ideal.Read.val_main_v20_apply, Cert.RefFf2Ideal.Read.val_main_v22_apply]
  refine congrArg₂ (fun a b : EReal => a * b) (congrArg (fun a : EReal => sum2 m c i * a) ?_) (congrArg (m ((c.tc : Thread nD τ).loc main_arg4)) (same2 rfl rfl))
  refine congrArg (fun s : EReal => FloatOps.hostUnary (F := Ideal) (φ := .f32) .rsqrt (FloatOps.addf (F := Ideal) (φ := .f32)
    (FloatOps.hostDivf (F := Ideal) (φ := .f32) s (FloatOps.ofBits .f32 0x44800000#32)) (FloatOps.ofBits .f32 0x358637BD#32))) ?_
  refine (zadd _).trans (Finset.sum_congr rfl fun k _ => ?_)
  exact congrArg (fun j => (sum2 m c j * sum2 m c j : EReal)) (same2 rfl rfl)

theorem arr4 : (dats m 0 c).arrAt 4 cfg0.N = sum2 m c := by
  refine (dats m 0 c).arrAt_eq_of_covers 4 _ (by decide +kernel) fun t hf y => ?_
  have ht := lt16 t
  have h0 : (y 0).val < 512 := (y 0).isLt
  blk_simp
  rw [after0_4]
  unfold out0_4
  frame_out
  refine (res m c t y (by omega)).trans ?_
  refine congrArg (sum2 m c) ?_
  blk_ext [e4 t]

theorem arr5 : (dats m 0 c).arrAt 5 cfg0.N = Cert.RefFf2Ideal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have ht := lt16 t
  have h0 : (y 0).val < 512 := (y 0).isLt
  blk_simp
  rw [after0_5]
  unfold out0_5
  frame_out
  refine (tile (R := 512) (by decide) (k0_pay1 (F := Ideal) (iblk m c 1 t) (iblk m c 0 t) (iblk m c 2 t)) (iblk m c 3 t : FVec Ideal S1x1024 .f32)
    reduces_S512x1024_S512 shapeCasts_S512_S512x1 broadcasts_S512x1_S512x1024 broadcasts_S1x1024_S512x1024 y).trans ?_
  rw [show (fun k : Fin 1024 => k0_pay1 (F := Ideal) (iblk m c 1 t) (iblk m c 0 t) (iblk m c 2 t) (ix2 (y 0) k)) = _ from
    funext fun k => res m c t (ix2 (y 0) k) (by show 512 * t.val + (y 0).val < _; omega),
    res m c t y (by omega), b3, V_main_arg4]
  refine (ref m c (ValueIdx.ix2 (⟨512 * t.val + (y 0).val, by omega⟩ : Fin 8192) (y 1))).symm.trans ?_
  refine congrArg (Cert.RefFf2Ideal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) ?_
  blk_ext [e5 t]

theorem algebraic : algebraic_Ff2Ideal_RefFf2Ideal (hFf2Ideal := Cert.Ff2Ideal.Gen.facts)
    (hRefFf2Ideal := Cert.RefFf2Ideal.Gen.facts) := by
  intro m g m' g' hp hm
  refine ⟨fun c => sum2 m c, fun c => Cert.RefFf2Ideal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run _ _ _).mono (fun r h c => ⟨(h c).1.trans (arr4 m c), (h c).2.1.trans (arr5 m c), (h c).2.2⟩) (Cert.Ff2Ideal.Value.run_blocks (F := Ideal) m g)
  · refine (θ_run _ _ _).mono (fun r h c => ?_) (Cert.RefFf2Ideal.Value.run (F := Ideal) m' g')
    obtain ⟨q0, q1, q2, q3, q4⟩ := hm c
    refine ⟨(h c).1.trans ?_, (h c).2.1.trans ?_, (h c).2.2⟩
    · rw [q0, q1, q2, q3]; rfl
    · unfold Cert.RefFf2Ideal.Value.res_main_v29; rw [q0, q1, q2, q3, q4]; rfl

end Cert.Down
-- ==== Proof.DWOut.lean ====
/-
  The output projection's transpose in its weights: four row stretches accumulated in the scratch, against the whole sum.
-/
module

public import proofs.«01_k».proof.Defs
public import proofs.«01_k».proof.Proof.Products
public import proofs.«01_k».proof.Proof.Gen.DWOutIdeal.Value
public import proofs.«01_k».proof.Proof.Gen.RefDWOutIdeal.Run
public import proofs.«01_k».proof.Proof.Gen.RefDWOutIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.WOutBack

open Cert.Products Cert.DWOutIdeal Cert.DWOutIdeal.Gen Idealize.ShloMosaic Idealize.ShloMosaic.ValueIdx
open Idealize.ShloMosaic.TcCoe Idealize.SL.Sem

variable (m : (ℓ : Loc nD τ sig) → Buf (Elt Ideal) ℓ) (c : Dev nD)

theorem V0' : V m c main_v0 = truncf (F := Ideal) .bf16 (m ((c.tc : Thread nD τ).loc main_arg0)) bitsLt_bf16_f32 := by
  show StableHlo.after hostOps0 _ (Proc.devRef .tc main_v0) = _
  after_results
theorem V1' : V m c main_v1 = truncf (F := Ideal) .bf16 (m ((c.tc : Thread nD τ).loc main_arg1)) bitsLt_bf16_f32 := by
  show StableHlo.after hostOps0 _ (Proc.devRef .tc main_v1) = _
  after_results

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)
theorem lt8 (t : Fin cfg0.N) : t.val < 8 := t.isLt.trans_eq N_0

theorem b0 (t : Fin cfg0.N) (i : S2048x1024.Idx) (h : 2048 * (t.val % 4) + (i 0).val < 8192) (h' : 1024 * (t.val / 4) + (i 1).val < 2048) :
    (iblk m c 0 t : Vec Ideal S2048x1024 .bf16) i
      = V m c main_v0 (ValueIdx.ix2 (⟨2048 * (t.val % 4) + (i 0).val, h⟩ : Fin 8192) (⟨1024 * (t.val / 4) + (i 1).val, h'⟩ : Fin 2048)) := by
  unfold iblk
  blk_simp [e0 t]
  congr 1
  blk_ext [e0 t]
theorem b1 (t : Fin cfg0.N) (i : S2048x1024.Idx) (h : 2048 * (t.val % 4) + (i 0).val < 8192) :
    (iblk m c 1 t : Vec Ideal S2048x1024 .bf16) i = V m c main_v1 (ValueIdx.ix2 (⟨2048 * (t.val % 4) + (i 0).val, h⟩ : Fin 8192) (i 1)) := by
  unfold iblk
  blk_simp [e1 t]
  congr 1
  blk_ext [e1 t]

theorem pay (w d : FVec Ideal S2048x1024 .bf16) (i : S1024x1024.Idx) :
    k0_pay1 (F := Ideal) w d i = ∑ k : Fin 2048, d (ix2 k (i 0)) * w (ix2 k (i 1)) := by
  unfold k0_pay1
  rw [shapeCast_self, shapeCast_self]
  exact tn d w i

/-- The products summed at an entry of the array. -/
abbrev terms (i : S2048x1024.Idx) : Fin 8192 → EReal :=
  pairs (K := 8192) (M := 2048) (N := 1024) (φ₁ := .f32) (φ₂ := .f32) (m ((c.tc : Thread nD τ).loc main_arg0)) (m ((c.tc : Thread nD τ).loc main_arg1)) i

/-- The cell a tile's entry is. -/
def cell (q : ℕ) (y : S1024x1024.Idx) (h : q < 2) : S2048x1024.Idx :=
  ix2 (⟨1024 * q + (y 0).val, by have h0 : (y 0).val < 1024 := (y 0).isLt; omega⟩ : Fin 2048) (y 1)

theorem step (q j n : ℕ) (hq : q < 2) (hj : j < 4) (hn : n = 4 * q + j) (h : n < cfg0.N) (y : S1024x1024.Idx) :
    k0_pay1 (F := Ideal) (iblk m c 1 ⟨n, h⟩) (iblk m c 0 ⟨n, h⟩) y = part (terms m c (cell q y hq)) 2048 j (by omega) := by
  subst hn
  have e : (4 * q + j) % 4 = j := by omega
  have e' : (4 * q + j) / 4 = q := by omega
  have h0 : (y 0).val < 1024 := (y 0).isLt
  rw [pay]
  refine Finset.sum_congr rfl fun k _ => ?_
  have hk : k.val < 2048 := k.isLt
  refine (congrArg₂ (fun a b : EReal => a * b) (b0 m c ⟨4 * q + j, h⟩ (ix2 k (y 0)) (by show 2048 * ((4 * q + j) % 4) + k.val < _; omega)
    (by show 1024 * ((4 * q + j) / 4) + (y 0).val < _; omega)) (b1 m c ⟨4 * q + j, h⟩ (ix2 k (y 1)) (by show 2048 * ((4 * q + j) % 4) + k.val < _; omega))).trans ?_
  rw [V0', V1']
  refine congrArg₂ (fun a b : EReal => a * b) (congrArg (m ((c.tc : Thread nD τ).loc main_arg0)) (same2 ?_ ?_)) (congrArg (m ((c.tc : Thread nD τ).loc main_arg1)) (same2 ?_ rfl))
  · show 2048 * ((4 * q + j) % 4) + k.val = 2048 * j + k.val; rw [e]
  · show 1024 * ((4 * q + j) / 4) + (y 0).val = 1024 * q + (y 0).val; rw [e']
  · show 2048 * ((4 * q + j) % 4) + k.val = 2048 * j + k.val; rw [e]

theorem s0 (q : ℕ) (hq : q < 2) (h : 4 * q < cfg0.N) (y : S1024x1024.Idx) :
    (outsAt0 m c (4 * q) h).2 y = part (terms m c (cell q y hq)) 2048 0 (by omega) := by
  rw [outsAt0_A m c ⟨4 * q, h⟩ (by show 4 * q % 4 = 0; omega) (by show ¬1 ≤ 4 * q % 4; omega) (by show ¬4 * q % 4 = 3; omega)]
  frame_out
  unfold k0_pay2
  rw [shapeCast_self]
  exact step m c q 0 (4 * q) hq (by omega) rfl h y

theorem sS (q j : ℕ) (hq : q < 2) (h0 : 0 < j) (h3 : j < 3) (h : 4 * q + j < cfg0.N) (y : S1024x1024.Idx) :
    (outsAt0 m c (4 * q + j) h).2 y = (outsAt0 m c (4 * q + j - 1) (by omega)).2 y + part (terms m c (cell q y hq)) 2048 j (by omega) := by
  rw [outsAt0_B m c ⟨4 * q + j, h⟩ (by show ¬(4 * q + j) % 4 = 0; omega) (by show 1 ≤ (4 * q + j) % 4; omega) (by show ¬(4 * q + j) % 4 = 3; omega)]
  frame_out
  unfold k0_pay3
  rw [shapeCast_self]
  refine congrArg₂ (fun a b : EReal => a + b) (congrFun (Memref.IsWhole.read_unread _ _) y) (step m c q j (4 * q + j) hq (by omega) rfl h y)

theorem p4 (v : FVec Ideal S1024x1024 .f32) (i : S1024x1024.Idx) : (k0_pay4 (F := Ideal) v i : EReal) = v i := rfl

theorem oL (q : ℕ) (hq : q < 2) (h : 4 * q + 3 < cfg0.N) (y : S1024x1024.Idx) :
    (outsAt0 m c (4 * q + 3) h).1 y = ∑ r : Fin 8192, terms m c (cell q y hq) r := by
  rw [outsAt0_C m c ⟨4 * q + 3, h⟩ (by show ¬(4 * q + 3) % 4 = 0; omega) (by show 1 ≤ (4 * q + 3) % 4; omega) (by show (4 * q + 3) % 4 = 3; omega)]
  frame_out
  refine (p4 _ y).trans ?_
  unfold k0_pay3
  rw [shapeCast_self]
  refine (congrArg₂ (fun a b : EReal => a + b) (congrFun (Memref.IsWhole.read_unread _ _) y) (step m c q 3 (4 * q + 3) hq (by omega) rfl h y)).trans ?_
  rw [show (outsAt0 m c (4 * q + 3 - 1) (by omega)).2 y = _ from sS m c q 2 hq (by omega) (by omega) (by omega) y,
    show (outsAt0 m c (4 * q + 2 - 1) (by omega)).2 y = _ from sS m c q 1 hq (by omega) (by omega) (by omega) y,
    show (outsAt0 m c (4 * q + 1 - 1) (by omega)).2 y = _ from s0 m c q hq (by omega) y,
    parts _ 2048 4 rfl, Fin.sum_univ_four]
  rfl

theorem last : ∀ t : Fin cfg0.N, (cfg0.win 2).flush t = true → t.val % 4 = 3 := (by decide +kernel : ∀ t : Fin grid0.N, _)

theorem arr2 : (dats m 0 c).arrAt 2 cfg0.N = Cert.RefDWOutIdeal.Read.val_main_v4 (F := Ideal)
      (m ((c.tc : Thread nD τ).loc main_arg0)) (m ((c.tc : Thread nD τ).loc main_arg1)) := by
  refine (dats m 0 c).arrAt_eq_of_covers 2 _ (by decide +kernel) fun t hf y => ?_
  have ht := lt8 t
  have h0 : (y 0).val < 1024 := (y 0).isLt
  have hl := last t hf
  have he := e2 t
  obtain ⟨q, hq⟩ : ∃ q, t.val = 4 * q + 3 := ⟨t.val / 4, by omega⟩
  obtain ⟨n, hn⟩ := t
  obtain rfl : n = 4 * q + 3 := hq
  have hq : q < 2 := by have : 4 * q + 3 < 8 := ht; omega
  blk_simp
  rw [after0_2]
  refine (oL m c q hq hn y).trans ?_
  refine Eq.trans (b := Cert.RefDWOutIdeal.Read.val_main_v3 (F := Ideal) (m ((c.tc : Thread nD τ).loc main_arg0)) (m ((c.tc : Thread nD τ).loc main_arg1)) (cell q y hq)) ?_ ?_
  · rw [Cert.RefDWOutIdeal.Read.val_main_v3_apply, Cert.RefDWOutIdeal.Read.val_main_v2_apply]
    refine Finset.sum_congr rfl fun k _ => (mul_comm _ _).trans ?_
    exact congrArg₂ (fun a b : EReal => a * b) (congrArg (m ((c.tc : Thread nD τ).loc main_arg1)) (same2 rfl rfl))
      (congrArg (m ((c.tc : Thread nD τ).loc main_arg0)) (same2 rfl rfl))
  · refine congrArg (Cert.RefDWOutIdeal.Read.val_main_v3 (F := Ideal) (m ((c.tc : Thread nD τ).loc main_arg0)) (m ((c.tc : Thread nD τ).loc main_arg1))) ?_
    have e' : (4 * q + 3) / 4 = q := by omega
    rw [e'] at he
    blk_ext [he]
    · exact congrArg (· + (y 0).val) (Nat.mul_comm 1024 q)
    · rfl

theorem algebraic : algebraic_DWOutIdeal_RefDWOutIdeal (hDWOutIdeal := Cert.DWOutIdeal.Gen.facts)
    (hRefDWOutIdeal := Cert.RefDWOutIdeal.Gen.facts) := by
  intro m g m' g' hp hm
  refine ⟨fun c => Cert.RefDWOutIdeal.Read.val_main_v4 (F := Ideal)
      (m ((c.tc : Thread nD τ).loc main_arg0)) (m ((c.tc : Thread nD τ).loc main_arg1)), ?_, ?_⟩
  · exact (θ_run _ _ _).mono (fun r h c => ⟨(h c).1.trans (arr2 m c), (h c).2⟩) (Cert.DWOutIdeal.Value.run_blocks (F := Ideal) m g)
  · refine (θ_run _ _ _).mono (fun r h c => ?_) (Cert.RefDWOutIdeal.Value.run (F := Ideal) m' g')
    obtain ⟨q0, q1⟩ := hm c
    refine ⟨(h c).1.trans ?_, (h c).2⟩
    rw [q0, q1]
    rfl

end Cert.WOutBack
-- ==== Proof.DCat.lean ====
/-
  The output projection's transpose in its left operand: the kernel's tiles against the product of rows by rows.
-/
module

public import proofs.«01_k».proof.Defs
public import proofs.«01_k».proof.Proof.Products
public import proofs.«01_k».proof.Proof.Gen.DCatIdeal.Value
public import proofs.«01_k».proof.Proof.Gen.RefDCatIdeal.Run
public import proofs.«01_k».proof.Proof.Gen.RefDCatIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.CatBack

open Cert.Products Cert.DCatIdeal Cert.DCatIdeal.Gen Idealize.ShloMosaic Idealize.ShloMosaic.ValueIdx
open Idealize.ShloMosaic.TcCoe Idealize.SL.Sem

variable (m : (ℓ : Loc nD τ sig) → Buf (Elt Ideal) ℓ) (c : Dev nD)

theorem V0' : V m c main_v0 = truncf (F := Ideal) .bf16 (m ((c.tc : Thread nD τ).loc main_arg0)) bitsLt_bf16_f32 := by
  show StableHlo.after hostOps0 _ (Proc.devRef .tc main_v0) = _
  after_results
theorem V1' : V m c main_v1 = truncf (F := Ideal) .bf16 (m ((c.tc : Thread nD τ).loc main_arg1)) bitsLt_bf16_f32 := by
  show StableHlo.after hostOps0 _ (Proc.devRef .tc main_v1) = _
  after_results

theorem e0 : ∀ t : Fin cfg0.N, win0_0.index t = ![t.val / 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, t.val % 2] := (by decide +kernel : ∀ t : Fin grid0.N, _)
theorem lt16 (t : Fin cfg0.N) : t.val < 16 := t.isLt.trans_eq N_0

theorem b0 (t : Fin cfg0.N) (i : S1024x1024.Idx) (h : 1024 * (t.val / 2) + (i 0).val < 8192) :
    (iblk m c 0 t : Vec Ideal S1024x1024 .bf16) i = V m c main_v1 (ValueIdx.ix2 (⟨1024 * (t.val / 2) + (i 0).val, h⟩ : Fin 8192) (i 1)) := by
  unfold iblk
  blk_simp [e0 t]
  congr 1
  blk_ext [e0 t]
theorem b1 (t : Fin cfg0.N) (i : S1024x1024.Idx) (h : 1024 * (t.val % 2) + (i 0).val < 2048) :
    (iblk m c 1 t : Vec Ideal S1024x1024 .bf16) i = V m c main_v0 (ValueIdx.ix2 (⟨1024 * (t.val % 2) + (i 0).val, h⟩ : Fin 2048) (i 1)) := by
  unfold iblk
  blk_simp [e1 t]
  congr 1
  blk_ext [e1 t]

theorem pay (w d : FVec Ideal S1024x1024 .bf16) (i : S1024x1024.Idx) :
    k0_pay1 (F := Ideal) w d i = ∑ k : Fin 1024, d (ix2 (i 0) k) * w (ix2 (i 1) k) := by
  unfold k0_pay1
  rw [shapeCast_self, shapeCast_self]
  exact nt d w i

theorem o2 (t : Fin cfg0.N) (y : S1024x1024.Idx) (h : 1024 * (t.val / 2) + (y 0).val < 8192) (h' : 1024 * (t.val % 2) + (y 1).val < 2048) :
    out0_2 (iblk m c 0 t) (iblk m c 1 t) y = Cert.RefDCatIdeal.Read.val_main_v3 (F := Ideal)
      (m ((c.tc : Thread nD τ).loc main_arg0)) (m ((c.tc : Thread nD τ).loc main_arg1))
      (ValueIdx.ix2 (⟨1024 * (t.val / 2) + (y 0).val, h⟩ : Fin 8192) (⟨1024 * (t.val % 2) + (y 1).val, h'⟩ : Fin 2048)) := by
  unfold out0_2
  frame_out
  rw [pay, Finset.sum_congr rfl fun k _ => congrArg₂ (fun a b : EReal => a * b) (b0 m c t (ix2 (y 0) k) h) (b1 m c t (ix2 (y 1) k) h'), V0', V1']
  refine Eq.trans ?_ (Cert.RefDCatIdeal.Read.val_main_v2_apply _ _ _).symm
  exact Finset.sum_congr rfl fun k _ => congrArg₂ (fun a b : EReal => a * b)
    (congrArg (m ((c.tc : Thread nD τ).loc main_arg1)) (same2 rfl rfl)) (congrArg (m ((c.tc : Thread nD τ).loc main_arg0)) (same2 rfl rfl))

theorem arr2 : (dats m 0 c).arrAt 2 cfg0.N = Cert.RefDCatIdeal.Read.val_main_v3 (F := Ideal)
      (m ((c.tc : Thread nD τ).loc main_arg0)) (m ((c.tc : Thread nD τ).loc main_arg1)) := by
  refine (dats m 0 c).arrAt_eq_of_covers 2 _ (by decide +kernel) fun t hf y => ?_
  have ht := lt16 t
  have h0 : (y 0).val < 1024 := (y 0).isLt
  have h1 : (y 1).val < 1024 := (y 1).isLt
  blk_simp
  rw [after0_2]
  refine (o2 m c t y (by omega) (by omega)).trans ?_
  congr 1
  blk_ext [e2 t]

theorem algebraic : algebraic_DCatIdeal_RefDCatIdeal (hDCatIdeal := Cert.DCatIdeal.Gen.facts)
    (hRefDCatIdeal := Cert.RefDCatIdeal.Gen.facts) := by
  intro m g m' g' hp hm
  refine ⟨fun c => Cert.RefDCatIdeal.Read.val_main_v3 (F := Ideal)
      (m ((c.tc : Thread nD τ).loc main_arg0)) (m ((c.tc : Thread nD τ).loc main_arg1)), ?_, ?_⟩
  · exact (θ_run _ _ _).mono (fun r h c => ⟨(h c).1.trans (arr2 m c), (h c).2⟩) (Cert.DCatIdeal.Value.run_blocks (F := Ideal) m g)
  · refine (θ_run _ _ _).mono (fun r h c => ?_) (Cert.RefDCatIdeal.Value.run (F := Ideal) m' g')
    obtain ⟨q0, q1⟩ := hm c
    refine ⟨(h c).1.trans ?_, (h c).2⟩
    rw [q0, q1]
    rfl

end Cert.CatBack
-- ==== Proof.ProjOut.lean ====
/-
  The mixer's output projection onto the residual, and the norm of the sum: the kernel's row tiles against the whole arrays.
-/
module

public import proofs.«01_k».proof.Defs
public import proofs.«01_k».proof.Proof.RowNorm
public import proofs.«01_k».proof.Proof.Gen.ProjOutIdeal.Value
public import proofs.«01_k».proof.Proof.Gen.RefProjOutIdeal.Run
public import proofs.«01_k».proof.Proof.Gen.RefProjOutIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.OutProj

open Cert.Products Cert.RowNorm Cert.ProjOutIdeal Cert.ProjOutIdeal.Gen Idealize.ShloMosaic Idealize.ShloMosaic.ValueIdx
open Idealize.ShloMosaic.TcCoe Idealize.SL.Sem

variable (m : (ℓ : Loc nD τ sig) → Buf (Elt Ideal) ℓ) (c : Dev nD)

/-- The residual after the mixer, as the reference computes it. -/
abbrev sum1 : FVec Ideal S8192x1024 .f32 := Cert.RefProjOutIdeal.Read.val_main_v1 (F := Ideal) (m ((c.tc : Thread nD τ).loc main_arg0)) (m ((c.tc : Thread nD τ).loc main_arg1)) (m ((c.tc : Thread nD τ).loc main_arg2))

theorem V0' : V m c main_v0 = truncf (F := Ideal) .bf16 (m ((c.tc : Thread nD τ).loc main_arg1)) bitsLt_bf16_f32 := by
  show StableHlo.after hostOps0 _ (Proc.devRef .tc main_v0) = _
  after_results
theorem V1' : V m c main_v1 = truncf (F := Ideal) .bf16 (m ((c.tc : Thread nD τ).loc main_arg2)) bitsLt_bf16_f32 := by
  show StableHlo.after hostOps0 _ (Proc.devRef .tc main_v1) = _
  after_results

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem lt8 (t : Fin cfg0.N) : t.val < 8 := t.isLt.trans_eq N_0

theorem b0 (t : Fin cfg0.N) (i : S1024x2048.Idx) (h : 1024 * t.val + (i 0).val < 8192) :
    (iblk m c 0 t : Vec Ideal S1024x2048 .bf16) i = V m c main_v0 (ValueIdx.ix2 (⟨1024 * t.val + (i 0).val, h⟩ : Fin 8192) (i 1)) := by
  unfold iblk
  blk_simp [e0 t]
  congr 1
  blk_ext [e0 t]
theorem b1 (t : Fin cfg0.N) (i : S2048x1024.Idx) : (iblk m c 1 t : Vec Ideal S2048x1024 .bf16) i = V m c main_v1 i := by
  unfold iblk
  blk_simp [e1 t]
  congr 1
  blk_ext [e1 t]
theorem b2 (t : Fin cfg0.N) (i : S1024x1024.Idx) (h : 1024 * t.val + (i 0).val < 8192) :
    (iblk m c 2 t : Vec Ideal S1024x1024 .f32) i = V m c main_arg0 (ValueIdx.ix2 (⟨1024 * t.val + (i 0).val, h⟩ : Fin 8192) (i 1)) := by
  unfold iblk
  blk_simp [e2 t]
  congr 1
  blk_ext [e2 t]
theorem b3 (t : Fin cfg0.N) (i : S1x1024.Idx) : (iblk m c 3 t : Vec Ideal S1x1024 .f32) i = V m c main_arg3 i := by
  unfold iblk
  blk_simp [e3 t]
  congr 1
  blk_ext [e3 t]

theorem pay (w : FVec Ideal S2048x1024 .bf16) (d : FVec Ideal S1024x2048 .bf16) (x : FVec Ideal S1024x1024 .f32) (i : S1024x1024.Idx) :
    k0_pay1 (F := Ideal) w d x i = (x i + ∑ k : Fin 2048, d (ix2 (i 0) k) * w (ix2 k (i 1)) : EReal) := by
  unfold k0_pay1
  rw [shapeCast_self, shapeCast_self]
  exact (congrArg (fun a : EReal => a + x i) (nn d w i)).trans (add_comm _ _)

theorem res (t : Fin cfg0.N) (y : S1024x1024.Idx) (h : 1024 * t.val + (y 0).val < 8192) :
    k0_pay1 (F := Ideal) (iblk m c 1 t) (iblk m c 0 t) (iblk m c 2 t) y
      = sum1 m c (ValueIdx.ix2 (⟨1024 * t.val + (y 0).val, h⟩ : Fin 8192) (y 1)) := by
  rw [pay, Finset.sum_congr rfl fun k _ => congrArg₂ (fun a b : EReal => a * b) (b0 m c t (ix2 (y 0) k) h) (b1 m c t (ix2 k (y 1))), b2 m c t y h,
    V0', V1', V_main_arg0]
  refine Eq.trans ?_ (Cert.RefProjOutIdeal.Read.val_main_v1_apply _ _ _ _).symm
  rw [Cert.RefProjOutIdeal.Read.val_main_v0_apply]
  refine congrArg₂ (fun a b : EReal => a + b) rfl (Finset.sum_congr rfl fun k _ => ?_)
  exact congrArg₂ (fun a b : EReal => a * b) (congrArg (m ((c.tc : Thread nD τ).loc main_arg1)) (same2 rfl rfl)) (congrArg (m ((c.tc : Thread nD τ).loc main_arg2)) (same2 rfl rfl))

/-- The reference's norm, at an index. -/
theorem ref (i : S8192x1024.Idx) : Cert.RefProjOutIdeal.Read.val_main_v13 (F := Ideal) (m ((c.tc : Thread nD τ).loc main_arg0)) (m ((c.tc : Thread nD τ).loc main_arg1)) (m ((c.tc : Thread nD τ).loc main_arg2)) (m ((c.tc : Thread nD τ).loc main_arg3)) i
    = (sum1 m c i * scale (fun k => sum1 m c (ValueIdx.ix2 (i 0) k)) * (m ((c.tc : Thread nD τ).loc main_arg3)) (ValueIdx.ix2 (0 : Fin 1) (i 1)) : EReal) := by
  rw [Cert.RefProjOutIdeal.Read.val_main_v13_apply, Cert.RefProjOutIdeal.Read.val_main_v11_apply, Cert.RefProjOutIdeal.Read.val_main_v10_apply,
    Cert.RefProjOutIdeal.Read.val_main_v9_apply, Cert.RefProjOutIdeal.Read.val_main_v8_apply, Cert.RefProjOutIdeal.Read.val_main_v6_apply,
    Cert.RefProjOutIdeal.Read.val_main_v4_apply, Cert.RefProjOutIdeal.Read.val_main_v3_apply, Cert.RefProjOutIdeal.Read.val_main_v12_apply,
    Cert.RefProjOutIdeal.Read.val_main_v5_apply, Cert.RefProjOutIdeal.Read.val_main_v7_apply]
  refine congrArg₂ (fun a b : EReal => a * b) (congrArg (fun a : EReal => sum1 m c i * a) ?_) (congrArg (m ((c.tc : Thread nD τ).loc main_arg3)) (same2 rfl rfl))
  refine congrArg (fun s : EReal => FloatOps.hostUnary (F := Ideal) (φ := .f32) .rsqrt (FloatOps.addf (F := Ideal) (φ := .f32)
    (FloatOps.hostDivf (F := Ideal) (φ := .f32) s (FloatOps.ofBits .f32 0x44800000#32)) (FloatOps.ofBits .f32 0x358637BD#32))) ?_
  refine (zadd _).trans (Finset.sum_congr rfl fun k _ => ?_)
  exact congrArg (fun j => (sum1 m c j * sum1 m c j : EReal)) (same2 rfl rfl)

theorem arr4 : (dats m 0 c).arrAt 4 cfg0.N = sum1 m c := by
  refine (dats m 0 c).arrAt_eq_of_covers 4 _ (by decide +kernel) fun t hf y => ?_
  have ht := lt8 t
  have h0 : (y 0).val < 1024 := (y 0).isLt
  blk_simp
  rw [after0_4]
  unfold out0_4
  frame_out
  refine (res m c t y (by omega)).trans ?_
  refine congrArg (sum1 m c) ?_
  blk_ext [e4 t]

theorem arr5 : (dats m 0 c).arrAt 5 cfg0.N = Cert.RefProjOutIdeal.Read.val_main_v14 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have ht := lt8 t
  have h0 : (y 0).val < 1024 := (y 0).isLt
  blk_simp
  rw [after0_5]
  unfold out0_5
  frame_out
  refine (tile (R := 1024) (by decide) (k0_pay1 (F := Ideal) (iblk m c 1 t) (iblk m c 0 t) (iblk m c 2 t)) (iblk m c 3 t : FVec Ideal S1x1024 .f32)
    reduces_S1024x1024_S1024 shapeCasts_S1024_S1024x1 broadcasts_S1024x1_S1024x1024 broadcasts_S1x1024_S1024x1024 y).trans ?_
  rw [show (fun k : Fin 1024 => k0_pay1 (F := Ideal) (iblk m c 1 t) (iblk m c 0 t) (iblk m c 2 t) (ix2 (y 0) k)) = _ from
    funext fun k => res m c t (ix2 (y 0) k) (by show 1024 * t.val + (y 0).val < _; omega),
    res m c t y (by omega), b3, V_main_arg3]
  refine (ref m c (ValueIdx.ix2 (⟨1024 * t.val + (y 0).val, by omega⟩ : Fin 8192) (y 1))).symm.trans ?_
  refine congrArg (Cert.RefProjOutIdeal.Read.val_main_v13 (F := Ideal) (m ((c.tc : Thread nD τ).loc main_arg0)) (m ((c.tc : Thread nD τ).loc main_arg1)) (m ((c.tc : Thread nD τ).loc main_arg2)) (m ((c.tc : Thread nD τ).loc main_arg3))) ?_
  blk_ext [e5 t]

theorem algebraic : algebraic_ProjOutIdeal_RefProjOutIdeal (hProjOutIdeal := Cert.ProjOutIdeal.Gen.facts)
    (hRefProjOutIdeal := Cert.RefProjOutIdeal.Gen.facts) := by
  intro m g m' g' hp hm
  refine ⟨fun c => sum1 m c, fun c => Cert.RefProjOutIdeal.Read.val_main_v14 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run _ _ _).mono (fun r h c => ⟨(h c).1.trans (arr4 m c), (h c).2.1.trans (arr5 m c), (h c).2.2⟩) (Cert.ProjOutIdeal.Value.run_blocks (F := Ideal) m g)
  · refine (θ_run _ _ _).mono (fun r h c => ?_) (Cert.RefProjOutIdeal.Value.run (F := Ideal) m' g')
    obtain ⟨q0, q1, q2, q3⟩ := hm c
    refine ⟨(h c).1.trans ?_, (h c).2.1.trans ?_, (h c).2.2⟩
    · rw [q0, q1, q2]; rfl
    · rw [q0, q1, q2, q3]; rfl

end Cert.OutProj
-- ==== Proof.DWGate.lean ====
/-
  The gate's transpose in its weights: four row stretches accumulated in the scratch, against the whole sum.
-/
module

public import proofs.«01_k».proof.Defs
public import proofs.«01_k».proof.Proof.Products
public import proofs.«01_k».proof.Proof.Gen.DWGateIdeal.Value
public import proofs.«01_k».proof.Proof.Gen.RefDWGateIdeal.Run
public import proofs.«01_k».proof.Proof.Gen.RefDWGateIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.WGateBack

open Cert.Products Cert.DWGateIdeal Cert.DWGateIdeal.Gen Idealize.ShloMosaic Idealize.ShloMosaic.ValueIdx
open Idealize.ShloMosaic.TcCoe Idealize.SL.Sem

variable (m : (ℓ : Loc nD τ sig) → Buf (Elt Ideal) ℓ) (c : Dev nD)

/-- The normed rows the gate multiplies, as the reference computes them. -/
abbrev rows : FVec Ideal S8192x1024 .f32 := Cert.RefDWGateIdeal.Read.val_main_v12 (F := Ideal) (m ((c.tc : Thread nD τ).loc main_arg0)) (m ((c.tc : Thread nD τ).loc main_arg1))

theorem V12' : V m c main_v12 = truncf (F := Ideal) .bf16 (rows m c) bitsLt_bf16_f32 := by
  show StableHlo.after hostOps0 _ (Proc.devRef .tc main_v12) = _
  after_results
  rfl
theorem V13' : V m c main_v13 = truncf (F := Ideal) .bf16 (m ((c.tc : Thread nD τ).loc main_arg2)) bitsLt_bf16_f32 := by
  show StableHlo.after hostOps0 _ (Proc.devRef .tc main_v13) = _
  after_results

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem lt4 (t : Fin cfg0.N) : t.val < 4 := t.isLt.trans_eq N_0

theorem b0 (t : Fin cfg0.N) (i : S2048x1024.Idx) (h : 2048 * t.val + (i 0).val < 8192) :
    (iblk m c 0 t : Vec Ideal S2048x1024 .bf16) i = V m c main_v12 (ValueIdx.ix2 (⟨2048 * t.val + (i 0).val, h⟩ : Fin 8192) (i 1)) := by
  unfold iblk
  blk_simp [e0 t]
  congr 1
  blk_ext [e0 t]
theorem b1 (t : Fin cfg0.N) (i : S2048x1024.Idx) (h : 2048 * t.val + (i 0).val < 8192) :
    (iblk m c 1 t : Vec Ideal S2048x1024 .bf16) i = V m c main_v13 (ValueIdx.ix2 (⟨2048 * t.val + (i 0).val, h⟩ : Fin 8192) (i 1)) := by
  unfold iblk
  blk_simp [e1 t]
  congr 1
  blk_ext [e1 t]

/-- The products summed at an entry of the array. -/
abbrev terms (i : S1024x1024.Idx) : Fin 8192 → EReal :=
  pairs (K := 8192) (M := 1024) (N := 1024) (φ₁ := .f32) (φ₂ := .f32) (rows m c) (m ((c.tc : Thread nD τ).loc main_arg2)) i

/-- A point's product, its transposed factor first. -/
theorem pay (l r : FVec Ideal S2048x1024 .bf16) (y : S1024x1024.Idx) :
    k0_pay1 (F := Ideal) r l y = ∑ k : Fin 2048, l (ix2 k (y 0)) * r (ix2 k (y 1)) := by
  unfold k0_pay1
  rw [shapeCast_self, shapeCast_self]
  exact tn l r y

theorem step (j : ℕ) (hj : j < 4) (h : j < cfg0.N) (y : S1024x1024.Idx) :
    k0_pay1 (F := Ideal) (iblk m c 1 ⟨j, h⟩) (iblk m c 0 ⟨j, h⟩) y = part (terms m c y) 2048 j (by omega) := by
  rw [pay]
  refine Finset.sum_congr rfl fun k _ => ?_
  have hk : k.val < 2048 := k.isLt
  refine (congrArg₂ (fun a b : EReal => a * b) (b0 m c ⟨j, h⟩ (ix2 k (y 0)) (by show 2048 * j + k.val < _; omega))
    (b1 m c ⟨j, h⟩ (ix2 k (y 1)) (by show 2048 * j + k.val < _; omega))).trans ?_
  rw [V12', V13']
  rfl

theorem p4 (v : FVec Ideal S1024x1024 .f32) (i : S1024x1024.Idx) : (k0_pay4 (F := Ideal) v i : EReal) = v i := rfl

theorem s0 (h : 0 < cfg0.N) (y : S1024x1024.Idx) : (outsAt0 m c 0 h).2 y = part (terms m c y) 2048 0 (by omega) := by
  rw [outsAt0_A m c ⟨0, h⟩ rfl (by show ¬1 ≤ 0; omega) (by show ¬0 % 4 = 3; omega)]
  frame_out
  unfold k0_pay2
  rw [shapeCast_self]
  exact step m c 0 (by omega) h y

theorem sS (j : ℕ) (h0 : 0 < j) (h3 : j < 3) (h : j < cfg0.N) (y : S1024x1024.Idx) :
    (outsAt0 m c j h).2 y = (outsAt0 m c (j - 1) (by omega)).2 y + part (terms m c y) 2048 j (by omega) := by
  rw [outsAt0_B m c ⟨j, h⟩ (by show ¬j % 4 = 0; omega) (by show 1 ≤ j; omega) (by show ¬j % 4 = 3; omega)]
  frame_out
  unfold k0_pay3
  rw [shapeCast_self]
  exact congrArg₂ (fun a b : EReal => a + b) (congrFun (Memref.IsWhole.read_unread _ _) y) (step m c j (by omega) h y)

theorem oL (h : 3 < cfg0.N) (y : S1024x1024.Idx) : (outsAt0 m c 3 h).1 y = ∑ r : Fin 8192, terms m c y r := by
  rw [outsAt0_C m c ⟨3, h⟩ (by show ¬3 % 4 = 0; omega) (by show 1 ≤ 3; omega) rfl]
  frame_out
  refine (p4 _ y).trans ?_
  unfold k0_pay3
  rw [shapeCast_self]
  refine (congrArg₂ (fun a b : EReal => a + b) (congrFun (Memref.IsWhole.read_unread _ _) y) (step m c 3 (by omega) h y)).trans ?_
  rw [show (outsAt0 m c (3 - 1) (by omega)).2 y = _ from sS m c 2 (by omega) (by omega) (by omega) y,
    show (outsAt0 m c (2 - 1) (by omega)).2 y = _ from sS m c 1 (by omega) (by omega) (by omega) y,
    show (outsAt0 m c (1 - 1) (by omega)).2 y = _ from s0 m c (by omega) y,
    parts _ 2048 4 rfl, Fin.sum_univ_four]
  rfl

theorem oLt (t : Fin cfg0.N) (ht : t.val = 3) (y : S1024x1024.Idx) : (outsAt0 m c t.val t.isLt).1 y = ∑ r : Fin 8192, terms m c y r := by
  obtain ⟨n, hn⟩ := t
  obtain rfl : n = 3 := ht
  exact oL m c hn y

theorem last : ∀ t : Fin cfg0.N, (cfg0.win 2).flush t = true → t.val = 3 := (by decide +kernel : ∀ t : Fin grid0.N, _)

theorem arr2 : (dats m 0 c).arrAt 2 cfg0.N = Cert.RefDWGateIdeal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 2 _ (by decide +kernel) fun t hf y => ?_
  have he := e2 t
  blk_simp
  rw [after0_2]
  refine (oLt m c t (last t hf) y).trans ?_
  refine Eq.trans (b := Cert.RefDWGateIdeal.Read.val_main_v15 (F := Ideal) (m ((c.tc : Thread nD τ).loc main_arg0)) (m ((c.tc : Thread nD τ).loc main_arg1)) (m ((c.tc : Thread nD τ).loc main_arg2)) y) ?_ ?_
  · rw [Cert.RefDWGateIdeal.Read.val_main_v15_apply, Cert.RefDWGateIdeal.Read.val_main_v14_apply]
    refine Finset.sum_congr rfl fun k _ => (mul_comm _ _).trans ?_
    exact congrArg₂ (fun a b : EReal => a * b) (congrArg (m ((c.tc : Thread nD τ).loc main_arg2)) (same2 rfl rfl)) (congrArg (rows m c) (same2 rfl rfl))
  · refine congrArg (Cert.RefDWGateIdeal.Read.val_main_v15 (F := Ideal) (m ((c.tc : Thread nD τ).loc main_arg0)) (m ((c.tc : Thread nD τ).loc main_arg1)) (m ((c.tc : Thread nD τ).loc main_arg2))) ?_
    blk_ext [he]

theorem algebraic : algebraic_DWGateIdeal_RefDWGateIdeal (hDWGateIdeal := Cert.DWGateIdeal.Gen.facts)
    (hRefDWGateIdeal := Cert.RefDWGateIdeal.Gen.facts) := by
  intro m g m' g' hp hm
  refine ⟨fun c => Cert.RefDWGateIdeal.Read.val_main_v16 (F := Ideal) (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (arr2 m c), (h c).2⟩) (Cert.DWGateIdeal.Value.run_blocks (F := Ideal) m g)
  · refine (θ_run _ _ _).mono (fun r h c => ?_) (Cert.RefDWGateIdeal.Value.run (F := Ideal) m' g')
    obtain ⟨q0, q1, q2⟩ := hm c
    refine ⟨(h c).1.trans ?_, (h c).2⟩
    rw [q0, q1, q2]
    rfl

end Cert.WGateBack
-- ==== Proof.DWProj.lean ====
/-
  The gated projection's transpose in its weights: four row stretches accumulated in the scratch, against the whole sum.
-/
module

public import proofs.«01_k».proof.Defs
public import proofs.«01_k».proof.Proof.Products
public import proofs.«01_k».proof.Proof.Gen.DWProjIdeal.Value
public import proofs.«01_k».proof.Proof.Gen.RefDWProjIdeal.Run
public import proofs.«01_k».proof.Proof.Gen.RefDWProjIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.WProjBack

open Cert.Products Cert.DWProjIdeal Cert.DWProjIdeal.Gen Idealize.ShloMosaic Idealize.ShloMosaic.ValueIdx
open Idealize.ShloMosaic.TcCoe Idealize.SL.Sem

variable (m : (ℓ : Loc nD τ sig) → Buf (Elt Ideal) ℓ) (c : Dev nD)

theorem V0' : V m c main_v0 = truncf (F := Ideal) .bf16 (m ((c.tc : Thread nD τ).loc main_arg1)) bitsLt_bf16_f32 := by
  show StableHlo.after hostOps0 _ (Proc.devRef .tc main_v0) = _
  after_results

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

theorem b0 (t : Fin cfg0.N) (i : S2048x256.Idx) (h : 2048 * t.val + (i 0).val < 8192) :
    (iblk m c 0 t : Vec Ideal S2048x256 .f32) i = V m c main_arg0 (ValueIdx.ix2 (⟨2048 * t.val + (i 0).val, h⟩ : Fin 8192) (i 1)) := by
  unfold iblk
  blk_simp [e0 t]
  congr 1
  blk_ext [e0 t]
theorem b1 (t : Fin cfg0.N) (i : S2048x1024.Idx) (h : 2048 * t.val + (i 0).val < 8192) :
    (iblk m c 1 t : Vec Ideal S2048x1024 .bf16) i = V m c main_v0 (ValueIdx.ix2 (⟨2048 * t.val + (i 0).val, h⟩ : Fin 8192) (i 1)) := by
  unfold iblk
  blk_simp [e1 t]
  congr 1
  blk_ext [e1 t]

/-- The products summed at an entry of the array. -/
abbrev terms (i : S256x1024.Idx) : Fin 8192 → EReal :=
  pairs (K := 8192) (M := 256) (N := 1024) (φ₁ := .f32) (φ₂ := .f32) (m ((c.tc : Thread nD τ).loc main_arg0)) (m ((c.tc : Thread nD τ).loc main_arg1)) i

theorem step (j : ℕ) (hj : j < 4) (h : j < cfg0.N) (y : S256x1024.Idx) :
    k0_pay1 (F := Ideal) (iblk m c 1 ⟨j, h⟩) (iblk m c 0 ⟨j, h⟩) y = part (terms m c y) 2048 j (by omega) := by
  unfold k0_pay1
  rw [shapeCast_self]
  refine (tn (truncf (F := Ideal) .bf16 (iblk m c 0 ⟨j, h⟩ : FVec Ideal S2048x256 .f32) bitsLt_bf16_f32) (iblk m c 1 ⟨j, h⟩ : FVec Ideal S2048x1024 .bf16) y).trans
    (Finset.sum_congr rfl fun k _ => ?_)
  have hk : k.val < 2048 := k.isLt
  refine (congrArg₂ (fun a b : EReal => a * b) (b0 m c ⟨j, h⟩ (ix2 k (y 0)) (by show 2048 * j + k.val < _; omega))
    (b1 m c ⟨j, h⟩ (ix2 k (y 1)) (by show 2048 * j + k.val < _; omega))).trans ?_
  rw [V_main_arg0, V0']
  rfl

theorem p4 (v : FVec Ideal S256x1024 .f32) (i : S256x1024.Idx) : (k0_pay4 (F := Ideal) v i : EReal) = v i := rfl

theorem s0 (h : 0 < cfg0.N) (y : S256x1024.Idx) : (outsAt0 m c 0 h).2 y = part (terms m c y) 2048 0 (by omega) := by
  rw [outsAt0_A m c ⟨0, h⟩ rfl (by show ¬1 ≤ 0; omega) (by show ¬0 % 4 = 3; omega)]
  frame_out
  unfold k0_pay2
  rw [shapeCast_self]
  exact step m c 0 (by omega) h y

theorem sS (j : ℕ) (h0 : 0 < j) (h3 : j < 3) (h : j < cfg0.N) (y : S256x1024.Idx) :
    (outsAt0 m c j h).2 y = (outsAt0 m c (j - 1) (by omega)).2 y + part (terms m c y) 2048 j (by omega) := by
  rw [outsAt0_B m c ⟨j, h⟩ (by show ¬j % 4 = 0; omega) (by show 1 ≤ j; omega) (by show ¬j % 4 = 3; omega)]
  frame_out
  unfold k0_pay3
  rw [shapeCast_self]
  exact congrArg₂ (fun a b : EReal => a + b) (congrFun (Memref.IsWhole.read_unread _ _) y) (step m c j (by omega) h y)

theorem oL (h : 3 < cfg0.N) (y : S256x1024.Idx) : (outsAt0 m c 3 h).1 y = ∑ r : Fin 8192, terms m c y r := by
  rw [outsAt0_C m c ⟨3, h⟩ (by show ¬3 % 4 = 0; omega) (by show 1 ≤ 3; omega) rfl]
  frame_out
  refine (p4 _ y).trans ?_
  unfold k0_pay3
  rw [shapeCast_self]
  refine (congrArg₂ (fun a b : EReal => a + b) (congrFun (Memref.IsWhole.read_unread _ _) y) (step m c 3 (by omega) h y)).trans ?_
  rw [show (outsAt0 m c (3 - 1) (by omega)).2 y = _ from sS m c 2 (by omega) (by omega) (by omega) y,
    show (outsAt0 m c (2 - 1) (by omega)).2 y = _ from sS m c 1 (by omega) (by omega) (by omega) y,
    show (outsAt0 m c (1 - 1) (by omega)).2 y = _ from s0 m c (by omega) y,
    parts _ 2048 4 rfl, Fin.sum_univ_four]
  rfl

theorem oLt (t : Fin cfg0.N) (ht : t.val = 3) (y : S256x1024.Idx) : (outsAt0 m c t.val t.isLt).1 y = ∑ r : Fin 8192, terms m c y r := by
  obtain ⟨n, hn⟩ := t
  obtain rfl : n = 3 := ht
  exact oL m c hn y

theorem last : ∀ t : Fin cfg0.N, (cfg0.win 2).flush t = true → t.val = 3 := (by decide +kernel : ∀ t : Fin grid0.N, _)

theorem arr2 : (dats m 0 c).arrAt 2 cfg0.N = Cert.RefDWProjIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  have he := e2 t
  blk_simp
  rw [after0_2]
  refine (oLt m c t (last t hf) y).trans ?_
  refine Eq.trans (b := Cert.RefDWProjIdeal.Read.val_main_v3 (F := Ideal) (m ((c.tc : Thread nD τ).loc main_arg0)) (m ((c.tc : Thread nD τ).loc main_arg1)) y) ?_ ?_
  · rw [Cert.RefDWProjIdeal.Read.val_main_v3_apply, Cert.RefDWProjIdeal.Read.val_main_v2_apply]
    refine Finset.sum_congr rfl fun k _ => (mul_comm _ _).trans ?_
    exact congrArg₂ (fun a b : EReal => a * b) (congrArg (m ((c.tc : Thread nD τ).loc main_arg1)) (same2 rfl rfl)) (congrArg (m ((c.tc : Thread nD τ).loc main_arg0)) (same2 rfl rfl))
  · refine congrArg (Cert.RefDWProjIdeal.Read.val_main_v3 (F := Ideal) (m ((c.tc : Thread nD τ).loc main_arg0)) (m ((c.tc : Thread nD τ).loc main_arg1))) ?_
    blk_ext [he]

theorem algebraic : algebraic_DWProjIdeal_RefDWProjIdeal (hDWProjIdeal := Cert.DWProjIdeal.Gen.facts)
    (hRefDWProjIdeal := Cert.RefDWProjIdeal.Gen.facts) := by
  intro m g m' g' hp hm
  refine ⟨fun c => Cert.RefDWProjIdeal.Read.val_main_v4 (F := Ideal) (m ((c.tc : Thread nD τ).loc main_arg0)) (m ((c.tc : Thread nD τ).loc main_arg1)), ?_, ?_⟩
  · exact (θ_run _ _ _).mono (fun r h c => ⟨(h c).1.trans (arr2 m c), (h c).2⟩) (Cert.DWProjIdeal.Value.run_blocks (F := Ideal) m g)
  · refine (θ_run _ _ _).mono (fun r h c => ?_) (Cert.RefDWProjIdeal.Value.run (F := Ideal) m' g')
    obtain ⟨q0, q1⟩ := hm c
    refine ⟨(h c).1.trans ?_, (h c).2⟩
    rw [q0, q1]
    rfl

end Cert.WProjBack
-- ==== Proof.Adam.lean ====
/-
  One step of the optimiser at one weight: the two moments and the weight's change, and the gradient as a sum of eight devices'
  parts.
-/
module

public import proofs.«01_k».proof.Proof.Products
public import Idealize.ShloMosaic.Lib.Pipeline.ValueKit.Geometry
public import Idealize.ShloMosaic.Lib.Pipeline.ValueKit.Tiles
public import Idealize.ShloMosaic.Lib.Tactic

@[expose] public section

noncomputable section

open scoped BigOperators

namespace Cert.Adam

open Cert.Products Idealize.ShloMosaic Idealize.ShloMosaic.ValueIdx

/-- A number the optimiser uses, from its word. -/
abbrev lit (w : BitVec 32) : EReal := Ideal.ofBits .f32 w

/-- The new first moment. -/
def first (g m : EReal) : EReal := lit 0x3F666666#32 * m + lit 0x3DCCCCCD#32 * g
/-- The new second moment. -/
def second (g v : EReal) : EReal := lit 0x3F7FBE77#32 * v + lit 0x3A83126F#32 * (g * g)
/-- The weight's change. -/
def change (g w m v : EReal) : EReal :=
  lit 0xBA83126F#32 * (Ideal.div (Ideal.div (first g m) (lit 0x3F26BD02#32)) (Ideal.sqrt (Ideal.div (second g v) (lit 0x3C231ACC#32)) + lit 0x322BCC77#32)
    + lit 0x3C23D70A#32 * w)

/-- The gradient: the eight devices' parts summed. -/
def total (f : Fin 8 → EReal) : EReal := ∑ k : Fin 8, f k

theorem total_eq (f : Fin 8 → EReal) : f 0 + f 1 + f 2 + f 3 + f 4 + f 5 + f 6 + f 7 = total f := (Fin.sum_univ_eight f).symm

variable {R C : ℕ}

/-- An array without its leading axis of length one. -/
theorem flat {φ : FTy} (v : FVec Ideal ⟨3, ![1, R, C]⟩ φ) (h : Shape.ShapeCasts ⟨3, ![1, R, C]⟩ ⟨2, ![R, C]⟩) (i : (⟨2, ![R, C]⟩ : Shape).Idx) :
    shapeCast ⟨2, ![R, C]⟩ v h i = v (ix3 (0 : Fin 1) (i 0) (i 1)) :=
  shapeCast_apply v h i _ (by
    rewrite [Shape.rowMajor_val_three, Shape.rowMajor_val_two]
    show (0 * R + (i 0).val) * C + (i 1).val = (i 0).val * C + (i 1).val
    rw [Nat.zero_mul, Nat.zero_add])

/-- The gradient of a tile: the devices' parts of it summed. -/
def grad (x : FVec Ideal ⟨3, ![8, R, C]⟩ .bf16) : FVec Ideal ⟨2, ![R, C]⟩ .f32 := fun i => total fun k => x (ix3 k (i 0) (i 1))

/-- A device's part, as the body loads it. -/
theorem load (x : FVec Ideal ⟨3, ![8, R, C]⟩ .bf16) (k : Fin 8)
    (inb : ∀ a : Fin 3, (![k.val, 0, 0] : Fin 3 → ℕ) a + (![1, R, C] : Fin 3 → ℕ) a ≤ (![8, R, C] : Fin 3 → ℕ) a)
    (h : Shape.ShapeCasts ⟨3, ![1, R, C]⟩ ⟨2, ![R, C]⟩) (i : (⟨2, ![R, C]⟩ : Shape).Idx) :
    shapeCast ⟨2, ![R, C]⟩ (View.ld (Val := Elt Ideal) (e' := .bf16) x (Rect.unit (s := ⟨3, ![8, R, C]⟩) ![k.val, 0, 0] ![1, R, C] inb)) h i
      = x (ix3 k (i 0) (i 1)) :=
  (flat _ h i).trans (View.ld_unit_apply_of (Val := Elt Ideal) (e := .bf16) x _ _ inb _ _ fun a => match a with
    | ⟨0, _⟩ => rfl
    | ⟨1, _⟩ => (Nat.zero_add _).symm
    | ⟨2, _⟩ => (Nat.zero_add _).symm)

/-- A device's part fits in the block. -/
abbrev Fits (R C : ℕ) (k : Fin 8) : Prop := ∀ a : Fin 3, (![k.val, 0, 0] : Fin 3 → ℕ) a + (![1, R, C] : Fin 3 → ℕ) a ≤ (![8, R, C] : Fin 3 → ℕ) a

/-- A device's part at an entry, as the body loads it. -/
abbrev piece (x : FVec Ideal ⟨3, ![8, R, C]⟩ .bf16) (h : Shape.ShapeCasts ⟨3, ![1, R, C]⟩ ⟨2, ![R, C]⟩) (i : (⟨2, ![R, C]⟩ : Shape).Idx) (k : Fin 8)
    (inb : Fits R C k) : EReal :=
  shapeCast ⟨2, ![R, C]⟩ (View.ld (Val := Elt Ideal) (e' := .bf16) x (Rect.unit (s := ⟨3, ![8, R, C]⟩) ![k.val, 0, 0] ![1, R, C] inb)) h i

/-- The eight loads added up are the gradient. -/
theorem loads (x : FVec Ideal ⟨3, ![8, R, C]⟩ .bf16) (h : Shape.ShapeCasts ⟨3, ![1, R, C]⟩ ⟨2, ![R, C]⟩) (i : (⟨2, ![R, C]⟩ : Shape).Idx)
    (f0 : Fits R C 0) (f1 : Fits R C 1) (f2 : Fits R C 2) (f3 : Fits R C 3) (f4 : Fits R C 4) (f5 : Fits R C 5) (f6 : Fits R C 6) (f7 : Fits R C 7) :
    piece x h i 0 f0 + piece x h i 1 f1 + piece x h i 2 f2 + piece x h i 3 f3 + piece x h i 4 f4 + piece x h i 5 f5 + piece x h i 6 f6 + piece x h i 7 f7
      = grad x i := by
  refine Eq.trans ?_ (total_eq fun k => x (ix3 k (i 0) (i 1)))
  rw [piece, piece, piece, piece, piece, piece, piece, piece, load x 0, load x 1, load x 2, load x 3, load x 4, load x 5, load x 6, load x 7]

/-- Turning an array over before or after its leading axis is dropped. -/
theorem turned (v : FVec Ideal ⟨3, ![1, C, R]⟩ .f32) (h : Shape.ShapeCasts ⟨3, ![1, C, R]⟩ ⟨2, ![C, R]⟩) (ht : Shape.Transposes ⟨2, ![C, R]⟩ [1, 0] ⟨2, ![R, C]⟩)
    (ht' : Shape.Transposes ⟨3, ![1, C, R]⟩ [0, 2, 1] ⟨3, ![1, R, C]⟩) (h' : Shape.ShapeCasts ⟨3, ![1, R, C]⟩ ⟨2, ![R, C]⟩) :
    transpose ⟨2, ![R, C]⟩ [1, 0] (shapeCast ⟨2, ![C, R]⟩ v h) ht = shapeCast ⟨2, ![R, C]⟩ (transpose ⟨3, ![1, R, C]⟩ [0, 2, 1] v ht') h' := by
  funext i
  rw [flat, transpose_apply [0, 2, 1] v ht' (ix3 (0 : Fin 1) (i 0) (i 1)) (ix3 (0 : Fin 1) (i 1) (i 0)) (fun b => match b with
    | ⟨0, _⟩ => rfl
    | ⟨1, _⟩ => rfl
    | ⟨2, _⟩ => rfl)]
  exact (transpose_apply [1, 0] _ ht i (ix2 (i 1) (i 0)) (fun b => match b with
    | ⟨0, _⟩ => rfl
    | ⟨1, _⟩ => rfl)).trans (flat v h _)

end Cert.Adam
-- ==== Proof.AdamOut.lean ====
/-
  The optimiser's step for the shard of w_out: the kernel's tiles against the whole arrays.
-/
module

public import proofs.«01_k».proof.Defs
public import proofs.«01_k».proof.Proof.Adam
public import proofs.«01_k».proof.Proof.Gen.AdamWOutIdeal.Value
public import proofs.«01_k».proof.Proof.Gen.RefAdamWOutIdeal.Run
public import proofs.«01_k».proof.Proof.Gen.RefAdamWOutIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.AdamOut

open Cert.Products Cert.Adam Cert.AdamWOutIdeal Cert.AdamWOutIdeal.Gen Idealize.ShloMosaic Idealize.ShloMosaic.ValueIdx
open Idealize.ShloMosaic.TcCoe Idealize.SL.Sem

variable (m : (ℓ : Loc nD τ sig) → Buf (Elt Ideal) ℓ) (c : Dev nD)

/-! ## The reference at an index -/

section
open Cert.RefAdamWOutIdeal.Read
variable (x0 : FVec Ideal S8x256x1024 .bf16) (x1 x2 x3 : FVec Ideal S1x256x1024 .f32) (i : S256x1024.Idx)

theorem ref_g : val_main_v1 (F := Ideal) x0 i = grad x0 i := by
  rw [val_main_v1_apply]
  refine (zadd _).trans (Finset.sum_congr rfl fun k _ => congrArg x0 (funext fun a => ?_))
  match a with | ⟨0, _⟩ => rfl | ⟨1, _⟩ => rfl | ⟨2, _⟩ => rfl
end

/-! ## The body at an index -/

section
variable (x0 : FVec Ideal S8x256x1024 .bf16) (x1 x2 x3 : FVec Ideal S256x1024 .f32) (i : S256x1024.Idx)

theorem ker_g : k0_pay5 (F := Ideal) x0 x1 x2 x3 i = grad x0 i := by
  unfold k0_pay5 k0_pay4
  exact loads (R := 256) (C := 1024) x0 shapeCasts_S1x256x1024_S256x1024 i _ _ _ _ _ _ _ _

theorem ker_m (g : FVec Ideal S256x1024 .f32) : k0_pay1 (F := Ideal) g x2 i = first (g i) (x2 i) := by
  unfold k0_pay1; rw [shapeCast_self]; rfl
theorem ker_v (g : FVec Ideal S256x1024 .f32) : k0_pay2 (F := Ideal) g x3 i = second (g i) (x3 i) := by
  unfold k0_pay2; rw [shapeCast_self]; rfl
theorem ker_d (g : FVec Ideal S256x1024 .f32) : k0_pay3 (F := Ideal) g x1 x2 x3 i = change (g i) (x1 i) (x2 i) (x3 i) := by
  unfold k0_pay3 change
  rw [← ker_m, ← ker_v, shapeCast_self]; rfl
end

/-! ## The blocks -/

theorem V0' : V m c main_v0 = shapeCast S256x1024 (m ((c.tc : Thread nD τ).loc main_arg1)) shapeCasts_S1x256x1024_S256x1024 := by
  show StableHlo.after hostOps0 _ (Proc.devRef .tc main_v0) = _
  after_results
  rfl
theorem V1' : V m c main_v1 = shapeCast S256x1024 (m ((c.tc : Thread nD τ).loc main_arg2)) shapeCasts_S1x256x1024_S256x1024 := by
  show StableHlo.after hostOps0 _ (Proc.devRef .tc main_v1) = _
  after_results
  rfl
theorem V2' : V m c main_v2 = shapeCast S256x1024 (m ((c.tc : Thread nD τ).loc main_arg3)) shapeCasts_S1x256x1024_S256x1024 := by
  show StableHlo.after hostOps0 _ (Proc.devRef .tc main_v2) = _
  after_results
  rfl

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-- The entry of the shard a tile's entry is. -/
def cell (t : Fin cfg0.N) (y : S256x1024.Idx) : S256x1024.Idx :=
  ix2 (y 0) (y 1)

theorem b0 (t : Fin cfg0.N) (y : S256x1024.Idx) :
    grad (R := 256) (C := 1024) (iblk m c 0 t) y = grad (R := 256) (C := 1024) (m ((c.tc : Thread nD τ).loc main_arg0)) (cell t y) := by
  refine congrArg total (funext fun k => ?_)
  refine Eq.trans ?_ (congrFun (V_main_arg0 m c) _)
  unfold iblk
  blk_simp [e0 t]
  congr 1
  blk_ext [e0 t] <;> rfl
theorem b1 (t : Fin cfg0.N) (y : S256x1024.Idx) : (iblk m c 1 t : Vec Ideal S256x1024 .f32) y = V m c main_v0 (cell t y) := by
  unfold iblk
  blk_simp [e1 t]
  congr 1
  blk_ext [e1 t] <;> rfl
theorem b2 (t : Fin cfg0.N) (y : S256x1024.Idx) : (iblk m c 2 t : Vec Ideal S256x1024 .f32) y = V m c main_v1 (cell t y) := by
  unfold iblk
  blk_simp [e2 t]
  congr 1
  blk_ext [e2 t] <;> rfl
theorem b3 (t : Fin cfg0.N) (y : S256x1024.Idx) : (iblk m c 3 t : Vec Ideal S256x1024 .f32) y = V m c main_v2 (cell t y) := by
  unfold iblk
  blk_simp [e3 t]
  congr 1
  blk_ext [e3 t] <;> rfl

/-! ## The arrays -/

abbrev refG := Cert.RefAdamWOutIdeal.Read.val_main_v1 (F := Ideal) (m ((c.tc : Thread nD τ).loc main_arg0))
abbrev refD := Cert.RefAdamWOutIdeal.Read.val_main_v28 (F := Ideal) (m ((c.tc : Thread nD τ).loc main_arg0)) (m ((c.tc : Thread nD τ).loc main_arg1))
  (m ((c.tc : Thread nD τ).loc main_arg2)) (m ((c.tc : Thread nD τ).loc main_arg3))
abbrev refM := Cert.RefAdamWOutIdeal.Read.val_main_v9 (F := Ideal) (m ((c.tc : Thread nD τ).loc main_arg0)) (m ((c.tc : Thread nD τ).loc main_arg2))
abbrev refV := Cert.RefAdamWOutIdeal.Read.val_main_v15 (F := Ideal) (m ((c.tc : Thread nD τ).loc main_arg0)) (m ((c.tc : Thread nD τ).loc main_arg3))

theorem tile_g (t : Fin cfg0.N) (y : S256x1024.Idx) : k0_pay5 (F := Ideal) (iblk m c 0 t) (iblk m c 1 t) (iblk m c 2 t) (iblk m c 3 t) y = refG m c (cell t y) :=
  (ker_g _ _ _ _ y).trans ((b0 m c t y).trans (ref_g _ _).symm)

theorem arr4 : (dats m 0 c).arrAt 4 cfg0.N = refG m c := by
  refine (dats m 0 c).arrAt_eq_of_covers 4 _ (by decide +kernel) fun t hf y => ?_
  blk_simp
  rw [after0_4]
  unfold out0_4
  frame_out
  refine (tile_g m c t y).trans (congrArg (refG m c) ?_)
  blk_ext [e4 t] <;> rfl
theorem arr5 : (dats m 0 c).arrAt 5 cfg0.N = refD m c := by
  refine (dats m 0 c).arrAt_eq_of_covers 5 _ (by decide +kernel) fun t hf y => ?_
  blk_simp
  rw [after0_5]
  unfold out0_5
  frame_out
  rw [ker_d, tile_g, b1, b2, b3, V0', V1', V2']
  refine Eq.trans ?_ (congrArg (refD m c) (?_ : cell t y = _))
  · rfl
  · blk_ext [e5 t] <;> rfl
theorem arr6 : (dats m 0 c).arrAt 6 cfg0.N = refM m c := by
  refine (dats m 0 c).arrAt_eq_of_covers 6 _ (by decide +kernel) fun t hf y => ?_
  blk_simp
  rw [after0_6]
  unfold out0_6
  frame_out
  rw [ker_m, tile_g, b2, V1']
  refine Eq.trans ?_ (congrArg (refM m c) (?_ : cell t y = _))
  · rfl
  · blk_ext [e6 t] <;> rfl
theorem arr7 : (dats m 0 c).arrAt 7 cfg0.N = refV m c := by
  refine (dats m 0 c).arrAt_eq_of_covers 7 _ (by decide +kernel) fun t hf y => ?_
  blk_simp
  rw [after0_7]
  unfold out0_7
  frame_out
  rw [ker_v, tile_g, b3, V2']
  refine Eq.trans ?_ (congrArg (refV m c) (?_ : cell t y = _))
  · rfl
  · blk_ext [e7 t] <;> rfl

theorem algebraic : algebraic_AdamWOutIdeal_RefAdamWOutIdeal (hAdamWOutIdeal := Cert.AdamWOutIdeal.Gen.facts)
    (hRefAdamWOutIdeal := Cert.RefAdamWOutIdeal.Gen.facts) := by
  intro m g m' g' hp hm
  refine ⟨refG m, refD m, refM m, refV m, ?_, ?_⟩
  · exact (θ_run _ _ _).mono (fun r h c => ⟨(h c).1.trans (arr4 m c), (h c).2.1.trans (arr5 m c), (h c).2.2.1.trans (arr6 m c), (h c).2.2.2.1.trans (arr7 m c),
      (h c).2.2.2.2⟩) (Cert.AdamWOutIdeal.Value.run_blocks (F := Ideal) m g)
  · refine (θ_run _ _ _).mono (fun r h c => ?_) (Cert.RefAdamWOutIdeal.Value.run (F := Ideal) m' g')
    obtain ⟨q0, q1, q2, q3⟩ := hm c
    refine ⟨(h c).1.trans ?_, (h c).2.1.trans ?_, (h c).2.2.1.trans ?_, (h c).2.2.2.1.trans ?_, (h c).2.2.2.2⟩
    · rw [q0]; rfl
    · rw [q0, q1, q2, q3]; rfl
    · rw [q0, q2]; rfl
    · rw [q0, q3]; rfl

end Cert.AdamOut
-- ==== Proof.AdamFf1.lean ====
/-
  The optimiser's step for the shard of w_ff1: the kernel's tiles against the whole arrays.
-/
module

public import proofs.«01_k».proof.Defs
public import proofs.«01_k».proof.Proof.Adam
public import proofs.«01_k».proof.Proof.Gen.AdamWFf1Ideal.Value
public import proofs.«01_k».proof.Proof.Gen.RefAdamWFf1Ideal.Run
public import proofs.«01_k».proof.Proof.Gen.RefAdamWFf1Ideal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.AdamFf1

open Cert.Products Cert.Adam Cert.AdamWFf1Ideal Cert.AdamWFf1Ideal.Gen Idealize.ShloMosaic Idealize.ShloMosaic.ValueIdx
open Idealize.ShloMosaic.TcCoe Idealize.SL.Sem

variable (m : (ℓ : Loc nD τ sig) → Buf (Elt Ideal) ℓ) (c : Dev nD)

/-! ## The reference at an index -/

section
open Cert.RefAdamWFf1Ideal.Read
variable (x0 : FVec Ideal S8x1024x512 .bf16) (x1 x2 x3 : FVec Ideal S1x1024x512 .f32) (i : S1024x512.Idx)

theorem ref_g : val_main_v1 (F := Ideal) x0 i = grad x0 i := by
  rw [val_main_v1_apply]
  refine (zadd _).trans (Finset.sum_congr rfl fun k _ => congrArg x0 (funext fun a => ?_))
  match a with | ⟨0, _⟩ => rfl | ⟨1, _⟩ => rfl | ⟨2, _⟩ => rfl
end

/-! ## The body at an index -/

section
variable (x0 : FVec Ideal S8x256x512 .bf16) (x1 x2 x3 : FVec Ideal S256x512 .f32) (i : S256x512.Idx)

theorem ker_g : k0_pay5 (F := Ideal) x0 x1 x2 x3 i = grad x0 i := by
  unfold k0_pay5 k0_pay4
  exact loads (R := 256) (C := 512) x0 shapeCasts_S1x256x512_S256x512 i _ _ _ _ _ _ _ _

theorem ker_m (g : FVec Ideal S256x512 .f32) : k0_pay1 (F := Ideal) g x2 i = first (g i) (x2 i) := by
  unfold k0_pay1; rw [shapeCast_self]; rfl
theorem ker_v (g : FVec Ideal S256x512 .f32) : k0_pay2 (F := Ideal) g x3 i = second (g i) (x3 i) := by
  unfold k0_pay2; rw [shapeCast_self]; rfl
theorem ker_d (g : FVec Ideal S256x512 .f32) : k0_pay3 (F := Ideal) g x1 x2 x3 i = change (g i) (x1 i) (x2 i) (x3 i) := by
  unfold k0_pay3 change
  rw [← ker_m, ← ker_v, shapeCast_self]; rfl
end

/-! ## The blocks -/

theorem V0' : V m c main_v0 = shapeCast S1024x512 (m ((c.tc : Thread nD τ).loc main_arg1)) shapeCasts_S1x1024x512_S1024x512 := by
  show StableHlo.after hostOps0 _ (Proc.devRef .tc main_v0) = _
  after_results
  rfl
theorem V1' : V m c main_v1 = shapeCast S1024x512 (m ((c.tc : Thread nD τ).loc main_arg2)) shapeCasts_S1x1024x512_S1024x512 := by
  show StableHlo.after hostOps0 _ (Proc.devRef .tc main_v1) = _
  after_results
  rfl
theorem V2' : V m c main_v2 = shapeCast S1024x512 (m ((c.tc : Thread nD τ).loc main_arg3)) shapeCasts_S1x1024x512_S1024x512 := by
  show StableHlo.after hostOps0 _ (Proc.devRef .tc main_v2) = _
  after_results
  rfl

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem lt4 (t : Fin cfg0.N) : t.val < 4 := t.isLt.trans_eq N_0

/-- The entry of the shard a tile's entry is. -/
def cell (t : Fin cfg0.N) (y : S256x512.Idx) : S1024x512.Idx :=
  ix2 (⟨t.val * 256 + (y 0).val, by have := lt4 t; have h1 : (y 0).val < 256 := (y 0).isLt; omega⟩ : Fin 1024) (y 1)

theorem b0 (t : Fin cfg0.N) (y : S256x512.Idx) :
    grad (R := 256) (C := 512) (iblk m c 0 t) y = grad (R := 1024) (C := 512) (m ((c.tc : Thread nD τ).loc main_arg0)) (cell t y) := by
  refine congrArg total (funext fun k => ?_)
  refine Eq.trans ?_ (congrFun (V_main_arg0 m c) _)
  unfold iblk
  blk_simp [e0 t]
  congr 1
  blk_ext [e0 t] <;> rfl
theorem b1 (t : Fin cfg0.N) (y : S256x512.Idx) : (iblk m c 1 t : Vec Ideal S256x512 .f32) y = V m c main_v0 (cell t y) := by
  unfold iblk
  blk_simp [e1 t]
  congr 1
  blk_ext [e1 t] <;> rfl
theorem b2 (t : Fin cfg0.N) (y : S256x512.Idx) : (iblk m c 2 t : Vec Ideal S256x512 .f32) y = V m c main_v1 (cell t y) := by
  unfold iblk
  blk_simp [e2 t]
  congr 1
  blk_ext [e2 t] <;> rfl
theorem b3 (t : Fin cfg0.N) (y : S256x512.Idx) : (iblk m c 3 t : Vec Ideal S256x512 .f32) y = V m c main_v2 (cell t y) := by
  unfold iblk
  blk_simp [e3 t]
  congr 1
  blk_ext [e3 t] <;> rfl

/-! ## The arrays -/

abbrev refG := Cert.RefAdamWFf1Ideal.Read.val_main_v1 (F := Ideal) (m ((c.tc : Thread nD τ).loc main_arg0))
abbrev refD := Cert.RefAdamWFf1Ideal.Read.val_main_v28 (F := Ideal) (m ((c.tc : Thread nD τ).loc main_arg0)) (m ((c.tc : Thread nD τ).loc main_arg1))
  (m ((c.tc : Thread nD τ).loc main_arg2)) (m ((c.tc : Thread nD τ).loc main_arg3))
abbrev refM := Cert.RefAdamWFf1Ideal.Read.val_main_v9 (F := Ideal) (m ((c.tc : Thread nD τ).loc main_arg0)) (m ((c.tc : Thread nD τ).loc main_arg2))
abbrev refV := Cert.RefAdamWFf1Ideal.Read.val_main_v15 (F := Ideal) (m ((c.tc : Thread nD τ).loc main_arg0)) (m ((c.tc : Thread nD τ).loc main_arg3))

theorem tile_g (t : Fin cfg0.N) (y : S256x512.Idx) : k0_pay5 (F := Ideal) (iblk m c 0 t) (iblk m c 1 t) (iblk m c 2 t) (iblk m c 3 t) y = refG m c (cell t y) :=
  (ker_g _ _ _ _ y).trans ((b0 m c t y).trans (ref_g _ _).symm)

theorem arr4 : (dats m 0 c).arrAt 4 cfg0.N = refG m c := by
  refine (dats m 0 c).arrAt_eq_of_covers 4 _ (by decide +kernel) fun t hf y => ?_
  blk_simp
  rw [after0_4]
  unfold out0_4
  frame_out
  refine (tile_g m c t y).trans (congrArg (refG m c) ?_)
  blk_ext [e4 t] <;> rfl
theorem arr5 : (dats m 0 c).arrAt 5 cfg0.N = refD m c := by
  refine (dats m 0 c).arrAt_eq_of_covers 5 _ (by decide +kernel) fun t hf y => ?_
  blk_simp
  rw [after0_5]
  unfold out0_5
  frame_out
  rw [ker_d, tile_g, b1, b2, b3, V0', V1', V2']
  refine Eq.trans ?_ (congrArg (refD m c) (?_ : cell t y = _))
  · rfl
  · blk_ext [e5 t] <;> rfl
theorem arr6 : (dats m 0 c).arrAt 6 cfg0.N = refM m c := by
  refine (dats m 0 c).arrAt_eq_of_covers 6 _ (by decide +kernel) fun t hf y => ?_
  blk_simp
  rw [after0_6]
  unfold out0_6
  frame_out
  rw [ker_m, tile_g, b2, V1']
  refine Eq.trans ?_ (congrArg (refM m c) (?_ : cell t y = _))
  · rfl
  · blk_ext [e6 t] <;> rfl
theorem arr7 : (dats m 0 c).arrAt 7 cfg0.N = refV m c := by
  refine (dats m 0 c).arrAt_eq_of_covers 7 _ (by decide +kernel) fun t hf y => ?_
  blk_simp
  rw [after0_7]
  unfold out0_7
  frame_out
  rw [ker_v, tile_g, b3, V2']
  refine Eq.trans ?_ (congrArg (refV m c) (?_ : cell t y = _))
  · rfl
  · blk_ext [e7 t] <;> rfl

theorem algebraic : algebraic_AdamWFf1Ideal_RefAdamWFf1Ideal (hAdamWFf1Ideal := Cert.AdamWFf1Ideal.Gen.facts)
    (hRefAdamWFf1Ideal := Cert.RefAdamWFf1Ideal.Gen.facts) := by
  intro m g m' g' hp hm
  refine ⟨refG m, refD m, refM m, refV m, ?_, ?_⟩
  · exact (θ_run _ _ _).mono (fun r h c => ⟨(h c).1.trans (arr4 m c), (h c).2.1.trans (arr5 m c), (h c).2.2.1.trans (arr6 m c), (h c).2.2.2.1.trans (arr7 m c),
      (h c).2.2.2.2⟩) (Cert.AdamWFf1Ideal.Value.run_blocks (F := Ideal) m g)
  · refine (θ_run _ _ _).mono (fun r h c => ?_) (Cert.RefAdamWFf1Ideal.Value.run (F := Ideal) m' g')
    obtain ⟨q0, q1, q2, q3⟩ := hm c
    refine ⟨(h c).1.trans ?_, (h c).2.1.trans ?_, (h c).2.2.1.trans ?_, (h c).2.2.2.1.trans ?_, (h c).2.2.2.2⟩
    · rw [q0]; rfl
    · rw [q0, q1, q2, q3]; rfl
    · rw [q0, q2]; rfl
    · rw [q0, q3]; rfl

end Cert.AdamFf1
-- ==== Proof.AdamFf2.lean ====
/-
  The optimiser's step for the shard of w_ff2: the kernel's tiles against the whole arrays.
-/
module

public import proofs.«01_k».proof.Defs
public import proofs.«01_k».proof.Proof.Adam
public import proofs.«01_k».proof.Proof.Gen.AdamWFf2Ideal.Value
public import proofs.«01_k».proof.Proof.Gen.RefAdamWFf2Ideal.Run
public import proofs.«01_k».proof.Proof.Gen.RefAdamWFf2Ideal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.AdamFf2

open Cert.Products Cert.Adam Cert.AdamWFf2Ideal Cert.AdamWFf2Ideal.Gen Idealize.ShloMosaic Idealize.ShloMosaic.ValueIdx
open Idealize.ShloMosaic.TcCoe Idealize.SL.Sem

variable (m : (ℓ : Loc nD τ sig) → Buf (Elt Ideal) ℓ) (c : Dev nD)

/-! ## The reference at an index -/

section
open Cert.RefAdamWFf2Ideal.Read
variable (x0 : FVec Ideal S8x512x1024 .bf16) (x1 x2 x3 : FVec Ideal S1x512x1024 .f32) (i : S512x1024.Idx)

theorem ref_g : val_main_v1 (F := Ideal) x0 i = grad x0 i := by
  rw [val_main_v1_apply]
  refine (zadd _).trans (Finset.sum_congr rfl fun k _ => congrArg x0 (funext fun a => ?_))
  match a with | ⟨0, _⟩ => rfl | ⟨1, _⟩ => rfl | ⟨2, _⟩ => rfl
end

/-! ## The body at an index -/

section
variable (x0 : FVec Ideal S8x256x1024 .bf16) (x1 x2 x3 : FVec Ideal S256x1024 .f32) (i : S256x1024.Idx)

theorem ker_g : k0_pay5 (F := Ideal) x0 x1 x2 x3 i = grad x0 i := by
  unfold k0_pay5 k0_pay4
  exact loads (R := 256) (C := 1024) x0 shapeCasts_S1x256x1024_S256x1024 i _ _ _ _ _ _ _ _

theorem ker_m (g : FVec Ideal S256x1024 .f32) : k0_pay1 (F := Ideal) g x2 i = first (g i) (x2 i) := by
  unfold k0_pay1; rw [shapeCast_self]; rfl
theorem ker_v (g : FVec Ideal S256x1024 .f32) : k0_pay2 (F := Ideal) g x3 i = second (g i) (x3 i) := by
  unfold k0_pay2; rw [shapeCast_self]; rfl
theorem ker_d (g : FVec Ideal S256x1024 .f32) : k0_pay3 (F := Ideal) g x1 x2 x3 i = change (g i) (x1 i) (x2 i) (x3 i) := by
  unfold k0_pay3 change
  rw [← ker_m, ← ker_v, shapeCast_self]; rfl
end

/-! ## The blocks -/

theorem V0' : V m c main_v0 = shapeCast S512x1024 (m ((c.tc : Thread nD τ).loc main_arg1)) shapeCasts_S1x512x1024_S512x1024 := by
  show StableHlo.after hostOps0 _ (Proc.devRef .tc main_v0) = _
  after_results
  rfl
theorem V1' : V m c main_v1 = shapeCast S512x1024 (m ((c.tc : Thread nD τ).loc main_arg2)) shapeCasts_S1x512x1024_S512x1024 := by
  show StableHlo.after hostOps0 _ (Proc.devRef .tc main_v1) = _
  after_results
  rfl
theorem V2' : V m c main_v2 = shapeCast S512x1024 (m ((c.tc : Thread nD τ).loc main_arg3)) shapeCasts_S1x512x1024_S512x1024 := by
  show StableHlo.after hostOps0 _ (Proc.devRef .tc main_v2) = _
  after_results
  rfl

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem lt2 (t : Fin cfg0.N) : t.val < 2 := t.isLt.trans_eq N_0

/-- The entry of the shard a tile's entry is. -/
def cell (t : Fin cfg0.N) (y : S256x1024.Idx) : S512x1024.Idx :=
  ix2 (⟨t.val * 256 + (y 0).val, by have := lt2 t; have h1 : (y 0).val < 256 := (y 0).isLt; omega⟩ : Fin 512) (y 1)

theorem b0 (t : Fin cfg0.N) (y : S256x1024.Idx) :
    grad (R := 256) (C := 1024) (iblk m c 0 t) y = grad (R := 512) (C := 1024) (m ((c.tc : Thread nD τ).loc main_arg0)) (cell t y) := by
  refine congrArg total (funext fun k => ?_)
  refine Eq.trans ?_ (congrFun (V_main_arg0 m c) _)
  unfold iblk
  blk_simp [e0 t]
  congr 1
  blk_ext [e0 t] <;> rfl
theorem b1 (t : Fin cfg0.N) (y : S256x1024.Idx) : (iblk m c 1 t : Vec Ideal S256x1024 .f32) y = V m c main_v0 (cell t y) := by
  unfold iblk
  blk_simp [e1 t]
  congr 1
  blk_ext [e1 t] <;> rfl
theorem b2 (t : Fin cfg0.N) (y : S256x1024.Idx) : (iblk m c 2 t : Vec Ideal S256x1024 .f32) y = V m c main_v1 (cell t y) := by
  unfold iblk
  blk_simp [e2 t]
  congr 1
  blk_ext [e2 t] <;> rfl
theorem b3 (t : Fin cfg0.N) (y : S256x1024.Idx) : (iblk m c 3 t : Vec Ideal S256x1024 .f32) y = V m c main_v2 (cell t y) := by
  unfold iblk
  blk_simp [e3 t]
  congr 1
  blk_ext [e3 t] <;> rfl

/-! ## The arrays -/

abbrev refG := Cert.RefAdamWFf2Ideal.Read.val_main_v1 (F := Ideal) (m ((c.tc : Thread nD τ).loc main_arg0))
abbrev refD := Cert.RefAdamWFf2Ideal.Read.val_main_v28 (F := Ideal) (m ((c.tc : Thread nD τ).loc main_arg0)) (m ((c.tc : Thread nD τ).loc main_arg1))
  (m ((c.tc : Thread nD τ).loc main_arg2)) (m ((c.tc : Thread nD τ).loc main_arg3))
abbrev refM := Cert.RefAdamWFf2Ideal.Read.val_main_v9 (F := Ideal) (m ((c.tc : Thread nD τ).loc main_arg0)) (m ((c.tc : Thread nD τ).loc main_arg2))
abbrev refV := Cert.RefAdamWFf2Ideal.Read.val_main_v15 (F := Ideal) (m ((c.tc : Thread nD τ).loc main_arg0)) (m ((c.tc : Thread nD τ).loc main_arg3))

theorem tile_g (t : Fin cfg0.N) (y : S256x1024.Idx) : k0_pay5 (F := Ideal) (iblk m c 0 t) (iblk m c 1 t) (iblk m c 2 t) (iblk m c 3 t) y = refG m c (cell t y) :=
  (ker_g _ _ _ _ y).trans ((b0 m c t y).trans (ref_g _ _).symm)

theorem arr4 : (dats m 0 c).arrAt 4 cfg0.N = refG m c := by
  refine (dats m 0 c).arrAt_eq_of_covers 4 _ (by decide +kernel) fun t hf y => ?_
  blk_simp
  rw [after0_4]
  unfold out0_4
  frame_out
  refine (tile_g m c t y).trans (congrArg (refG m c) ?_)
  blk_ext [e4 t] <;> rfl
theorem arr5 : (dats m 0 c).arrAt 5 cfg0.N = refD m c := by
  refine (dats m 0 c).arrAt_eq_of_covers 5 _ (by decide +kernel) fun t hf y => ?_
  blk_simp
  rw [after0_5]
  unfold out0_5
  frame_out
  rw [ker_d, tile_g, b1, b2, b3, V0', V1', V2']
  refine Eq.trans ?_ (congrArg (refD m c) (?_ : cell t y = _))
  · rfl
  · blk_ext [e5 t] <;> rfl
theorem arr6 : (dats m 0 c).arrAt 6 cfg0.N = refM m c := by
  refine (dats m 0 c).arrAt_eq_of_covers 6 _ (by decide +kernel) fun t hf y => ?_
  blk_simp
  rw [after0_6]
  unfold out0_6
  frame_out
  rw [ker_m, tile_g, b2, V1']
  refine Eq.trans ?_ (congrArg (refM m c) (?_ : cell t y = _))
  · rfl
  · blk_ext [e6 t] <;> rfl
theorem arr7 : (dats m 0 c).arrAt 7 cfg0.N = refV m c := by
  refine (dats m 0 c).arrAt_eq_of_covers 7 _ (by decide +kernel) fun t hf y => ?_
  blk_simp
  rw [after0_7]
  unfold out0_7
  frame_out
  rw [ker_v, tile_g, b3, V2']
  refine Eq.trans ?_ (congrArg (refV m c) (?_ : cell t y = _))
  · rfl
  · blk_ext [e7 t] <;> rfl

theorem algebraic : algebraic_AdamWFf2Ideal_RefAdamWFf2Ideal (hAdamWFf2Ideal := Cert.AdamWFf2Ideal.Gen.facts)
    (hRefAdamWFf2Ideal := Cert.RefAdamWFf2Ideal.Gen.facts) := by
  intro m g m' g' hp hm
  refine ⟨refG m, refD m, refM m, refV m, ?_, ?_⟩
  · exact (θ_run _ _ _).mono (fun r h c => ⟨(h c).1.trans (arr4 m c), (h c).2.1.trans (arr5 m c), (h c).2.2.1.trans (arr6 m c), (h c).2.2.2.1.trans (arr7 m c),
      (h c).2.2.2.2⟩) (Cert.AdamWFf2Ideal.Value.run_blocks (F := Ideal) m g)
  · refine (θ_run _ _ _).mono (fun r h c => ?_) (Cert.RefAdamWFf2Ideal.Value.run (F := Ideal) m' g')
    obtain ⟨q0, q1, q2, q3⟩ := hm c
    refine ⟨(h c).1.trans ?_, (h c).2.1.trans ?_, (h c).2.2.1.trans ?_, (h c).2.2.2.1.trans ?_, (h c).2.2.2.2⟩
    · rw [q0]; rfl
    · rw [q0, q1, q2, q3]; rfl
    · rw [q0, q2]; rfl
    · rw [q0, q3]; rfl

end Cert.AdamFf2
-- ==== Proof.AdamGate.lean ====
/-
  The optimiser's step for the shard of w_ple_gate: the kernel's tiles against the whole arrays.
-/
module

public import proofs.«01_k».proof.Defs
public import proofs.«01_k».proof.Proof.Adam
public import proofs.«01_k».proof.Proof.Gen.AdamWGateIdeal.Value
public import proofs.«01_k».proof.Proof.Gen.RefAdamWGateIdeal.Run
public import proofs.«01_k».proof.Proof.Gen.RefAdamWGateIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.AdamGate

open Cert.Products Cert.Adam Cert.AdamWGateIdeal Cert.AdamWGateIdeal.Gen Idealize.ShloMosaic Idealize.ShloMosaic.ValueIdx
open Idealize.ShloMosaic.TcCoe Idealize.SL.Sem

variable (m : (ℓ : Loc nD τ sig) → Buf (Elt Ideal) ℓ) (c : Dev nD)

/-! ## The reference at an index -/

section
open Cert.RefAdamWGateIdeal.Read
variable (x0 : FVec Ideal S8x128x1024 .bf16) (x1 x2 x3 : FVec Ideal S1x128x1024 .f32) (i : S128x1024.Idx)

theorem ref_g : val_main_v1 (F := Ideal) x0 i = grad x0 i := by
  rw [val_main_v1_apply]
  refine (zadd _).trans (Finset.sum_congr rfl fun k _ => congrArg x0 (funext fun a => ?_))
  match a with | ⟨0, _⟩ => rfl | ⟨1, _⟩ => rfl | ⟨2, _⟩ => rfl
end

/-! ## The body at an index -/

section
variable (x0 : FVec Ideal S8x128x1024 .bf16) (x1 x2 x3 : FVec Ideal S128x1024 .f32) (i : S128x1024.Idx)

theorem ker_g : k0_pay5 (F := Ideal) x0 x1 x2 x3 i = grad x0 i := by
  unfold k0_pay5 k0_pay4
  exact loads (R := 128) (C := 1024) x0 shapeCasts_S1x128x1024_S128x1024 i _ _ _ _ _ _ _ _

theorem ker_m (g : FVec Ideal S128x1024 .f32) : k0_pay1 (F := Ideal) g x2 i = first (g i) (x2 i) := by
  unfold k0_pay1; rw [shapeCast_self]; rfl
theorem ker_v (g : FVec Ideal S128x1024 .f32) : k0_pay2 (F := Ideal) g x3 i = second (g i) (x3 i) := by
  unfold k0_pay2; rw [shapeCast_self]; rfl
theorem ker_d (g : FVec Ideal S128x1024 .f32) : k0_pay3 (F := Ideal) g x1 x2 x3 i = change (g i) (x1 i) (x2 i) (x3 i) := by
  unfold k0_pay3 change
  rw [← ker_m, ← ker_v, shapeCast_self]; rfl
end

/-! ## The blocks -/

theorem V0' : V m c main_v0 = shapeCast S128x1024 (m ((c.tc : Thread nD τ).loc main_arg1)) shapeCasts_S1x128x1024_S128x1024 := by
  show StableHlo.after hostOps0 _ (Proc.devRef .tc main_v0) = _
  after_results
  rfl
theorem V1' : V m c main_v1 = shapeCast S128x1024 (m ((c.tc : Thread nD τ).loc main_arg2)) shapeCasts_S1x128x1024_S128x1024 := by
  show StableHlo.after hostOps0 _ (Proc.devRef .tc main_v1) = _
  after_results
  rfl
theorem V2' : V m c main_v2 = shapeCast S128x1024 (m ((c.tc : Thread nD τ).loc main_arg3)) shapeCasts_S1x128x1024_S128x1024 := by
  show StableHlo.after hostOps0 _ (Proc.devRef .tc main_v2) = _
  after_results
  rfl

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-- The entry of the shard a tile's entry is. -/
def cell (t : Fin cfg0.N) (y : S128x1024.Idx) : S128x1024.Idx :=
  ix2 (y 0) (y 1)

theorem b0 (t : Fin cfg0.N) (y : S128x1024.Idx) :
    grad (R := 128) (C := 1024) (iblk m c 0 t) y = grad (R := 128) (C := 1024) (m ((c.tc : Thread nD τ).loc main_arg0)) (cell t y) := by
  refine congrArg total (funext fun k => ?_)
  refine Eq.trans ?_ (congrFun (V_main_arg0 m c) _)
  unfold iblk
  blk_simp [e0 t]
  congr 1
  blk_ext [e0 t] <;> rfl
theorem b1 (t : Fin cfg0.N) (y : S128x1024.Idx) : (iblk m c 1 t : Vec Ideal S128x1024 .f32) y = V m c main_v0 (cell t y) := by
  unfold iblk
  blk_simp [e1 t]
  congr 1
  blk_ext [e1 t] <;> rfl
theorem b2 (t : Fin cfg0.N) (y : S128x1024.Idx) : (iblk m c 2 t : Vec Ideal S128x1024 .f32) y = V m c main_v1 (cell t y) := by
  unfold iblk
  blk_simp [e2 t]
  congr 1
  blk_ext [e2 t] <;> rfl
theorem b3 (t : Fin cfg0.N) (y : S128x1024.Idx) : (iblk m c 3 t : Vec Ideal S128x1024 .f32) y = V m c main_v2 (cell t y) := by
  unfold iblk
  blk_simp [e3 t]
  congr 1
  blk_ext [e3 t] <;> rfl

/-! ## The arrays -/

abbrev refG := Cert.RefAdamWGateIdeal.Read.val_main_v1 (F := Ideal) (m ((c.tc : Thread nD τ).loc main_arg0))
abbrev refD := Cert.RefAdamWGateIdeal.Read.val_main_v28 (F := Ideal) (m ((c.tc : Thread nD τ).loc main_arg0)) (m ((c.tc : Thread nD τ).loc main_arg1))
  (m ((c.tc : Thread nD τ).loc main_arg2)) (m ((c.tc : Thread nD τ).loc main_arg3))
abbrev refM := Cert.RefAdamWGateIdeal.Read.val_main_v9 (F := Ideal) (m ((c.tc : Thread nD τ).loc main_arg0)) (m ((c.tc : Thread nD τ).loc main_arg2))
abbrev refV := Cert.RefAdamWGateIdeal.Read.val_main_v15 (F := Ideal) (m ((c.tc : Thread nD τ).loc main_arg0)) (m ((c.tc : Thread nD τ).loc main_arg3))

theorem tile_g (t : Fin cfg0.N) (y : S128x1024.Idx) : k0_pay5 (F := Ideal) (iblk m c 0 t) (iblk m c 1 t) (iblk m c 2 t) (iblk m c 3 t) y = refG m c (cell t y) :=
  (ker_g _ _ _ _ y).trans ((b0 m c t y).trans (ref_g _ _).symm)

theorem arr4 : (dats m 0 c).arrAt 4 cfg0.N = refG m c := by
  refine (dats m 0 c).arrAt_eq_of_covers 4 _ (by decide +kernel) fun t hf y => ?_
  blk_simp
  rw [after0_4]
  unfold out0_4
  frame_out
  refine (tile_g m c t y).trans (congrArg (refG m c) ?_)
  blk_ext [e4 t] <;> rfl
theorem arr5 : (dats m 0 c).arrAt 5 cfg0.N = refD m c := by
  refine (dats m 0 c).arrAt_eq_of_covers 5 _ (by decide +kernel) fun t hf y => ?_
  blk_simp
  rw [after0_5]
  unfold out0_5
  frame_out
  rw [ker_d, tile_g, b1, b2, b3, V0', V1', V2']
  refine Eq.trans ?_ (congrArg (refD m c) (?_ : cell t y = _))
  · rfl
  · blk_ext [e5 t] <;> rfl
theorem arr6 : (dats m 0 c).arrAt 6 cfg0.N = refM m c := by
  refine (dats m 0 c).arrAt_eq_of_covers 6 _ (by decide +kernel) fun t hf y => ?_
  blk_simp
  rw [after0_6]
  unfold out0_6
  frame_out
  rw [ker_m, tile_g, b2, V1']
  refine Eq.trans ?_ (congrArg (refM m c) (?_ : cell t y = _))
  · rfl
  · blk_ext [e6 t] <;> rfl
theorem arr7 : (dats m 0 c).arrAt 7 cfg0.N = refV m c := by
  refine (dats m 0 c).arrAt_eq_of_covers 7 _ (by decide +kernel) fun t hf y => ?_
  blk_simp
  rw [after0_7]
  unfold out0_7
  frame_out
  rw [ker_v, tile_g, b3, V2']
  refine Eq.trans ?_ (congrArg (refV m c) (?_ : cell t y = _))
  · rfl
  · blk_ext [e7 t] <;> rfl

theorem algebraic : algebraic_AdamWGateIdeal_RefAdamWGateIdeal (hAdamWGateIdeal := Cert.AdamWGateIdeal.Gen.facts)
    (hRefAdamWGateIdeal := Cert.RefAdamWGateIdeal.Gen.facts) := by
  intro m g m' g' hp hm
  refine ⟨refG m, refD m, refM m, refV m, ?_, ?_⟩
  · exact (θ_run _ _ _).mono (fun r h c => ⟨(h c).1.trans (arr4 m c), (h c).2.1.trans (arr5 m c), (h c).2.2.1.trans (arr6 m c), (h c).2.2.2.1.trans (arr7 m c),
      (h c).2.2.2.2⟩) (Cert.AdamWGateIdeal.Value.run_blocks (F := Ideal) m g)
  · refine (θ_run _ _ _).mono (fun r h c => ?_) (Cert.RefAdamWGateIdeal.Value.run (F := Ideal) m' g')
    obtain ⟨q0, q1, q2, q3⟩ := hm c
    refine ⟨(h c).1.trans ?_, (h c).2.1.trans ?_, (h c).2.2.1.trans ?_, (h c).2.2.2.1.trans ?_, (h c).2.2.2.2⟩
    · rw [q0]; rfl
    · rw [q0, q1, q2, q3]; rfl
    · rw [q0, q2]; rfl
    · rw [q0, q3]; rfl

end Cert.AdamGate
-- ==== Proof.AdamProj.lean ====
/-
  The optimiser's step for the shard of w_ple_proj: the kernel's tiles against the whole arrays.
-/
module

public import proofs.«01_k».proof.Defs
public import proofs.«01_k».proof.Proof.Adam
public import proofs.«01_k».proof.Proof.Gen.AdamWProjIdeal.Value
public import proofs.«01_k».proof.Proof.Gen.RefAdamWProjIdeal.Run
public import proofs.«01_k».proof.Proof.Gen.RefAdamWProjIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.AdamProj

open Cert.Products Cert.Adam Cert.AdamWProjIdeal Cert.AdamWProjIdeal.Gen Idealize.ShloMosaic Idealize.ShloMosaic.ValueIdx
open Idealize.ShloMosaic.TcCoe Idealize.SL.Sem

variable (m : (ℓ : Loc nD τ sig) → Buf (Elt Ideal) ℓ) (c : Dev nD)

/-! ## The reference at an index -/

section
open Cert.RefAdamWProjIdeal.Read
variable (x0 : FVec Ideal S8x256x128 .bf16) (x1 x2 x3 : FVec Ideal S1x256x128 .f32) (i : S256x128.Idx)

theorem ref_g : val_main_v1 (F := Ideal) x0 i = grad x0 i := by
  rw [val_main_v1_apply]
  refine (zadd _).trans (Finset.sum_congr rfl fun k _ => congrArg x0 (funext fun a => ?_))
  match a with | ⟨0, _⟩ => rfl | ⟨1, _⟩ => rfl | ⟨2, _⟩ => rfl
end

/-! ## The body at an index -/

section
variable (x0 : FVec Ideal S8x256x128 .bf16) (x1 x2 x3 : FVec Ideal S256x128 .f32) (i : S256x128.Idx)

theorem ker_g : k0_pay5 (F := Ideal) x0 x1 x2 x3 i = grad x0 i := by
  unfold k0_pay5 k0_pay4
  exact loads (R := 256) (C := 128) x0 shapeCasts_S1x256x128_S256x128 i _ _ _ _ _ _ _ _

theorem ker_m (g : FVec Ideal S256x128 .f32) : k0_pay1 (F := Ideal) g x2 i = first (g i) (x2 i) := by
  unfold k0_pay1; rw [shapeCast_self]; rfl
theorem ker_v (g : FVec Ideal S256x128 .f32) : k0_pay2 (F := Ideal) g x3 i = second (g i) (x3 i) := by
  unfold k0_pay2; rw [shapeCast_self]; rfl
theorem ker_d (g : FVec Ideal S256x128 .f32) : k0_pay3 (F := Ideal) g x1 x2 x3 i = change (g i) (x1 i) (x2 i) (x3 i) := by
  unfold k0_pay3 change
  rw [← ker_m, ← ker_v, shapeCast_self]; rfl
end

/-! ## The blocks -/

theorem V0' : V m c main_v0 = shapeCast S256x128 (m ((c.tc : Thread nD τ).loc main_arg1)) shapeCasts_S1x256x128_S256x128 := by
  show StableHlo.after hostOps0 _ (Proc.devRef .tc main_v0) = _
  after_results
  rfl
theorem V1' : V m c main_v1 = shapeCast S256x128 (m ((c.tc : Thread nD τ).loc main_arg2)) shapeCasts_S1x256x128_S256x128 := by
  show StableHlo.after hostOps0 _ (Proc.devRef .tc main_v1) = _
  after_results
  rfl
theorem V2' : V m c main_v2 = shapeCast S256x128 (m ((c.tc : Thread nD τ).loc main_arg3)) shapeCasts_S1x256x128_S256x128 := by
  show StableHlo.after hostOps0 _ (Proc.devRef .tc main_v2) = _
  after_results
  rfl

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-- The entry of the shard a tile's entry is. -/
def cell (t : Fin cfg0.N) (y : S256x128.Idx) : S256x128.Idx :=
  ix2 (y 0) (y 1)

theorem b0 (t : Fin cfg0.N) (y : S256x128.Idx) :
    grad (R := 256) (C := 128) (iblk m c 0 t) y = grad (R := 256) (C := 128) (m ((c.tc : Thread nD τ).loc main_arg0)) (cell t y) := by
  refine congrArg total (funext fun k => ?_)
  refine Eq.trans ?_ (congrFun (V_main_arg0 m c) _)
  unfold iblk
  blk_simp [e0 t]
  congr 1
  blk_ext [e0 t] <;> rfl
theorem b1 (t : Fin cfg0.N) (y : S256x128.Idx) : (iblk m c 1 t : Vec Ideal S256x128 .f32) y = V m c main_v0 (cell t y) := by
  unfold iblk
  blk_simp [e1 t]
  congr 1
  blk_ext [e1 t] <;> rfl
theorem b2 (t : Fin cfg0.N) (y : S256x128.Idx) : (iblk m c 2 t : Vec Ideal S256x128 .f32) y = V m c main_v1 (cell t y) := by
  unfold iblk
  blk_simp [e2 t]
  congr 1
  blk_ext [e2 t] <;> rfl
theorem b3 (t : Fin cfg0.N) (y : S256x128.Idx) : (iblk m c 3 t : Vec Ideal S256x128 .f32) y = V m c main_v2 (cell t y) := by
  unfold iblk
  blk_simp [e3 t]
  congr 1
  blk_ext [e3 t] <;> rfl

/-! ## The arrays -/

abbrev refG := Cert.RefAdamWProjIdeal.Read.val_main_v1 (F := Ideal) (m ((c.tc : Thread nD τ).loc main_arg0))
abbrev refD := Cert.RefAdamWProjIdeal.Read.val_main_v28 (F := Ideal) (m ((c.tc : Thread nD τ).loc main_arg0)) (m ((c.tc : Thread nD τ).loc main_arg1))
  (m ((c.tc : Thread nD τ).loc main_arg2)) (m ((c.tc : Thread nD τ).loc main_arg3))
abbrev refM := Cert.RefAdamWProjIdeal.Read.val_main_v9 (F := Ideal) (m ((c.tc : Thread nD τ).loc main_arg0)) (m ((c.tc : Thread nD τ).loc main_arg2))
abbrev refV := Cert.RefAdamWProjIdeal.Read.val_main_v15 (F := Ideal) (m ((c.tc : Thread nD τ).loc main_arg0)) (m ((c.tc : Thread nD τ).loc main_arg3))

theorem tile_g (t : Fin cfg0.N) (y : S256x128.Idx) : k0_pay5 (F := Ideal) (iblk m c 0 t) (iblk m c 1 t) (iblk m c 2 t) (iblk m c 3 t) y = refG m c (cell t y) :=
  (ker_g _ _ _ _ y).trans ((b0 m c t y).trans (ref_g _ _).symm)

theorem arr4 : (dats m 0 c).arrAt 4 cfg0.N = refG m c := by
  refine (dats m 0 c).arrAt_eq_of_covers 4 _ (by decide +kernel) fun t hf y => ?_
  blk_simp
  rw [after0_4]
  unfold out0_4
  frame_out
  refine (tile_g m c t y).trans (congrArg (refG m c) ?_)
  blk_ext [e4 t] <;> rfl
theorem arr5 : (dats m 0 c).arrAt 5 cfg0.N = refD m c := by
  refine (dats m 0 c).arrAt_eq_of_covers 5 _ (by decide +kernel) fun t hf y => ?_
  blk_simp
  rw [after0_5]
  unfold out0_5
  frame_out
  rw [ker_d, tile_g, b1, b2, b3, V0', V1', V2']
  refine Eq.trans ?_ (congrArg (refD m c) (?_ : cell t y = _))
  · rfl
  · blk_ext [e5 t] <;> rfl
theorem arr6 : (dats m 0 c).arrAt 6 cfg0.N = refM m c := by
  refine (dats m 0 c).arrAt_eq_of_covers 6 _ (by decide +kernel) fun t hf y => ?_
  blk_simp
  rw [after0_6]
  unfold out0_6
  frame_out
  rw [ker_m, tile_g, b2, V1']
  refine Eq.trans ?_ (congrArg (refM m c) (?_ : cell t y = _))
  · rfl
  · blk_ext [e6 t] <;> rfl
theorem arr7 : (dats m 0 c).arrAt 7 cfg0.N = refV m c := by
  refine (dats m 0 c).arrAt_eq_of_covers 7 _ (by decide +kernel) fun t hf y => ?_
  blk_simp
  rw [after0_7]
  unfold out0_7
  frame_out
  rw [ker_v, tile_g, b3, V2']
  refine Eq.trans ?_ (congrArg (refV m c) (?_ : cell t y = _))
  · rfl
  · blk_ext [e7 t] <;> rfl

theorem algebraic : algebraic_AdamWProjIdeal_RefAdamWProjIdeal (hAdamWProjIdeal := Cert.AdamWProjIdeal.Gen.facts)
    (hRefAdamWProjIdeal := Cert.RefAdamWProjIdeal.Gen.facts) := by
  intro m g m' g' hp hm
  refine ⟨refG m, refD m, refM m, refV m, ?_, ?_⟩
  · exact (θ_run _ _ _).mono (fun r h c => ⟨(h c).1.trans (arr4 m c), (h c).2.1.trans (arr5 m c), (h c).2.2.1.trans (arr6 m c), (h c).2.2.2.1.trans (arr7 m c),
      (h c).2.2.2.2⟩) (Cert.AdamWProjIdeal.Value.run_blocks (F := Ideal) m g)
  · refine (θ_run _ _ _).mono (fun r h c => ?_) (Cert.RefAdamWProjIdeal.Value.run (F := Ideal) m' g')
    obtain ⟨q0, q1, q2, q3⟩ := hm c
    refine ⟨(h c).1.trans ?_, (h c).2.1.trans ?_, (h c).2.2.1.trans ?_, (h c).2.2.2.1.trans ?_, (h c).2.2.2.2⟩
    · rw [q0]; rfl
    · rw [q0, q1, q2, q3]; rfl
    · rw [q0, q2]; rfl
    · rw [q0, q3]; rfl

end Cert.AdamProj
-- ==== Proof.AdamIn.lean ====
/-
  The optimiser's step for the shard of w_in, which arrives transposed: the kernel's tiles against the whole arrays.
-/
module

public import proofs.«01_k».proof.Defs
public import proofs.«01_k».proof.Proof.Adam
public import proofs.«01_k».proof.Proof.Gen.AdamWInIdeal.Value
public import proofs.«01_k».proof.Proof.Gen.RefAdamWInIdeal.Run
public import proofs.«01_k».proof.Proof.Gen.RefAdamWInIdeal.Read
public import Idealize.ShloMosaic.Lib.Pipeline.ValueKit.Geometry
public import Idealize.ShloMosaic.Lib.Pipeline.ValueKit.Tiles
public import Idealize.ShloMosaic.Lib.StableHlo.Run
public import Idealize.ShloMosaic.Lib.Tactic

@[expose] public section

noncomputable section

open scoped BigOperators

namespace Cert.AdamIn

open Cert.Products Cert.Adam Cert.AdamWInIdeal Cert.AdamWInIdeal.Gen Idealize.ShloMosaic Idealize.ShloMosaic.ValueIdx
open Idealize.ShloMosaic.TcCoe Idealize.SL.Sem

variable (m : (ℓ : Loc nD τ sig) → Buf (Elt Ideal) ℓ) (c : Dev nD)

/-! ## The reference at an index -/

section
open Cert.RefAdamWInIdeal.Read
variable (x0 : FVec Ideal S8x578x1024 .bf16) (x1 x2 x3 : FVec Ideal S1x1024x578 .f32) (i : S578x1024.Idx)

theorem ref_g : val_main_v4 (F := Ideal) x0 i = grad x0 i := by
  rw [val_main_v4_apply]
  refine (zadd _).trans (Finset.sum_congr rfl fun k _ => congrArg x0 (funext fun a => ?_))
  match a with | ⟨0, _⟩ => rfl | ⟨1, _⟩ => rfl | ⟨2, _⟩ => rfl
end

/-! ## The body at an index -/

section
variable (x0 : FVec Ideal S8x578x256 .bf16) (x1 x2 x3 : FVec Ideal S578x256 .f32) (i : S578x256.Idx)

theorem ker_g : k0_pay5 (F := Ideal) x0 x1 x2 x3 i = grad x0 i := by
  unfold k0_pay5 k0_pay4
  exact loads (R := 578) (C := 256) x0 shapeCasts_S1x578x256_S578x256 i _ _ _ _ _ _ _ _

theorem ker_m (g : FVec Ideal S578x256 .f32) : k0_pay1 (F := Ideal) g x2 i = first (g i) (x2 i) := by
  unfold k0_pay1; rw [shapeCast_self]; rfl
theorem ker_v (g : FVec Ideal S578x256 .f32) : k0_pay2 (F := Ideal) g x3 i = second (g i) (x3 i) := by
  unfold k0_pay2; rw [shapeCast_self]; rfl
theorem ker_d (g : FVec Ideal S578x256 .f32) : k0_pay3 (F := Ideal) g x1 x2 x3 i = change (g i) (x1 i) (x2 i) (x3 i) := by
  unfold k0_pay3 change
  rw [← ker_m, ← ker_v, shapeCast_self]; rfl
end

/-! ## The blocks -/

/-- The host's transposed argument. -/
abbrev over (v : FVec Ideal S1x1024x578 .f32) : FVec Ideal S578x1024 .f32 := Cert.RefAdamWInIdeal.Read.val_main_v5 (F := Ideal) v

theorem V0' : V m c main_v1 = over (m ((c.tc : Thread nD τ).loc main_arg1)) := by
  show StableHlo.after hostOps0 _ (Proc.devRef .tc main_v1) = _
  after_results
  exact turned (R := 578) (C := 1024) (m ((c.tc : Thread nD τ).loc main_arg1)) _ _ _ _
theorem V1' : V m c main_v3 = over (m ((c.tc : Thread nD τ).loc main_arg2)) := by
  show StableHlo.after hostOps0 _ (Proc.devRef .tc main_v3) = _
  after_results
  exact turned (R := 578) (C := 1024) (m ((c.tc : Thread nD τ).loc main_arg2)) _ _ _ _
theorem V2' : V m c main_v5 = over (m ((c.tc : Thread nD τ).loc main_arg3)) := by
  show StableHlo.after hostOps0 _ (Proc.devRef .tc main_v5) = _
  after_results
  exact turned (R := 578) (C := 1024) (m ((c.tc : Thread nD τ).loc main_arg3)) _ _ _ _

theorem e0 : ∀ t : Fin cfg0.N, win0_0.index t = ![0, 0, t.val] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, t.val] := (by decide +kernel : ∀ t : Fin grid0.N, _)
theorem lt4 (t : Fin cfg0.N) : t.val < 4 := t.isLt.trans_eq N_0

/-- The entry of the shard a tile's entry is. -/
def cell (t : Fin cfg0.N) (y : S578x256.Idx) : S578x1024.Idx :=
  ix2 (y 0) (⟨t.val * 256 + (y 1).val, by have := lt4 t; have h1 : (y 1).val < 256 := (y 1).isLt; omega⟩ : Fin 1024)

theorem b0 (t : Fin cfg0.N) (y : S578x256.Idx) :
    grad (R := 578) (C := 256) (iblk m c 0 t) y = grad (R := 578) (C := 1024) (m ((c.tc : Thread nD τ).loc main_arg0)) (cell t y) := by
  refine congrArg total (funext fun k => ?_)
  refine Eq.trans ?_ (congrFun (V_main_arg0 m c) _)
  unfold iblk
  blk_simp [e0 t]
  congr 1
  blk_ext [e0 t] <;> rfl
theorem b1 (t : Fin cfg0.N) (y : S578x256.Idx) : (iblk m c 1 t : Vec Ideal S578x256 .f32) y = V m c main_v1 (cell t y) := by
  unfold iblk
  blk_simp [e1 t]
  congr 1
  blk_ext [e1 t] <;> rfl
theorem b2 (t : Fin cfg0.N) (y : S578x256.Idx) : (iblk m c 2 t : Vec Ideal S578x256 .f32) y = V m c main_v3 (cell t y) := by
  unfold iblk
  blk_simp [e2 t]
  congr 1
  blk_ext [e2 t] <;> rfl
theorem b3 (t : Fin cfg0.N) (y : S578x256.Idx) : (iblk m c 3 t : Vec Ideal S578x256 .f32) y = V m c main_v5 (cell t y) := by
  unfold iblk
  blk_simp [e3 t]
  congr 1
  blk_ext [e3 t] <;> rfl

/-! ## The arrays -/

abbrev refG := Cert.RefAdamWInIdeal.Read.val_main_v4 (F := Ideal) (m ((c.tc : Thread nD τ).loc main_arg0))
abbrev refD := Cert.RefAdamWInIdeal.Read.val_main_v31 (F := Ideal) (m ((c.tc : Thread nD τ).loc main_arg0)) (m ((c.tc : Thread nD τ).loc main_arg1))
  (m ((c.tc : Thread nD τ).loc main_arg2)) (m ((c.tc : Thread nD τ).loc main_arg3))
abbrev refM := Cert.RefAdamWInIdeal.Read.val_main_v12 (F := Ideal) (m ((c.tc : Thread nD τ).loc main_arg0)) (m ((c.tc : Thread nD τ).loc main_arg2))
abbrev refV := Cert.RefAdamWInIdeal.Read.val_main_v18 (F := Ideal) (m ((c.tc : Thread nD τ).loc main_arg0)) (m ((c.tc : Thread nD τ).loc main_arg3))

theorem tile_g (t : Fin cfg0.N) (y : S578x256.Idx) : k0_pay5 (F := Ideal) (iblk m c 0 t) (iblk m c 1 t) (iblk m c 2 t) (iblk m c 3 t) y = refG m c (cell t y) :=
  (ker_g _ _ _ _ y).trans ((b0 m c t y).trans (ref_g _ _).symm)

theorem arr4 : (dats m 0 c).arrAt 4 cfg0.N = refG m c := by
  refine (dats m 0 c).arrAt_eq_of_covers 4 _ (by decide +kernel) fun t hf y => ?_
  blk_simp
  rw [after0_4]
  unfold out0_4
  frame_out
  refine (tile_g m c t y).trans (congrArg (refG m c) ?_)
  blk_ext [e4 t] <;> rfl
theorem arr5 : (dats m 0 c).arrAt 5 cfg0.N = refD m c := by
  refine (dats m 0 c).arrAt_eq_of_covers 5 _ (by decide +kernel) fun t hf y => ?_
  blk_simp
  rw [after0_5]
  unfold out0_5
  frame_out
  rw [ker_d, tile_g, b1, b2, b3, V0', V1', V2']
  refine Eq.trans ?_ (congrArg (refD m c) (?_ : cell t y = _))
  · rfl
  · blk_ext [e5 t] <;> rfl
theorem arr6 : (dats m 0 c).arrAt 6 cfg0.N = refM m c := by
  refine (dats m 0 c).arrAt_eq_of_covers 6 _ (by decide +kernel) fun t hf y => ?_
  blk_simp
  rw [after0_6]
  unfold out0_6
  frame_out
  rw [ker_m, tile_g, b2, V1']
  refine Eq.trans ?_ (congrArg (refM m c) (?_ : cell t y = _))
  · rfl
  · blk_ext [e6 t] <;> rfl
theorem arr7 : (dats m 0 c).arrAt 7 cfg0.N = refV m c := by
  refine (dats m 0 c).arrAt_eq_of_covers 7 _ (by decide +kernel) fun t hf y => ?_
  blk_simp
  rw [after0_7]
  unfold out0_7
  frame_out
  rw [ker_v, tile_g, b3, V2']
  refine Eq.trans ?_ (congrArg (refV m c) (?_ : cell t y = _))
  · rfl
  · blk_ext [e7 t] <;> rfl

theorem algebraic : algebraic_AdamWInIdeal_RefAdamWInIdeal (hAdamWInIdeal := Cert.AdamWInIdeal.Gen.facts)
    (hRefAdamWInIdeal := Cert.RefAdamWInIdeal.Gen.facts) := by
  intro m g m' g' hp hm
  refine ⟨refG m, refD m, refM m, refV m, ?_, ?_⟩
  · exact (θ_run _ _ _).mono (fun r h c => ⟨(h c).1.trans (arr4 m c), (h c).2.1.trans (arr5 m c), (h c).2.2.1.trans (arr6 m c), (h c).2.2.2.1.trans (arr7 m c),
      (h c).2.2.2.2⟩) (Cert.AdamWInIdeal.Value.run_blocks (F := Ideal) m g)
  · refine (θ_run _ _ _).mono (fun r h c => ?_) (Cert.RefAdamWInIdeal.Value.run (F := Ideal) m' g')
    obtain ⟨q0, q1, q2, q3⟩ := hm c
    refine ⟨(h c).1.trans ?_, (h c).2.1.trans ?_, (h c).2.2.1.trans ?_, (h c).2.2.2.1.trans ?_, (h c).2.2.2.2⟩
    · rw [q0]; rfl
    · rw [q0, q1, q2, q3]; rfl
    · rw [q0, q2]; rfl
    · rw [q0, q3]; rfl

end Cert.AdamIn
-- ==== Proof.Finite.lean ====
/-
  The precondition read back: an array whose every element is, in absolute value, below infinity holds reals.
-/
module

public import proofs.«01_k».proof.Pre_finite
public import proofs.«01_k».proof.Proof.Gen.Pre_finite
public import proofs.«01_k».proof.Proof.Reals
public import Idealize.ShloMosaic.Lib.ReduceAll
public import Idealize.ShloMosaic.Lib.ValueIdx

@[expose] public section

noncomputable section

namespace Cert.Finite

open Idealize.ShloMosaic

theorem bits_inf : Ideal.ofBits .f32 0x7F800000#32 = (⊤ : EReal) := by simp [Ideal.ofBits, Ideal.ieee]

theorem real_of_lt (x : EReal) (h : Ideal.cmp .olt (max x (-x)) ⊤ = 1#1) : x = ((x.toReal : ℝ) : EReal) := by
  have hl : max x (-x) < ⊤ := by
    by_contra hn
    simp [Ideal.cmp, hn] at h
  refine (EReal.coe_toReal ?_ ?_).symm
  · rintro rfl; simp at hl
  · rintro rfl; simp at hl

/-- An array all of whose elements pass the comparison is an array of reals, by row and column. -/
theorem reals {n k : ℕ} (x : (⟨2, ![n, k]⟩ : Shape).Idx → EReal) (h : ∀ i, Ideal.cmp .olt (max (x i) (-x i)) ⊤ = 1#1) :
    ∃ f : ℕ → ℕ → ℝ, ∀ i, x i = ((f (i 0).val (i 1).val : ℝ) : EReal) := by
  refine ⟨fun a b => if hab : a < n ∧ b < k then (x (ValueIdx.ix2 (⟨a, hab.1⟩ : Fin n) (⟨b, hab.2⟩ : Fin k))).toReal else 0, fun i => ?_⟩
  have h0 : (i 0).val < n := (i 0).isLt
  have h1 : (i 1).val < k := (i 1).isLt
  dsimp only
  rw [dif_pos ⟨h0, h1⟩]
  rw [show (ValueIdx.ix2 (⟨(i 0).val, h0⟩ : Fin n) (⟨(i 1).val, h1⟩ : Fin k) : (⟨2, ![n, k]⟩ : Shape).Idx) = i from
    funext fun a => by match a with | ⟨0, _⟩ => rfl | ⟨1, _⟩ => rfl]
  exact real_of_lt _ (h i)

instance : Subsingleton Cert.Pre_finite.S_.Idx := ⟨fun a b => funext fun x => x.elim0⟩

open Cert.Pre_finite in
/-- What the precondition says of its seven arrays. -/
theorem split (x0 : FVec Ideal S8192x1024 .f32) (x1 : FVec Ideal S8192x256 .f32) (x2 : FVec Ideal S8192x1024 .f32) (x3 : FVec Ideal S1024x1024 .f32)
    (x4 : FVec Ideal S256x1024 .f32) (x5 x6 : FVec Ideal S1x1024 .f32) (h : Cert.Pre_finite.fn (F := Ideal) x0 x1 x2 x3 x4 x5 x6 = fun _ => 1#1) :
    (∃ f : ℕ → ℕ → ℝ, ∀ i, x0 i = ((f (i 0).val (i 1).val : ℝ) : EReal)) ∧ (∃ f : ℕ → ℕ → ℝ, ∀ i, x1 i = ((f (i 0).val (i 1).val : ℝ) : EReal))
      ∧ (∃ f : ℕ → ℕ → ℝ, ∀ i, x2 i = ((f (i 0).val (i 1).val : ℝ) : EReal)) ∧ (∃ f : ℕ → ℕ → ℝ, ∀ i, x3 i = ((f (i 0).val (i 1).val : ℝ) : EReal))
      ∧ (∃ f : ℕ → ℕ → ℝ, ∀ i, x4 i = ((f (i 0).val (i 1).val : ℝ) : EReal)) ∧ (∃ f : ℕ → ℕ → ℝ, ∀ i, x5 i = ((f (i 0).val (i 1).val : ℝ) : EReal))
      ∧ (∃ f : ℕ → ℕ → ℝ, ∀ i, x6 i = ((f (i 0).val (i 1).val : ℝ) : EReal)) := by
  have e := congrFun h (fun a => a.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨reals _ fun i => ?_, reals _ fun i => ?_, reals _ fun i => ?_, reals _ fun i => ?_, reals _ fun i => ?_, reals _ fun i => ?_, reals _ fun i => ?_⟩
  · rw [← bits_inf]; exact Host.reduce_andi_all _ _ _ _ _ e0 i
  · rw [← bits_inf]; exact Host.reduce_andi_all _ _ _ _ _ e1 i
  · rw [← bits_inf]; exact Host.reduce_andi_all _ _ _ _ _ e2 i
  · rw [← bits_inf]; exact Host.reduce_andi_all _ _ _ _ _ e3 i
  · rw [← bits_inf]; exact Host.reduce_andi_all _ _ _ _ _ e4 i
  · rw [← bits_inf]; exact Host.reduce_andi_all _ _ _ _ _ e5 i
  · rw [← bits_inf]; exact Host.reduce_andi_all _ _ _ _ _ e6 i

end Cert.Finite
-- ==== Proof.HeadSpec.lean ====
/-
  The gated layer embedding, the final normalisation and the loss, and the gradient of the loss, as formulas over the
  reals. Rows and columns are natural numbers.
-/
module

public import proofs.«01_k».proof.Proof.Reals

@[expose] public section

noncomputable section

open scoped BigOperators

namespace Cert.Head

open Cert.Gate

/-- The inputs over the reals. -/
structure In where
  h : ℕ → ℕ → ℝ
  p : ℕ → ℕ → ℝ
  tg : ℕ → ℕ → ℝ
  wg : ℕ → ℕ → ℝ
  wp : ℕ → ℕ → ℝ
  gp : ℕ → ℝ
  gf : ℕ → ℝ

namespace In
variable (I : In)

/-- The gate's normalisation and its pre-activation. -/
def m2 (r : ℕ) : ℝ := (∑ k : Fin 1024, I.h r k.val * I.h r k.val) / 1024 + eps
def r2 (r : ℕ) : ℝ := (Real.sqrt (I.m2 r))⁻¹
def n2 (r j : ℕ) : ℝ := I.h r j * I.r2 r
def a (r j : ℕ) : ℝ := ∑ k : Fin 1024, I.n2 r k.val * I.gp k.val * I.wg k.val j
/-- The embedding's product, the gate, and the gated sum. -/
def e (r j : ℕ) : ℝ := ∑ k : Fin 256, I.p r k.val * I.wp k.val j
def s (r j : ℕ) : ℝ := 1 / (1 + Real.exp (-I.a r j))
def h3 (r j : ℕ) : ℝ := I.h r j + I.s r j * I.e r j
/-- The final normalisation and the error. -/
def m3 (r : ℕ) : ℝ := (∑ k : Fin 1024, I.h3 r k.val * I.h3 r k.val) / 1024 + eps
def r3 (r : ℕ) : ℝ := (Real.sqrt (I.m3 r))⁻¹
def n3 (r j : ℕ) : ℝ := I.h3 r j * I.r3 r
def er (r j : ℕ) : ℝ := I.n3 r j * I.gf j - I.tg r j
/-- Back through the final normalisation, the gate and the embedding. -/
def gy (r j : ℕ) : ℝ := I.er r j * (I.gf j * (1 / 1024))
def d3 (r j : ℕ) : ℝ := (I.gy r j - I.n3 r j * ((∑ k : Fin 1024, I.gy r k.val * I.n3 r k.val) / 1024)) * I.r3 r
def de (r j : ℕ) : ℝ := I.d3 r j * I.s r j
def da (r j : ℕ) : ℝ := I.de r j * (I.e r j - I.s r j * I.e r j)
/-- Back through the gate's product and its normalisation. -/
def dn (r j : ℕ) : ℝ := ∑ k : Fin 1024, I.da r k.val * I.wg j k.val
def g2 (r j : ℕ) : ℝ := I.dn r j * I.gp j
def d2 (r j : ℕ) : ℝ := (I.g2 r j - I.n2 r j * ((∑ k : Fin 1024, I.g2 r k.val * I.n2 r k.val) / 1024)) * I.r2 r
def dh (r j : ℕ) : ℝ := I.d3 r j + I.d2 r j

/-- The sums over the rows: the loss and the gradients at the two gains. -/
def loss : ℝ := (∑ r : Fin 8192, ∑ j : Fin 1024, I.er r.val j.val * I.er r.val j.val) * (1 / 2048)
def dgp (j : ℕ) : ℝ := ∑ r : Fin 8192, I.dn r.val j * I.n2 r.val j
def dgf (j : ℕ) : ℝ := (∑ r : Fin 8192, I.er r.val j * I.n3 r.val j) * (1 / 1024)

theorem m2_pos (r : ℕ) : 0 < I.m2 r :=
  add_pos_of_nonneg_of_pos (div_nonneg (Finset.sum_nonneg fun _ _ => mul_self_nonneg _) (by norm_num)) eps_pos
theorem m3_pos (r : ℕ) : 0 < I.m3 r :=
  add_pos_of_nonneg_of_pos (div_nonneg (Finset.sum_nonneg fun _ _ => mul_self_nonneg _) (by norm_num)) eps_pos
theorem s_pos (r j : ℕ) : (1 + Real.exp (-I.a r j)) ≠ 0 := by positivity

/-- The final normalisation's gradient as the reference spells it. -/
theorem d3_ref (r j : ℕ) (q : ℝ) (hq : q = (∑ k : Fin 1024, I.h3 r k.val * I.gy r k.val) * (-(1 / 2) * (I.r3 r / I.m3 r)) / 1024) :
    I.gy r j * I.r3 r + I.h3 r j * q + q * I.h3 r j = I.d3 r j :=
  rms_back (I.m3_pos r) rfl (by
    rw [Finset.mul_sum]; refine Finset.sum_congr rfl fun k _ => ?_
    unfold n3; ring) hq

/-- The gate's normalisation's gradient as the reference spells it. -/
theorem d2_ref (r j : ℕ) (q : ℝ) (hq : q = (∑ k : Fin 1024, I.h r k.val * I.g2 r k.val) * (-(1 / 2) * (I.r2 r / I.m2 r)) / 1024) :
    I.g2 r j * I.r2 r + I.h r j * q + q * I.h r j = I.d2 r j :=
  rms_back (I.m2_pos r) rfl (by
    rw [Finset.mul_sum]; refine Finset.sum_congr rfl fun k _ => ?_
    unfold n2; ring) hq

end In
end Cert.Head
-- ==== Proof.HeadBody.lean ====
/-
  The head kernel's body over real blocks: what each payload is, at an index of a 512-row block that starts at row `ro`.
-/
module

public import proofs.«01_k».proof.Proof.HeadSpec
public import proofs.«01_k».proof.Proof.Gen.KernelIdeal.Skeleton
public import Idealize.ShloMosaic.Lib.MatmulPlain
public import Idealize.ShloMosaic.Lib.Pipeline.Value
public import Idealize.ShloMosaic.Lib.ValueIdx

@[expose] public section

noncomputable section

open scoped BigOperators

namespace Cert.Head.Body

open Cert.Gate Cert.KernelIdeal Cert.KernelIdeal.Gen Idealize.ShloMosaic Idealize.ShloMosaic.ValueIdx

/-! ## The layout operations -/

theorem mm {K N : ℕ} {φ₁ φ₂ : FTy} (lhs : FVec Ideal ⟨2, ![512, K]⟩ φ₁) (rhs : FVec Ideal ⟨2, ![K, N]⟩ φ₂) (f g : ℕ → ℕ → ℝ)
    (hl : ∀ i, lhs i = ((f (i 0).val (i 1).val : ℝ) : EReal)) (hr : ∀ i, rhs i = ((g (i 0).val (i 1).val : ℝ) : EReal))
    (i : (⟨2, ![512, N]⟩ : Shape).Idx) :
    FloatOps.matmul (DotDims.plain 512 K N) none lhs rhs (constant ⟨2, ![512, N]⟩ .f32 0x00000000#32) i
      = ((∑ k : Fin K, f (i 0).val k.val * g k.val (i 1).val : ℝ) : EReal) := by
  obtain ⟨r, c, rfl⟩ : ∃ (r : Fin 512) (c : Fin N), i = ix2 r c :=
    ⟨i 0, i 1, funext fun a => by match a with | ⟨0, _⟩ => rfl | ⟨1, _⟩ => rfl⟩
  exact (Ideal.matmul_plain_apply ..).trans <| zsum_r Ideal.ofBits_zero_f32 fun k => mul_r (hl _) (hr _)

theorem mt {K N : ℕ} {φ₁ φ₂ : FTy} (lhs : FVec Ideal ⟨2, ![512, K]⟩ φ₁) (rhs : FVec Ideal ⟨2, ![N, K]⟩ φ₂) (f g : ℕ → ℕ → ℝ)
    (hl : ∀ i, lhs i = ((f (i 0).val (i 1).val : ℝ) : EReal)) (hr : ∀ i, rhs i = ((g (i 0).val (i 1).val : ℝ) : EReal))
    (i : (⟨2, ![512, N]⟩ : Shape).Idx) :
    FloatOps.matmul (DotDims.transposedRhs 512 K N) none lhs rhs (constant ⟨2, ![512, N]⟩ .f32 0x00000000#32) i
      = ((∑ k : Fin K, f (i 0).val k.val * g (i 1).val k.val : ℝ) : EReal) := by
  obtain ⟨r, c, rfl⟩ : ∃ (r : Fin 512) (c : Fin N), i = ix2 r c :=
    ⟨i 0, i 1, funext fun a => by match a with | ⟨0, _⟩ => rfl | ⟨1, _⟩ => rfl⟩
  exact (Ideal.matmul_transposedRhs_apply ..).trans <| zsum_r Ideal.ofBits_zero_f32 fun k => mul_r (hl _) (hr _)

/-- A row's sum, kept as a column. -/
theorem col (v : FVec Ideal S512x1024 .f32) (f : ℕ → ℕ → ℝ) (hv : ∀ i, v i = ((f (i 0).val (i 1).val : ℝ) : EReal)) (i : S512x1.Idx) :
    shapeCast S512x1 (multiReduction .add [1] S512 v 0x00000000#32 reduces_S512x1024_S512 (.inl rfl) rfl) shapeCasts_S512_S512x1 i
      = ((∑ k : Fin 1024, f (i 0).val k.val : ℝ) : EReal) := by
  rw [shapeCast_apply _ shapeCasts_S512_S512x1 i (ix1 (i 0)) (by
    rewrite [Shape.rowMajor_val_one, Shape.rowMajor_val_two]
    have h1 : (i 1).val < 1 := (i 1).isLt
    show (i 0).val = (i 0).val * 1 + (i 1).val
    omega)]
  exact (Ideal.multiReduction_add_single ..).trans (sum_r fun k => hv _)

/-- A column broadcast along the rows. -/
theorem bc (v : FVec Ideal S512x1 .f32) (i : S512x1024.Idx) :
    broadcastTo S512x1024 v broadcasts_S512x1_S512x1024 i = v (ix2 (i 0) (0 : Fin 1)) :=
  broadcastTo_apply v _ i _ fun a => by match a with | ⟨0, _⟩ => rfl | ⟨1, _⟩ => rfl

/-- A row broadcast over the block. -/
theorem br (v : FVec Ideal S1x1024 .f32) (i : S512x1024.Idx) :
    broadcastTo S512x1024 v broadcasts_S1x1024_S512x1024 i = v (ix2 (0 : Fin 1) (i 1)) :=
  broadcastTo_apply v _ i _ fun a => by match a with | ⟨0, _⟩ => rfl | ⟨1, _⟩ => rfl

/-- The block's rows summed eight apart. -/
theorem sum8 (v : FVec Ideal S512x1024 .f32) (f : ℕ → ℕ → ℝ) (hv : ∀ i, v i = ((f (i 0).val (i 1).val : ℝ) : EReal)) (i : S8x1024.Idx) :
    multiReduction .add [0] S8x1024 (shapeCast S64x8x1024 v shapeCasts_S512x1024_S64x8x1024) 0x00000000#32 reduces_S64x8x1024_S8x1024 (.inl rfl) rfl i
      = ((∑ k : Fin 64, f (8 * k.val + (i 0).val) (i 1).val : ℝ) : EReal) := by
  refine (Ideal.multiReduction_add_single ..).trans (sum_r fun k => ?_)
  have hk : k.val < 64 := k.isLt
  have h0 : (i 0).val < 8 := (i 0).isLt
  refine (shapeCast_apply v shapeCasts_S512x1024_S64x8x1024 _ (ix2 (⟨8 * k.val + (i 0).val, by omega⟩ : Fin 512) (i 1)) ?_).trans (hv _)
  rewrite [Shape.rowMajor_val_two, Shape.rowMajor_val_three]
  show (8 * k.val + (i 0).val) * 1024 + (i 1).val = (k.val * 8 + (i 0).val) * 1024 + (i 1).val
  omega

/-! ## The payloads -/

section
variable (I : In) (ro : ℕ)
variable (x0 : Vec Ideal S512x1024 .bf16) (x1 : Vec Ideal S1024x1024 .bf16) (x2 : Vec Ideal S512x256 .f32) (x3 : Vec Ideal S256x1024 .bf16)
  (x4 : Vec Ideal S512x1024 .f32) (x5 : Vec Ideal S512x1024 .f32) (x6 : Vec Ideal S1x1024 .f32) (x7 : Vec Ideal S1x1024 .f32)

/-- The eight blocks hold the real inputs' entries, the rows counted from `ro`. -/
structure Holds : Prop where
  h0 : ∀ i, x0 i = ((I.n2 (ro + (i 0).val) (i 1).val * I.gp (i 1).val : ℝ) : EReal)
  h1 : ∀ i, x1 i = ((I.wg (i 0).val (i 1).val : ℝ) : EReal)
  h2 : ∀ i, x2 i = ((I.p (ro + (i 0).val) (i 1).val : ℝ) : EReal)
  h3 : ∀ i, x3 i = ((I.wp (i 0).val (i 1).val : ℝ) : EReal)
  h4 : ∀ i, x4 i = ((I.h (ro + (i 0).val) (i 1).val : ℝ) : EReal)
  h5 : ∀ i, x5 i = ((I.tg (ro + (i 0).val) (i 1).val : ℝ) : EReal)
  h6 : ∀ i, x6 i = ((I.gf (i 1).val : ℝ) : EReal)
  h7 : ∀ i, x7 i = ((I.gp (i 1).val : ℝ) : EReal)

variable (H : Holds I ro x0 x1 x2 x3 x4 x5 x6 x7)

abbrev v1 := k0_pay2 (F := Ideal) x1
abbrev v13 := k0_pay3 (F := Ideal) x2 x3
abbrev v20 := k0_pay4 (F := Ideal) x1 x0
abbrev v21 := k0_pay5 (F := Ideal) x1 x0 x2 x3
abbrev v30 := k0_pay7 (F := Ideal) x1 x0 x2 x3 x4
abbrev v32 := k0_pay8 (F := Ideal) x1 x0 x2 x3 x4

include H

theorem p2 (i : S1024x1024.Idx) : v1 x1 i = ((I.wg (i 0).val (i 1).val : ℝ) : EReal) := by
  show k0_pay2 x1 i = _
  unfold k0_pay2; rw [shapeCast_self]; exact H.h1 i

theorem p3 (i : S512x1024.Idx) : v13 x2 x3 i = ((I.e (ro + (i 0).val) (i 1).val : ℝ) : EReal) := by
  show k0_pay3 x2 x3 i = _
  unfold k0_pay3
  rw [shapeCast_self]
  exact mm (φ₁ := .bf16) (φ₂ := .bf16) (K := 256) (N := 1024) _ _ (fun r j => I.p (ro + r) j) I.wp H.h2 H.h3 i

theorem p4 (i : S512x1024.Idx) : v20 x0 x1 i = ((I.s (ro + (i 0).val) (i 1).val : ℝ) : EReal) := by
  have ha : ∀ i : S512x1024.Idx, FloatOps.matmul (F := Ideal) dot_S512x1024_S1024x1024_S512x1024_1_0_0_1_n_n none x0 (v1 x1) (constant S512x1024 .f32 0x00000000#32) i
      = ((I.a (ro + (i 0).val) (i 1).val : ℝ) : EReal) := fun i =>
    mm (φ₁ := .bf16) (φ₂ := .bf16) (K := 1024) (N := 1024) _ _ (fun r j => I.n2 (ro + r) j * I.gp j) I.wg H.h0 (p2 I ro x0 x1 x2 x3 x4 x5 x6 x7 H) i
  show k0_pay4 x1 x0 i = _
  unfold k0_pay4
  rw [shapeCast_self]
  refine to_r (div_r (I.s_pos (ro + (i 0).val) (i 1).val) bits_one (add_r bits_one (exp_r (to_r (sub_r bits_zero (ha i)) (zero_sub _))))) rfl

theorem p5 (i : S512x1024.Idx) : v21 x0 x1 x2 x3 i = ((I.s (ro + (i 0).val) (i 1).val * I.e (ro + (i 0).val) (i 1).val : ℝ) : EReal) :=
  mul_r (p4 I ro x0 x1 x2 x3 x4 x5 x6 x7 H i) (p3 I ro x0 x1 x2 x3 x4 x5 x6 x7 H i)

theorem p6 (i : S512x1024.Idx) : k0_pay6 (F := Ideal) x1 x0 x2 x3 x4 i = ((I.h3 (ro + (i 0).val) (i 1).val : ℝ) : EReal) :=
  add_r (H.h4 i) (p5 I ro x0 x1 x2 x3 x4 x5 x6 x7 H i)

theorem p7 (i : S512x1.Idx) : v30 x0 x1 x2 x3 x4 i = ((I.r3 (ro + (i 0).val) : ℝ) : EReal) := by
  show k0_pay7 x1 x0 x2 x3 x4 i = _
  unfold k0_pay7
  exact rsqrt_r (I.m3_pos _) (add_r (div_r (by norm_num) (col _ (fun r j => I.h3 (ro + r) j * I.h3 (ro + r) j)
    (fun i => mul_r (p6 I ro x0 x1 x2 x3 x4 x5 x6 x7 H i) (p6 I ro x0 x1 x2 x3 x4 x5 x6 x7 H i)) i) bits_1024) bits_eps)

theorem p8 (i : S512x1024.Idx) : v32 x0 x1 x2 x3 x4 i = ((I.n3 (ro + (i 0).val) (i 1).val : ℝ) : EReal) := by
  show k0_pay8 x1 x0 x2 x3 x4 i = _
  unfold k0_pay8
  exact mul_r (p6 I ro x0 x1 x2 x3 x4 x5 x6 x7 H i) ((bc _ i).trans (p7 I ro x0 x1 x2 x3 x4 x5 x6 x7 H _))

theorem p9 (i : S512x1024.Idx) : k0_pay9 (F := Ideal) x5 x6 (v32 x0 x1 x2 x3 x4) i = ((I.er (ro + (i 0).val) (i 1).val : ℝ) : EReal) := by
  unfold k0_pay9
  exact sub_r (mul_r (p8 I ro x0 x1 x2 x3 x4 x5 x6 x7 H i) ((br _ i).trans (H.h6 _))) (H.h5 i)

theorem pgy (i : S512x1024.Idx) :
    mulf (k0_pay9 (F := Ideal) x5 x6 (v32 x0 x1 x2 x3 x4)) (broadcastTo S512x1024 (mulf x6 (broadcast S1x1024 (Scalar.ofBits .f32 0x3A800000#32))) broadcasts_S1x1024_S512x1024) i
      = ((I.gy (ro + (i 0).val) (i 1).val : ℝ) : EReal) :=
  mul_r (p9 I ro x0 x1 x2 x3 x4 x5 x6 x7 H i) ((br _ i).trans (mul_r (H.h6 _) bits_1024th))

theorem p10 (i : S512x1024.Idx) : k0_pay10 (F := Ideal) x5 x6 (v30 x0 x1 x2 x3 x4) (v32 x0 x1 x2 x3 x4) i = ((I.d3 (ro + (i 0).val) (i 1).val : ℝ) : EReal) := by
  have hgy := pgy I ro x0 x1 x2 x3 x4 x5 x6 x7 H
  have hn := p8 I ro x0 x1 x2 x3 x4 x5 x6 x7 H
  unfold k0_pay10
  exact mul_r (sub_r (hgy i) (mul_r (hn i) ((bc _ i).trans (div_r (by norm_num)
    (col _ (fun r j => I.gy (ro + r) j * I.n3 (ro + r) j) (fun i => mul_r (hgy i) (hn i)) _) bits_1024))))
    ((bc _ i).trans (p7 I ro x0 x1 x2 x3 x4 x5 x6 x7 H _))

theorem p11 (i : S512x1024.Idx) : k0_pay11 (F := Ideal) x5 x6 (v20 x0 x1) (v30 x0 x1 x2 x3 x4) (v32 x0 x1 x2 x3 x4) i
    = ((I.de (ro + (i 0).val) (i 1).val : ℝ) : EReal) :=
  mul_r (p10 I ro x0 x1 x2 x3 x4 x5 x6 x7 H i) (p4 I ro x0 x1 x2 x3 x4 x5 x6 x7 H i)

abbrev v52 := k0_pay12 (F := Ideal) x5 x6 (v13 x2 x3) (v20 x0 x1) (v21 x0 x1 x2 x3) (v30 x0 x1 x2 x3 x4) (v32 x0 x1 x2 x3 x4)

theorem p12 (i : S512x1024.Idx) : v52 x0 x1 x2 x3 x4 x5 x6 i = ((I.da (ro + (i 0).val) (i 1).val : ℝ) : EReal) :=
  mul_r (p11 I ro x0 x1 x2 x3 x4 x5 x6 x7 H i) (sub_r (p3 I ro x0 x1 x2 x3 x4 x5 x6 x7 H i) (p5 I ro x0 x1 x2 x3 x4 x5 x6 x7 H i))

theorem p13 (i : S512x1024.Idx) : k0_pay13 (F := Ideal) (v1 x1) x5 x6 (v13 x2 x3) (v20 x0 x1) (v21 x0 x1 x2 x3) (v30 x0 x1 x2 x3 x4) (v32 x0 x1 x2 x3 x4) i
    = ((I.dn (ro + (i 0).val) (i 1).val : ℝ) : EReal) := by
  unfold k0_pay13
  exact mt (φ₁ := .bf16) (φ₂ := .bf16) (K := 1024) (N := 1024) _ _ (fun r j => I.da (ro + r) j) I.wg (p12 I ro x0 x1 x2 x3 x4 x5 x6 x7 H) (p2 I ro x0 x1 x2 x3 x4 x5 x6 x7 H) i

theorem p14 (i : S512x1.Idx) : k0_pay14 (F := Ideal) x4 i = ((I.r2 (ro + (i 0).val) : ℝ) : EReal) := by
  unfold k0_pay14
  exact rsqrt_r (I.m2_pos _) (add_r (div_r (by norm_num) (col _ (fun r j => I.h (ro + r) j * I.h (ro + r) j)
    (fun i => mul_r (H.h4 i) (H.h4 i)) i) bits_1024) bits_eps)

theorem p15 (i : S512x1024.Idx) : k0_pay15 (F := Ideal) x4 i = ((I.n2 (ro + (i 0).val) (i 1).val : ℝ) : EReal) := by
  unfold k0_pay15
  exact mul_r (H.h4 i) ((bc _ i).trans (p14 I ro x0 x1 x2 x3 x4 x5 x6 x7 H _))

theorem p16 (i : S8x1024.Idx) : k0_pay16 (F := Ideal) (v1 x1) x4 x5 x6 (v13 x2 x3) (v20 x0 x1) (v21 x0 x1 x2 x3) (v30 x0 x1 x2 x3 x4) (v32 x0 x1 x2 x3 x4) i
    = ((∑ k : Fin 64, I.dn (ro + (8 * k.val + (i 0).val)) (i 1).val * I.n2 (ro + (8 * k.val + (i 0).val)) (i 1).val : ℝ) : EReal) := by
  unfold k0_pay16
  exact sum8 _ (fun r j => I.dn (ro + r) j * I.n2 (ro + r) j)
    (fun i => mul_r (p13 I ro x0 x1 x2 x3 x4 x5 x6 x7 H i) (p15 I ro x0 x1 x2 x3 x4 x5 x6 x7 H i)) i

theorem p17 (i : S512x1024.Idx) : k0_pay17 (F := Ideal) (v1 x1) x4 x5 x6 x7 (v13 x2 x3) (v20 x0 x1) (v21 x0 x1 x2 x3) (v30 x0 x1 x2 x3 x4) (v32 x0 x1 x2 x3 x4) i
    = ((I.dh (ro + (i 0).val) (i 1).val : ℝ) : EReal) := by
  have hn := p15 I ro x0 x1 x2 x3 x4 x5 x6 x7 H
  have hg : ∀ i : S512x1024.Idx, mulf (k0_pay13 (F := Ideal) (v1 x1) x5 x6 (v13 x2 x3) (v20 x0 x1) (v21 x0 x1 x2 x3) (v30 x0 x1 x2 x3 x4) (v32 x0 x1 x2 x3 x4))
      (broadcastTo S512x1024 x7 broadcasts_S1x1024_S512x1024) i = ((I.g2 (ro + (i 0).val) (i 1).val : ℝ) : EReal) := fun i =>
    mul_r (p13 I ro x0 x1 x2 x3 x4 x5 x6 x7 H i) ((br _ i).trans (H.h7 _))
  unfold k0_pay17
  exact add_r (p10 I ro x0 x1 x2 x3 x4 x5 x6 x7 H i) (mul_r (sub_r (hg i) (mul_r (hn i) ((bc _ i).trans (div_r (by norm_num)
    (col _ (fun r j => I.g2 (ro + r) j * I.n2 (ro + r) j) (fun i => mul_r (hg i) (hn i)) _) bits_1024))))
    ((bc _ i).trans (p14 I ro x0 x1 x2 x3 x4 x5 x6 x7 H _)))

theorem p19 (i : S8x1024.Idx) : k0_pay19 (F := Ideal) (k0_pay18 x5 x6 (v32 x0 x1 x2 x3 x4)) i
    = ((∑ k : Fin 64, I.er (ro + (8 * k.val + (i 0).val)) (i 1).val * I.er (ro + (8 * k.val + (i 0).val)) (i 1).val : ℝ) : EReal) := by
  unfold k0_pay19 k0_pay18
  exact sum8 _ (fun r j => I.er (ro + r) j * I.er (ro + r) j)
    (fun i => mul_r (p9 I ro x0 x1 x2 x3 x4 x5 x6 x7 H i) (p9 I ro x0 x1 x2 x3 x4 x5 x6 x7 H i)) i

theorem p20 (i : S8x1024.Idx) : k0_pay20 (F := Ideal) (v32 x0 x1 x2 x3 x4) (k0_pay9 x5 x6 (v32 x0 x1 x2 x3 x4)) i
    = (((∑ k : Fin 64, I.er (ro + (8 * k.val + (i 0).val)) (i 1).val * I.n3 (ro + (8 * k.val + (i 0).val)) (i 1).val) * (1 / 1024) : ℝ) : EReal) := by
  unfold k0_pay20
  exact mul_r (sum8 _ (fun r j => I.er (ro + r) j * I.n3 (ro + r) j)
    (fun i => mul_r (p9 I ro x0 x1 x2 x3 x4 x5 x6 x7 H i) (p8 I ro x0 x1 x2 x3 x4 x5 x6 x7 H i)) i) bits_1024th

theorem p24 (o : Vec Ideal S8x1024 .f32) (i : S8x1024.Idx) :
    k0_pay24 (F := Ideal) (k0_pay18 x5 x6 (v32 x0 x1 x2 x3 x4)) o i = o i + k0_pay19 (F := Ideal) (k0_pay18 x5 x6 (v32 x0 x1 x2 x3 x4)) i := by
  unfold k0_pay24; rw [shapeCast_self]; rfl

theorem p25 (o : Vec Ideal S8x1024 .f32) (i : S8x1024.Idx) :
    k0_pay25 (F := Ideal) (v32 x0 x1 x2 x3 x4) (k0_pay9 x5 x6 (v32 x0 x1 x2 x3 x4)) o i
      = o i + k0_pay20 (F := Ideal) (v32 x0 x1 x2 x3 x4) (k0_pay9 x5 x6 (v32 x0 x1 x2 x3 x4)) i := by
  unfold k0_pay25; rw [shapeCast_self]; rfl

end

theorem p1 (v : FVec Ideal S8x1024 .f32) (o : Vec Ideal S8x1024 .f32) (i : S8x1024.Idx) : k0_pay1 (F := Ideal) v o i = o i + v i := by
  unfold k0_pay1; rw [shapeCast_self]; rfl

end Cert.Head.Body
-- ==== Proof.HeadRef.lean ====
/-
  The reference's operations over real inputs, one after another: what each value is as a formula of HeadSpec.lean.
-/
module

public import proofs.«01_k».proof.Proof.HeadSpec
public import proofs.«01_k».proof.Proof.Gen.ReferenceIdeal.Read
public import Idealize.ShloMosaic.Lib.IdealHost
public import Idealize.ShloMosaic.Lib.Pointwise.Index
public import Idealize.ShloMosaic.Lib.KernelVsHost

@[expose] public section

noncomputable section

open scoped BigOperators

namespace Cert.Head.Ref

open Cert.Gate Cert.ReferenceIdeal Cert.ReferenceIdeal.Gen Cert.ReferenceIdeal.Read Idealize.ShloMosaic Idealize.ShloMosaic.ValueIdx

section
/-- A sum over a vector's indices is the sum over its rows. -/
theorem sum_rows (f : ℕ → ℝ) : ∑ j : S8192.Idx, f (j 0).val = ∑ r : Fin 8192, f r.val := Idealize.ShloMosaic.sum_idx1 _

variable (I : In)
variable (x0 : (⟨S8192x1024, .f32⟩ : BufTy).Contents (Elt Ideal)) (x1 : (⟨S8192x256, .f32⟩ : BufTy).Contents (Elt Ideal))
  (x2 : (⟨S8192x1024, .f32⟩ : BufTy).Contents (Elt Ideal)) (x3 : (⟨S1024x1024, .f32⟩ : BufTy).Contents (Elt Ideal))
  (x4 : (⟨S256x1024, .f32⟩ : BufTy).Contents (Elt Ideal)) (x5 : (⟨S1x1024, .f32⟩ : BufTy).Contents (Elt Ideal))
  (x6 : (⟨S1x1024, .f32⟩ : BufTy).Contents (Elt Ideal))
  (h0 : ∀ i : S8192x1024.Idx, x0 i = ((I.h (i 0).val (i 1).val : ℝ) : EReal))
  (h1 : ∀ i : S8192x256.Idx, x1 i = ((I.p (i 0).val (i 1).val : ℝ) : EReal))
  (h2 : ∀ i : S8192x1024.Idx, x2 i = ((I.tg (i 0).val (i 1).val : ℝ) : EReal))
  (h3 : ∀ i : S1024x1024.Idx, x3 i = ((I.wg (i 0).val (i 1).val : ℝ) : EReal))
  (h4 : ∀ i : S256x1024.Idx, x4 i = ((I.wp (i 0).val (i 1).val : ℝ) : EReal))
  (h5 : ∀ i : S1x1024.Idx, x5 i = ((I.gp (i 1).val : ℝ) : EReal))
  (h6 : ∀ i : S1x1024.Idx, x6 i = ((I.gf (i 1).val : ℝ) : EReal))

include h0 in
theorem r1 (i : S8192.Idx) : val_main_v1 (F := Ideal) x0 i = ((∑ k : Fin 1024, I.h (i 0).val k.val * I.h (i 0).val k.val : ℝ) : EReal) := by
  exact to_r ((val_main_v1_apply x0 i).trans (zsum_r Ideal.ofBits_zero_f32 fun k => mul_r (h0 _) (h0 _))) rfl

theorem r3 (i : S8192x1.Idx) : val_main_v3 (F := Ideal)  i = ((1024 : ℝ) : EReal) := by
  exact (val_main_v3_apply  i).trans bits_1024

theorem r5 (i : S8192x1.Idx) : val_main_v5 (F := Ideal)  i = ((eps : ℝ) : EReal) := by
  exact (val_main_v5_apply  i).trans bits_eps

include h0 in
theorem r6 (i : S8192x1.Idx) : val_main_v6 (F := Ideal) x0 i = ((I.m2 (i 0).val : ℝ) : EReal) := by
  exact to_r (add_r (div_r (by norm_num) ((val_main_v2_apply x0 i).trans (r1 I x0 h0 _)) (r3 i)) (r5 i)) (rfl)

include h0 in
theorem r7 (i : S8192x1.Idx) : val_main_v7 (F := Ideal) x0 i = ((I.r2 (i 0).val : ℝ) : EReal) := by
  exact to_r (rsqrt_r (I.m2_pos _) (r6 I x0 h0 i)) (rfl)

theorem r9 (i : S8192x1.Idx) : val_main_v9 (F := Ideal)  i = ((-(1 / 2) : ℝ) : EReal) := by
  exact (val_main_v9_apply  i).trans bits_neg_half

include h0 in
theorem r10 (i : S8192x1.Idx) : val_main_v10 (F := Ideal) x0 i = ((-(1 / 2) * (I.r2 (i 0).val / I.m2 (i 0).val) : ℝ) : EReal) := by
  exact to_r (mul_r (r9 i) (div_r (I.m2_pos _).ne' (r7 I x0 h0 i) (r6 I x0 h0 i))) (rfl)

include h0 in
theorem r11 (i : S8192x1024.Idx) : val_main_v11 (F := Ideal) x0 i = ((I.r2 (i 0).val : ℝ) : EReal) := by
  exact to_r ((val_main_v11_apply x0 i).trans (r7 I x0 h0 _)) (rfl)

include h0 in
theorem r12 (i : S8192x1024.Idx) : val_main_v12 (F := Ideal) x0 i = ((I.n2 (i 0).val (i 1).val : ℝ) : EReal) := by
  exact to_r (mul_r (h0 i) (r11 I x0 h0 i)) (rfl)

include h5 in
theorem r13 (i : S8192x1024.Idx) : val_main_v13 (F := Ideal) x5 i = ((I.gp (i 1).val : ℝ) : EReal) := by
  exact (val_main_v13_apply x5 i).trans (h5 _)

include h0 h5 in
theorem r14 (i : S8192x1024.Idx) : val_main_v14 (F := Ideal) x0 x5 i = ((I.n2 (i 0).val (i 1).val * I.gp (i 1).val : ℝ) : EReal) := by
  exact to_r (mul_r (r12 I x0 h0 i) (r13 I x5 h5 i)) (rfl)

include h0 h3 h5 in
theorem r15 (i : S8192x1024.Idx) : val_main_v15 (F := Ideal) x0 x3 x5 i = ((I.a (i 0).val (i 1).val : ℝ) : EReal) := by
  exact to_r ((val_main_v15_apply x0 x3 x5 i).trans (sum_r fun k => mul_r (r14 I x0 x5 h0 h5 _) (h3 _))) rfl

include h1 h4 in
theorem r16 (i : S8192x1024.Idx) : val_main_v16 (F := Ideal) x1 x4 i = ((I.e (i 0).val (i 1).val : ℝ) : EReal) := by
  exact to_r ((val_main_v16_apply x1 x4 i).trans (sum_r fun k => mul_r (h1 _) (h4 _))) rfl

theorem r19 (i : S8192x1024.Idx) : val_main_v19 (F := Ideal)  i = ((1 : ℝ) : EReal) := by
  exact (val_main_v19_apply  i).trans bits_one

theorem r21 (i : S8192x1024.Idx) : val_main_v21 (F := Ideal)  i = ((1 : ℝ) : EReal) := by
  exact (val_main_v21_apply  i).trans bits_one

theorem r23 (i : S8192x1024.Idx) : val_main_v23 (F := Ideal)  i = ((1 : ℝ) : EReal) := by
  exact (val_main_v23_apply  i).trans bits_one

include h0 h3 h5 in
theorem r22 (i : S8192x1024.Idx) : val_main_v22 (F := Ideal) x0 x3 x5 i = ((I.s (i 0).val (i 1).val : ℝ) : EReal) := by
  exact to_r (div_r (I.s_pos _ _) (r21 i) (add_r (r19 i) (exp_r (neg_r (r15 I x0 x3 x5 h0 h3 h5 i))))) (rfl)

include h0 h3 h5 in
theorem r25 (i : S8192x1024.Idx) : val_main_v25 (F := Ideal) x0 x3 x5 i = ((I.s (i 0).val (i 1).val * (1 - I.s (i 0).val (i 1).val) : ℝ) : EReal) := by
  exact to_r (mul_r (r22 I x0 x3 x5 h0 h3 h5 i) (sub_r (r23 i) (r22 I x0 x3 x5 h0 h3 h5 i))) (rfl)

include h0 h1 h3 h4 h5 in
theorem r27 (i : S8192x1024.Idx) : val_main_v27 (F := Ideal) x0 x1 x3 x4 x5 i = ((I.h3 (i 0).val (i 1).val : ℝ) : EReal) := by
  exact to_r (add_r (h0 i) (mul_r (r22 I x0 x3 x5 h0 h3 h5 i) (r16 I x1 x4 h1 h4 i))) (rfl)

include h0 h1 h3 h4 h5 in
theorem r29 (i : S8192.Idx) : val_main_v29 (F := Ideal) x0 x1 x3 x4 x5 i = ((∑ k : Fin 1024, I.h3 (i 0).val k.val * I.h3 (i 0).val k.val : ℝ) : EReal) := by
  exact to_r ((val_main_v29_apply x0 x1 x3 x4 x5 i).trans (zsum_r Ideal.ofBits_zero_f32 fun k => mul_r (r27 I x0 x1 x3 x4 x5 h0 h1 h3 h4 h5 _) (r27 I x0 x1 x3 x4 x5 h0 h1 h3 h4 h5 _))) rfl

theorem r31 (i : S8192x1.Idx) : val_main_v31 (F := Ideal)  i = ((1024 : ℝ) : EReal) := by
  exact (val_main_v31_apply  i).trans bits_1024

theorem r33 (i : S8192x1.Idx) : val_main_v33 (F := Ideal)  i = ((eps : ℝ) : EReal) := by
  exact (val_main_v33_apply  i).trans bits_eps

include h0 h1 h3 h4 h5 in
theorem r34 (i : S8192x1.Idx) : val_main_v34 (F := Ideal) x0 x1 x3 x4 x5 i = ((I.m3 (i 0).val : ℝ) : EReal) := by
  exact to_r (add_r (div_r (by norm_num) ((val_main_v30_apply x0 x1 x3 x4 x5 i).trans (r29 I x0 x1 x3 x4 x5 h0 h1 h3 h4 h5 _)) (r31 i)) (r33 i)) (rfl)

include h0 h1 h3 h4 h5 in
theorem r35 (i : S8192x1.Idx) : val_main_v35 (F := Ideal) x0 x1 x3 x4 x5 i = ((I.r3 (i 0).val : ℝ) : EReal) := by
  exact to_r (rsqrt_r (I.m3_pos _) (r34 I x0 x1 x3 x4 x5 h0 h1 h3 h4 h5 i)) (rfl)

theorem r37 (i : S8192x1.Idx) : val_main_v37 (F := Ideal)  i = ((-(1 / 2) : ℝ) : EReal) := by
  exact (val_main_v37_apply  i).trans bits_neg_half

include h0 h1 h3 h4 h5 in
theorem r38 (i : S8192x1.Idx) : val_main_v38 (F := Ideal) x0 x1 x3 x4 x5 i = ((-(1 / 2) * (I.r3 (i 0).val / I.m3 (i 0).val) : ℝ) : EReal) := by
  exact to_r (mul_r (r37 i) (div_r (I.m3_pos _).ne' (r35 I x0 x1 x3 x4 x5 h0 h1 h3 h4 h5 i) (r34 I x0 x1 x3 x4 x5 h0 h1 h3 h4 h5 i))) (rfl)

include h0 h1 h3 h4 h5 in
theorem r39 (i : S8192x1024.Idx) : val_main_v39 (F := Ideal) x0 x1 x3 x4 x5 i = ((I.r3 (i 0).val : ℝ) : EReal) := by
  exact to_r ((val_main_v39_apply x0 x1 x3 x4 x5 i).trans (r35 I x0 x1 x3 x4 x5 h0 h1 h3 h4 h5 _)) (rfl)

include h0 h1 h3 h4 h5 in
theorem r40 (i : S8192x1024.Idx) : val_main_v40 (F := Ideal) x0 x1 x3 x4 x5 i = ((I.n3 (i 0).val (i 1).val : ℝ) : EReal) := by
  exact to_r (mul_r (r27 I x0 x1 x3 x4 x5 h0 h1 h3 h4 h5 i) (r39 I x0 x1 x3 x4 x5 h0 h1 h3 h4 h5 i)) (rfl)

include h6 in
theorem r41 (i : S8192x1024.Idx) : val_main_v41 (F := Ideal) x6 i = ((I.gf (i 1).val : ℝ) : EReal) := by
  exact (val_main_v41_apply x6 i).trans (h6 _)

include h0 h1 h2 h3 h4 h5 h6 in
theorem r43 (i : S8192x1024.Idx) : val_main_v43 (F := Ideal) x0 x1 x2 x3 x4 x5 x6 i = ((I.er (i 0).val (i 1).val : ℝ) : EReal) := by
  exact to_r (sub_r (mul_r (r40 I x0 x1 x3 x4 x5 h0 h1 h3 h4 h5 i) (r41 I x6 h6 i)) (h2 i)) (rfl)

include h0 h1 h2 h3 h4 h5 h6 in
theorem r44 (i : S8192x1024.Idx) : val_main_v44 (F := Ideal) x0 x1 x2 x3 x4 x5 x6 i = ((I.er (i 0).val (i 1).val * I.er (i 0).val (i 1).val : ℝ) : EReal) := by
  exact to_r (mul_r (r43 I x0 x1 x2 x3 x4 x5 x6 h0 h1 h2 h3 h4 h5 h6 i) (r43 I x0 x1 x2 x3 x4 x5 x6 h0 h1 h2 h3 h4 h5 h6 i)) (rfl)

theorem r45 (i : S8192x1024.Idx) : val_main_v45 (F := Ideal)  i = ((2 : ℝ) : EReal) := by
  exact (val_main_v45_apply  i).trans bits_two

include h0 h1 h2 h3 h4 h5 h6 in
theorem r46 (i : S8192x1024.Idx) : val_main_v46 (F := Ideal) x0 x1 x2 x3 x4 x5 x6 i = ((2 * I.er (i 0).val (i 1).val : ℝ) : EReal) := by
  exact to_r (mul_r (r45 i) (r43 I x0 x1 x2 x3 x4 x5 x6 h0 h1 h2 h3 h4 h5 h6 i)) (rfl)

include h0 h1 h2 h3 h4 h5 h6 in
theorem r47 (i : S8192.Idx) : val_main_v47 (F := Ideal) x0 x1 x2 x3 x4 x5 x6 i = ((∑ k : Fin 1024, I.er (i 0).val k.val * I.er (i 0).val k.val : ℝ) : EReal) := by
  exact to_r ((val_main_v47_apply x0 x1 x2 x3 x4 x5 x6 i).trans (zsum_r Ideal.ofBits_zero_f32 fun k => (r44 I x0 x1 x2 x3 x4 x5 x6 h0 h1 h2 h3 h4 h5 h6 _))) rfl

theorem r48 (i : S8192.Idx) : val_main_v48 (F := Ideal)  i = ((1024 : ℝ) : EReal) := by
  exact (val_main_v48_apply  i).trans bits_1024

include h0 h1 h2 h3 h4 h5 h6 in
theorem r49 (i : S8192.Idx) : val_main_v49 (F := Ideal) x0 x1 x2 x3 x4 x5 x6 i = (((∑ k : Fin 1024, I.er (i 0).val k.val * I.er (i 0).val k.val) / 1024 : ℝ) : EReal) := by
  exact to_r (div_r (by norm_num) (r47 I x0 x1 x2 x3 x4 x5 x6 h0 h1 h2 h3 h4 h5 h6 i) (r48 i)) (rfl)

include h0 h1 h2 h3 h4 h5 h6 in
theorem r51 (i : S_.Idx) : val_main_v51 (F := Ideal) x0 x1 x2 x3 x4 x5 x6 i = ((I.loss : ℝ) : EReal) := by
  have e50 : val_main_v50 (F := Ideal) x0 x1 x2 x3 x4 x5 x6 i = ((∑ j : S8192.Idx, (∑ k : Fin 1024, I.er (j 0).val k.val * I.er (j 0).val k.val) / 1024 : ℝ) : EReal) :=
    (val_main_v50_apply x0 x1 x2 x3 x4 x5 x6 i).trans (zsum_r Ideal.ofBits_zero_f32 fun j => (r49 I x0 x1 x2 x3 x4 x5 x6 h0 h1 h2 h3 h4 h5 h6 j))
  refine to_r (mul_r bits_half e50) ?_
  rw [← Finset.sum_div, sum_rows fun r => ∑ k : Fin 1024, I.er r k.val * I.er r k.val]
  unfold In.loss
  ring

theorem r55 (i : S8192.Idx) : val_main_v55 (F := Ideal)  i = ((1 / 2 * 1 / 1024 : ℝ) : EReal) := by
  exact to_r (div_r (by norm_num) ((val_main_v53_apply  i).trans (mul_r bits_half bits_one)) ((val_main_v54_apply  i).trans bits_1024)) rfl

theorem r56 (i : S8192x1024.Idx) : val_main_v56 (F := Ideal)  i = ((1 / 2 * 1 / 1024 : ℝ) : EReal) := by
  exact to_r ((val_main_v56_apply  i).trans (r55 _)) (rfl)

include h0 h1 h2 h3 h4 h5 h6 in
theorem r57 (i : S8192x1024.Idx) : val_main_v57 (F := Ideal) x0 x1 x2 x3 x4 x5 x6 i = ((I.er (i 0).val (i 1).val * (1 / 1024) : ℝ) : EReal) := by
  exact to_r (mul_r (r56 i) (r46 I x0 x1 x2 x3 x4 x5 x6 h0 h1 h2 h3 h4 h5 h6 i)) (by ring)

include h0 h1 h2 h3 h4 h5 h6 in
theorem r58 (i : S8192x1024.Idx) : val_main_v58 (F := Ideal) x0 x1 x2 x3 x4 x5 x6 i = ((I.n3 (i 0).val (i 1).val * (I.er (i 0).val (i 1).val * (1 / 1024)) : ℝ) : EReal) := by
  exact to_r (mul_r (r40 I x0 x1 x3 x4 x5 h0 h1 h3 h4 h5 i) (r57 I x0 x1 x2 x3 x4 x5 x6 h0 h1 h2 h3 h4 h5 h6 i)) (rfl)

include h0 h1 h2 h3 h4 h5 h6 in
theorem r59 (i : S1024.Idx) : val_main_v59 (F := Ideal) x0 x1 x2 x3 x4 x5 x6 i = ((∑ k : Fin 8192, I.n3 k.val (i 0).val * (I.er k.val (i 0).val * (1 / 1024)) : ℝ) : EReal) := by
  exact to_r ((val_main_v59_apply x0 x1 x2 x3 x4 x5 x6 i).trans (zsum_r Ideal.ofBits_zero_f32 fun k => (r58 I x0 x1 x2 x3 x4 x5 x6 h0 h1 h2 h3 h4 h5 h6 _))) rfl

include h0 h1 h2 h3 h4 h5 h6 in
theorem r60 (i : S1x1024.Idx) : val_main_v60 (F := Ideal) x0 x1 x2 x3 x4 x5 x6 i = ((I.dgf (i 1).val : ℝ) : EReal) := by
  refine to_r ((val_main_v60_apply x0 x1 x2 x3 x4 x5 x6 i).trans (r59 I x0 x1 x2 x3 x4 x5 x6 h0 h1 h2 h3 h4 h5 h6 _)) ?_
  unfold In.dgf
  rw [Finset.sum_mul]
  refine Finset.sum_congr rfl fun k _ => ?_
  show I.n3 k.val _ * (I.er k.val _ * (1 / 1024)) = _
  rw [show (idx_main_v60 i 0).val = (i 1).val by have h : (i 0).val < 1 := (i 0).isLt; show (i 0).val * 1024 + (i 1).val = _; omega]
  ring

include h6 in
theorem r61 (i : S8192x1024.Idx) : val_main_v61 (F := Ideal) x6 i = ((I.gf (i 1).val : ℝ) : EReal) := by
  exact (val_main_v61_apply x6 i).trans (h6 _)

include h0 h1 h2 h3 h4 h5 h6 in
theorem r62 (i : S8192x1024.Idx) : val_main_v62 (F := Ideal) x0 x1 x2 x3 x4 x5 x6 i = ((I.gy (i 0).val (i 1).val : ℝ) : EReal) := by
  exact to_r (mul_r (r57 I x0 x1 x2 x3 x4 x5 x6 h0 h1 h2 h3 h4 h5 h6 i) (r61 I x6 h6 i)) (by unfold In.gy; ring)

include h0 h1 h2 h3 h4 h5 h6 in
theorem r64 (i : S8192.Idx) : val_main_v64 (F := Ideal) x0 x1 x2 x3 x4 x5 x6 i = ((∑ k : Fin 1024, I.h3 (i 0).val k.val * I.gy (i 0).val k.val : ℝ) : EReal) := by
  exact to_r ((val_main_v64_apply x0 x1 x2 x3 x4 x5 x6 i).trans (zsum_r Ideal.ofBits_zero_f32 fun k => mul_r (r27 I x0 x1 x3 x4 x5 h0 h1 h3 h4 h5 _) (r62 I x0 x1 x2 x3 x4 x5 x6 h0 h1 h2 h3 h4 h5 h6 _))) rfl

include h0 h1 h2 h3 h4 h5 h6 in
theorem r65 (i : S8192x1.Idx) : val_main_v65 (F := Ideal) x0 x1 x2 x3 x4 x5 x6 i = ((∑ k : Fin 1024, I.h3 (i 0).val k.val * I.gy (i 0).val k.val : ℝ) : EReal) := by
  refine to_r ((val_main_v65_apply x0 x1 x2 x3 x4 x5 x6 i).trans (r64 I x0 x1 x2 x3 x4 x5 x6 h0 h1 h2 h3 h4 h5 h6 _)) ?_
  rw [show (idx_main_v65 i 0).val = (i 0).val by have h : (i 1).val < 1 := (i 1).isLt; dsimp only; omega]

include h0 h1 h3 h4 h5 in
theorem r66 (i : S8192x1024.Idx) : val_main_v66 (F := Ideal) x0 x1 x3 x4 x5 i = ((I.r3 (i 0).val : ℝ) : EReal) := by
  exact to_r ((val_main_v66_apply x0 x1 x3 x4 x5 i).trans (r35 I x0 x1 x3 x4 x5 h0 h1 h3 h4 h5 _)) (rfl)

theorem r69 (i : S8192x1.Idx) : val_main_v69 (F := Ideal)  i = ((1024 : ℝ) : EReal) := by
  exact (val_main_v69_apply  i).trans bits_1024

include h0 h1 h2 h3 h4 h5 h6 in
theorem r70 (i : S8192x1.Idx) : val_main_v70 (F := Ideal) x0 x1 x2 x3 x4 x5 x6 i = (((∑ k : Fin 1024, I.h3 (i 0).val k.val * I.gy (i 0).val k.val) * (-(1 / 2) * (I.r3 (i 0).val / I.m3 (i 0).val)) / 1024 : ℝ) : EReal) := by
  exact to_r (div_r (by norm_num) (mul_r (r65 I x0 x1 x2 x3 x4 x5 x6 h0 h1 h2 h3 h4 h5 h6 i) (r38 I x0 x1 x3 x4 x5 h0 h1 h3 h4 h5 i)) (r69 i)) (rfl)

include h0 h1 h2 h3 h4 h5 h6 in
theorem r72 (i : S8192x1024.Idx) : val_main_v72 (F := Ideal) x0 x1 x2 x3 x4 x5 x6 i = (((∑ k : Fin 1024, I.h3 (i 0).val k.val * I.gy (i 0).val k.val) * (-(1 / 2) * (I.r3 (i 0).val / I.m3 (i 0).val)) / 1024 : ℝ) : EReal) := by
  refine to_r ((val_main_v72_apply x0 x1 x2 x3 x4 x5 x6 i).trans ((val_main_v71_apply x0 x1 x2 x3 x4 x5 x6 _).trans (zsum_r Ideal.ofBits_zero_f32 fun k => (r70 I x0 x1 x2 x3 x4 x5 x6 h0 h1 h2 h3 h4 h5 h6 _)))) ?_
  rw [Fin.sum_univ_one]

include h0 h1 h2 h3 h4 h5 h6 in
theorem r76 (i : S8192x1024.Idx) : val_main_v76 (F := Ideal) x0 x1 x2 x3 x4 x5 x6 i = ((I.d3 (i 0).val (i 1).val : ℝ) : EReal) := by
  exact to_r (add_r (add_r (mul_r (r62 I x0 x1 x2 x3 x4 x5 x6 h0 h1 h2 h3 h4 h5 h6 i) (r66 I x0 x1 x3 x4 x5 h0 h1 h3 h4 h5 i)) (mul_r (r27 I x0 x1 x3 x4 x5 h0 h1 h3 h4 h5 i) (r72 I x0 x1 x2 x3 x4 x5 x6 h0 h1 h2 h3 h4 h5 h6 i))) (mul_r (r72 I x0 x1 x2 x3 x4 x5 x6 h0 h1 h2 h3 h4 h5 h6 i) (r27 I x0 x1 x3 x4 x5 h0 h1 h3 h4 h5 i))) (I.d3_ref _ _ _ rfl)

include h0 h1 h2 h3 h4 h5 h6 in
theorem r77 (i : S8192x1024.Idx) : val_main_v77 (F := Ideal) x0 x1 x2 x3 x4 x5 x6 i = ((I.de (i 0).val (i 1).val : ℝ) : EReal) := by
  exact to_r (mul_r (r22 I x0 x3 x5 h0 h3 h5 i) (r76 I x0 x1 x2 x3 x4 x5 x6 h0 h1 h2 h3 h4 h5 h6 i)) (mul_comm _ _)

include h0 h1 h2 h3 h4 h5 h6 in
theorem r79 (i : S8192x1024.Idx) : val_main_v79 (F := Ideal) x0 x1 x2 x3 x4 x5 x6 i = ((I.da (i 0).val (i 1).val : ℝ) : EReal) := by
  exact to_r (mul_r (mul_r (r76 I x0 x1 x2 x3 x4 x5 x6 h0 h1 h2 h3 h4 h5 h6 i) (r16 I x1 x4 h1 h4 i)) (r25 I x0 x3 x5 h0 h3 h5 i)) (by unfold In.da In.de; ring)

include h0 h1 h2 h3 h4 h5 h6 in
theorem r80 (i : S8192x1024.Idx) : val_main_v80 (F := Ideal) x0 x1 x2 x3 x4 x5 x6 i = ((I.dn (i 0).val (i 1).val : ℝ) : EReal) := by
  exact to_r ((val_main_v80_apply x0 x1 x2 x3 x4 x5 x6 i).trans (sum_r fun k => mul_r (r79 I x0 x1 x2 x3 x4 x5 x6 h0 h1 h2 h3 h4 h5 h6 _) (h3 _))) rfl

include h0 h1 h2 h3 h4 h5 h6 in
theorem r82 (i : S1024.Idx) : val_main_v82 (F := Ideal) x0 x1 x2 x3 x4 x5 x6 i = ((∑ k : Fin 8192, I.n2 k.val (i 0).val * I.dn k.val (i 0).val : ℝ) : EReal) := by
  exact to_r ((val_main_v82_apply x0 x1 x2 x3 x4 x5 x6 i).trans (zsum_r Ideal.ofBits_zero_f32 fun k => mul_r (r12 I x0 h0 _) (r80 I x0 x1 x2 x3 x4 x5 x6 h0 h1 h2 h3 h4 h5 h6 _))) rfl

include h0 h1 h2 h3 h4 h5 h6 in
theorem r83 (i : S1x1024.Idx) : val_main_v83 (F := Ideal) x0 x1 x2 x3 x4 x5 x6 i = ((I.dgp (i 1).val : ℝ) : EReal) := by
  refine to_r ((val_main_v83_apply x0 x1 x2 x3 x4 x5 x6 i).trans (r82 I x0 x1 x2 x3 x4 x5 x6 h0 h1 h2 h3 h4 h5 h6 _)) ?_
  unfold In.dgp
  refine Finset.sum_congr rfl fun k _ => ?_
  rw [show (idx_main_v83 i 0).val = (i 1).val by have h : (i 0).val < 1 := (i 0).isLt; show (i 0).val * 1024 + (i 1).val = _; omega]
  exact mul_comm _ _

include h5 in
theorem r84 (i : S8192x1024.Idx) : val_main_v84 (F := Ideal) x5 i = ((I.gp (i 1).val : ℝ) : EReal) := by
  exact (val_main_v84_apply x5 i).trans (h5 _)

include h0 h1 h2 h3 h4 h5 h6 in
theorem r85 (i : S8192x1024.Idx) : val_main_v85 (F := Ideal) x0 x1 x2 x3 x4 x5 x6 i = ((I.g2 (i 0).val (i 1).val : ℝ) : EReal) := by
  exact to_r (mul_r (r80 I x0 x1 x2 x3 x4 x5 x6 h0 h1 h2 h3 h4 h5 h6 i) (r84 I x5 h5 i)) (rfl)

include h0 h1 h2 h3 h4 h5 h6 in
theorem r87 (i : S8192.Idx) : val_main_v87 (F := Ideal) x0 x1 x2 x3 x4 x5 x6 i = ((∑ k : Fin 1024, I.h (i 0).val k.val * I.g2 (i 0).val k.val : ℝ) : EReal) := by
  exact to_r ((val_main_v87_apply x0 x1 x2 x3 x4 x5 x6 i).trans (zsum_r Ideal.ofBits_zero_f32 fun k => mul_r (h0 _) (r85 I x0 x1 x2 x3 x4 x5 x6 h0 h1 h2 h3 h4 h5 h6 _))) rfl

include h0 h1 h2 h3 h4 h5 h6 in
theorem r88 (i : S8192x1.Idx) : val_main_v88 (F := Ideal) x0 x1 x2 x3 x4 x5 x6 i = ((∑ k : Fin 1024, I.h (i 0).val k.val * I.g2 (i 0).val k.val : ℝ) : EReal) := by
  refine to_r ((val_main_v88_apply x0 x1 x2 x3 x4 x5 x6 i).trans (r87 I x0 x1 x2 x3 x4 x5 x6 h0 h1 h2 h3 h4 h5 h6 _)) ?_
  rw [show (idx_main_v88 i 0).val = (i 0).val by have h : (i 1).val < 1 := (i 1).isLt; dsimp only; omega]

include h0 in
theorem r89 (i : S8192x1024.Idx) : val_main_v89 (F := Ideal) x0 i = ((I.r2 (i 0).val : ℝ) : EReal) := by
  exact to_r ((val_main_v89_apply x0 i).trans (r7 I x0 h0 _)) (rfl)

theorem r92 (i : S8192x1.Idx) : val_main_v92 (F := Ideal)  i = ((1024 : ℝ) : EReal) := by
  exact (val_main_v92_apply  i).trans bits_1024

include h0 h1 h2 h3 h4 h5 h6 in
theorem r93 (i : S8192x1.Idx) : val_main_v93 (F := Ideal) x0 x1 x2 x3 x4 x5 x6 i = (((∑ k : Fin 1024, I.h (i 0).val k.val * I.g2 (i 0).val k.val) * (-(1 / 2) * (I.r2 (i 0).val / I.m2 (i 0).val)) / 1024 : ℝ) : EReal) := by
  exact to_r (div_r (by norm_num) (mul_r (r88 I x0 x1 x2 x3 x4 x5 x6 h0 h1 h2 h3 h4 h5 h6 i) (r10 I x0 h0 i)) (r92 i)) (rfl)

include h0 h1 h2 h3 h4 h5 h6 in
theorem r95 (i : S8192x1024.Idx) : val_main_v95 (F := Ideal) x0 x1 x2 x3 x4 x5 x6 i = (((∑ k : Fin 1024, I.h (i 0).val k.val * I.g2 (i 0).val k.val) * (-(1 / 2) * (I.r2 (i 0).val / I.m2 (i 0).val)) / 1024 : ℝ) : EReal) := by
  refine to_r ((val_main_v95_apply x0 x1 x2 x3 x4 x5 x6 i).trans ((val_main_v94_apply x0 x1 x2 x3 x4 x5 x6 _).trans (zsum_r Ideal.ofBits_zero_f32 fun k => (r93 I x0 x1 x2 x3 x4 x5 x6 h0 h1 h2 h3 h4 h5 h6 _)))) ?_
  rw [Fin.sum_univ_one]

include h0 h1 h2 h3 h4 h5 h6 in
theorem r99 (i : S8192x1024.Idx) : val_main_v99 (F := Ideal) x0 x1 x2 x3 x4 x5 x6 i = ((I.d2 (i 0).val (i 1).val : ℝ) : EReal) := by
  exact to_r (add_r (add_r (mul_r (r85 I x0 x1 x2 x3 x4 x5 x6 h0 h1 h2 h3 h4 h5 h6 i) (r89 I x0 h0 i)) (mul_r (h0 i) (r95 I x0 x1 x2 x3 x4 x5 x6 h0 h1 h2 h3 h4 h5 h6 i))) (mul_r (r95 I x0 x1 x2 x3 x4 x5 x6 h0 h1 h2 h3 h4 h5 h6 i) (h0 i))) (I.d2_ref _ _ _ rfl)

include h0 h1 h2 h3 h4 h5 h6 in
theorem r100 (i : S8192x1024.Idx) : val_main_v100 (F := Ideal) x0 x1 x2 x3 x4 x5 x6 i = ((I.dh (i 0).val (i 1).val : ℝ) : EReal) := by
  exact to_r (add_r (r76 I x0 x1 x2 x3 x4 x5 x6 h0 h1 h2 h3 h4 h5 h6 i) (r99 I x0 x1 x2 x3 x4 x5 x6 h0 h1 h2 h3 h4 h5 h6 i)) (rfl)

include h0 h1 h2 h3 h4 h5 h6 in
theorem r101 (i : S8192x1024.Idx) : val_main_v101 (F := Ideal) x0 x1 x2 x3 x4 x5 x6 i = ((I.da (i 0).val (i 1).val : ℝ) : EReal) := by
  exact (r79 I x0 x1 x2 x3 x4 x5 x6 h0 h1 h2 h3 h4 h5 h6 i)

include h0 h1 h2 h3 h4 h5 h6 in
theorem r102 (i : S8192x1024.Idx) : val_main_v102 (F := Ideal) x0 x1 x2 x3 x4 x5 x6 i = ((I.de (i 0).val (i 1).val : ℝ) : EReal) := by
  exact (r77 I x0 x1 x2 x3 x4 x5 x6 h0 h1 h2 h3 h4 h5 h6 i)

include h0 h1 h2 h3 h4 h5 h6 in
theorem r103 (i : S8192x1024.Idx) : val_main_v103 (F := Ideal) x0 x1 x2 x3 x4 x5 x6 i = ((I.dh (i 0).val (i 1).val : ℝ) : EReal) := by
  exact (r100 I x0 x1 x2 x3 x4 x5 x6 h0 h1 h2 h3 h4 h5 h6 i)

end

end Cert.Head.Ref
-- ==== Proof.HeadVal.lean ====
/-
  The head kernel's run at the ideal values: the blocks its body reads, and what the four arrays written tile by tile end
  holding.
-/
module

public import proofs.«01_k».proof.Proof.HeadBody
public import proofs.«01_k».proof.Proof.HeadRef
public import proofs.«01_k».proof.Proof.Gen.KernelIdeal.Frame
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Tactic

@[expose] public section

noncomputable section

open scoped BigOperators

namespace Cert.Head.Val

open Cert.Gate Cert.Head Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-! ## The arrays the kernel is entered with -/

theorem V_arg0 : V m c main_arg0 = m ((c.tc : Thread nD τ).loc main_arg0) := by
  show StableHlo.after hostOps0 _ (Proc.devRef .tc main_arg0) = _
  after_results
theorem V_arg1 : V m c main_arg1 = m ((c.tc : Thread nD τ).loc main_arg1) := by
  show StableHlo.after hostOps0 _ (Proc.devRef .tc main_arg1) = _
  after_results
theorem V_arg2 : V m c main_arg2 = m ((c.tc : Thread nD τ).loc main_arg2) := by
  show StableHlo.after hostOps0 _ (Proc.devRef .tc main_arg2) = _
  after_results
theorem V_arg5 : V m c main_arg5 = m ((c.tc : Thread nD τ).loc main_arg5) := by
  show StableHlo.after hostOps0 _ (Proc.devRef .tc main_arg5) = _
  after_results
theorem V_arg6 : V m c main_arg6 = m ((c.tc : Thread nD τ).loc main_arg6) := by
  show StableHlo.after hostOps0 _ (Proc.devRef .tc main_arg6) = _
  after_results
theorem V_v13 : V m c main_v13 = truncf (F := Ideal) .bf16 (m ((c.tc : Thread nD τ).loc main_arg3)) bitsLt_bf16_f32 := by
  show StableHlo.after hostOps0 _ (Proc.devRef .tc main_v13) = _
  after_results
theorem V_v14 : V m c main_v14 = truncf (F := Ideal) .bf16 (m ((c.tc : Thread nD τ).loc main_arg4)) bitsLt_bf16_f32 := by
  show StableHlo.after hostOps0 _ (Proc.devRef .tc main_v14) = _
  after_results
theorem V_v12 : V m c main_v12 = truncf (F := Ideal) .bf16 (Cert.ReferenceIdeal.Read.val_main_v14 (F := Ideal)
    (m ((c.tc : Thread nD τ).loc main_arg0)) (m ((c.tc : Thread nD τ).loc main_arg5))) bitsLt_bf16_f32 := by
  show StableHlo.after hostOps0 _ (Proc.devRef .tc main_v12) = _
  after_results
  rfl

/-! ## The blocks the body reads -/

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem lt16 (t : Fin cfg0.N) : t.val < 16 := t.isLt.trans_eq N_0

theorem b0 (t : Fin cfg0.N) (i : S512x1024.Idx) (h : 512 * t.val + (i 0).val < 8192) :
    (iblk m c 0 t : Vec Ideal S512x1024 .bf16) i = V m c main_v12 (ValueIdx.ix2 (⟨512 * t.val + (i 0).val, h⟩ : Fin 8192) (i 1)) := by
  unfold iblk
  blk_simp [e0 t]
  congr 1
  blk_ext [e0 t]
theorem b1 (t : Fin cfg0.N) (i : S1024x1024.Idx) : (iblk m c 1 t : Vec Ideal S1024x1024 .bf16) i = V m c main_v13 i := by
  unfold iblk
  blk_simp [e1 t]
  congr 1
  blk_ext [e1 t]
theorem b2 (t : Fin cfg0.N) (i : S512x256.Idx) (h : 512 * t.val + (i 0).val < 8192) :
    (iblk m c 2 t : Vec Ideal S512x256 .f32) i = V m c main_arg1 (ValueIdx.ix2 (⟨512 * t.val + (i 0).val, h⟩ : Fin 8192) (i 1)) := by
  unfold iblk
  blk_simp [e2 t]
  congr 1
  blk_ext [e2 t]
theorem b3 (t : Fin cfg0.N) (i : S256x1024.Idx) : (iblk m c 3 t : Vec Ideal S256x1024 .bf16) i = V m c main_v14 i := by
  unfold iblk
  blk_simp [e3 t]
  congr 1
  blk_ext [e3 t]
theorem b4 (t : Fin cfg0.N) (i : S512x1024.Idx) (h : 512 * t.val + (i 0).val < 8192) :
    (iblk m c 4 t : Vec Ideal S512x1024 .f32) i = V m c main_arg0 (ValueIdx.ix2 (⟨512 * t.val + (i 0).val, h⟩ : Fin 8192) (i 1)) := by
  unfold iblk
  blk_simp [e4 t]
  congr 1
  blk_ext [e4 t]
theorem b5 (t : Fin cfg0.N) (i : S512x1024.Idx) (h : 512 * t.val + (i 0).val < 8192) :
    (iblk m c 5 t : Vec Ideal S512x1024 .f32) i = V m c main_arg2 (ValueIdx.ix2 (⟨512 * t.val + (i 0).val, h⟩ : Fin 8192) (i 1)) := by
  unfold iblk
  blk_simp [e5 t]
  congr 1
  blk_ext [e5 t]
theorem b6 (t : Fin cfg0.N) (i : S1x1024.Idx) : (iblk m c 6 t : Vec Ideal S1x1024 .f32) i = V m c main_arg6 i := by
  unfold iblk
  blk_simp [e6 t]
  congr 1
  blk_ext [e6 t]
theorem b7 (t : Fin cfg0.N) (i : S1x1024.Idx) : (iblk m c 7 t : Vec Ideal S1x1024 .f32) i = V m c main_arg5 i := by
  unfold iblk
  blk_simp [e7 t]
  congr 1
  blk_ext [e7 t]

variable (I : In)

/-- The argument arrays hold the real inputs. -/
structure Args : Prop where
  a0 : ∀ i, m ((c.tc : Thread nD τ).loc main_arg0) i = ((I.h (i 0).val (i 1).val : ℝ) : EReal)
  a1 : ∀ i, m ((c.tc : Thread nD τ).loc main_arg1) i = ((I.p (i 0).val (i 1).val : ℝ) : EReal)
  a2 : ∀ i, m ((c.tc : Thread nD τ).loc main_arg2) i = ((I.tg (i 0).val (i 1).val : ℝ) : EReal)
  a3 : ∀ i, m ((c.tc : Thread nD τ).loc main_arg3) i = ((I.wg (i 0).val (i 1).val : ℝ) : EReal)
  a4 : ∀ i, m ((c.tc : Thread nD τ).loc main_arg4) i = ((I.wp (i 0).val (i 1).val : ℝ) : EReal)
  a5 : ∀ i, m ((c.tc : Thread nD τ).loc main_arg5) i = ((I.gp (i 1).val : ℝ) : EReal)
  a6 : ∀ i, m ((c.tc : Thread nD τ).loc main_arg6) i = ((I.gf (i 1).val : ℝ) : EReal)

variable (A : Args m c I)

include A

theorem holds (t : Fin cfg0.N) : Body.Holds I (512 * t.val) (iblk m c 0 t) (iblk m c 1 t) (iblk m c 2 t) (iblk m c 3 t)
    (iblk m c 4 t) (iblk m c 5 t) (iblk m c 6 t) (iblk m c 7 t) := by
  have ht := lt16 t
  constructor
  · intro i
    have hi : (i 0).val < 512 := (i 0).isLt
    refine (b0 m c t i (by omega)).trans ?_
    rw [V_v12]
    exact Ref.r14 I _ _ A.a0 A.a5 _
  · intro i
    refine (b1 m c t i).trans ?_
    rw [V_v13]
    exact A.a3 i
  · intro i
    have hi : (i 0).val < 512 := (i 0).isLt
    refine (b2 m c t i (by omega)).trans ?_
    rw [V_arg1]
    exact A.a1 _
  · intro i
    refine (b3 m c t i).trans ?_
    rw [V_v14]
    exact A.a4 i
  · intro i
    have hi : (i 0).val < 512 := (i 0).isLt
    refine (b4 m c t i (by omega)).trans ?_
    rw [V_arg0]
    exact A.a0 _
  · intro i
    have hi : (i 0).val < 512 := (i 0).isLt
    refine (b5 m c t i (by omega)).trans ?_
    rw [V_arg2]
    exact A.a2 _
  · intro i
    refine (b6 m c t i).trans ?_
    rw [V_arg6]
    exact A.a6 i
  · intro i
    refine (b7 m c t i).trans ?_
    rw [V_arg5]
    exact A.a5 i

/-! ## The row tiles -/

theorem o8 (t : Fin cfg0.N) (y : S512x1024.Idx) : (outsAt0 m c t.val t.isLt).1 y = ((I.da (512 * t.val + (y 0).val) (y 1).val : ℝ) : EReal) := by
  have H := holds m c I A t
  have ht := lt16 t
  by_cases h : t.val % 16 = 0
  · rw [outsAt0_A m c t h (by omega) h (by omega) h (by omega)]; frame_out
    exact Body.p12 I _ _ _ _ _ _ _ _ _ H y
  · rw [outsAt0_B m c t h (by omega) h (by omega) h (by omega)]; frame_out
    exact Body.p12 I _ _ _ _ _ _ _ _ _ H y

theorem arr8 : (dats m 0 c).arrAt 8 cfg0.N = (fun i => ((I.da (i 0).val (i 1).val : ℝ) : EReal) : S8192x1024.Idx → EReal) := by
  refine (dats m 0 c).arrAt_eq_of_covers 8 _ (by decide +kernel) fun t hf y => ?_
  blk_simp
  rw [after0_8]
  refine (o8 m c I A t y).trans ?_
  blk_simp [e8 t]
  rw [Nat.mul_comm 512]

theorem o9 (t : Fin cfg0.N) (y : S512x1024.Idx) : (outsAt0 m c t.val t.isLt).2.1 y = ((I.de (512 * t.val + (y 0).val) (y 1).val : ℝ) : EReal) := by
  have H := holds m c I A t
  have ht := lt16 t
  by_cases h : t.val % 16 = 0
  · rw [outsAt0_A m c t h (by omega) h (by omega) h (by omega)]; frame_out
    exact Body.p11 I _ _ _ _ _ _ _ _ _ H y
  · rw [outsAt0_B m c t h (by omega) h (by omega) h (by omega)]; frame_out
    exact Body.p11 I _ _ _ _ _ _ _ _ _ H y

theorem arr9 : (dats m 0 c).arrAt 9 cfg0.N = (fun i => ((I.de (i 0).val (i 1).val : ℝ) : EReal) : S8192x1024.Idx → EReal) := by
  refine (dats m 0 c).arrAt_eq_of_covers 9 _ (by decide +kernel) fun t hf y => ?_
  blk_simp
  rw [after0_9]
  refine (o9 m c I A t y).trans ?_
  blk_simp [e9 t]
  rw [Nat.mul_comm 512]

theorem o10 (t : Fin cfg0.N) (y : S512x1024.Idx) : (outsAt0 m c t.val t.isLt).2.2.1 y = ((I.dh (512 * t.val + (y 0).val) (y 1).val : ℝ) : EReal) := by
  have H := holds m c I A t
  have ht := lt16 t
  by_cases h : t.val % 16 = 0
  · rw [outsAt0_A m c t h (by omega) h (by omega) h (by omega)]; frame_out
    exact Body.p17 I _ _ _ _ _ _ _ _ _ H y
  · rw [outsAt0_B m c t h (by omega) h (by omega) h (by omega)]; frame_out
    exact Body.p17 I _ _ _ _ _ _ _ _ _ H y

theorem arr10 : (dats m 0 c).arrAt 10 cfg0.N = (fun i => ((I.dh (i 0).val (i 1).val : ℝ) : EReal) : S8192x1024.Idx → EReal) := by
  refine (dats m 0 c).arrAt_eq_of_covers 10 _ (by decide +kernel) fun t hf y => ?_
  blk_simp
  rw [after0_10]
  refine (o10 m c I A t y).trans ?_
  blk_simp [e10 t]
  rw [Nat.mul_comm 512]

theorem o11 (t : Fin cfg0.N) (y : S512x1024.Idx) : (outsAt0 m c t.val t.isLt).2.2.2.1 y = ((I.dh (512 * t.val + (y 0).val) (y 1).val : ℝ) : EReal) := by
  have H := holds m c I A t
  have ht := lt16 t
  by_cases h : t.val % 16 = 0
  · rw [outsAt0_A m c t h (by omega) h (by omega) h (by omega)]; frame_out
    exact Body.p17 I _ _ _ _ _ _ _ _ _ H y
  · rw [outsAt0_B m c t h (by omega) h (by omega) h (by omega)]; frame_out
    exact Body.p17 I _ _ _ _ _ _ _ _ _ H y

theorem arr11 : (dats m 0 c).arrAt 11 cfg0.N = (fun i => ((I.dh (i 0).val (i 1).val : ℝ) : EReal) : S8192x1024.Idx → EReal) := by
  refine (dats m 0 c).arrAt_eq_of_covers 11 _ (by decide +kernel) fun t hf y => ?_
  blk_simp
  rw [after0_11]
  refine (o11 m c I A t y).trans ?_
  blk_simp [e11 t]
  rw [Nat.mul_comm 512]

end Cert.Head.Val
-- ==== Proof.HeadAcc.lean ====
/-
  The head kernel's three running sums at the ideal values: what their arrays end holding.
-/
module

public import proofs.«01_k».proof.Proof.HeadVal
public import proofs.«01_k».proof.Proof.Gen.KernelIdeal.Frame
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Tactic

@[expose] public section

noncomputable section

open scoped BigOperators

namespace Cert.Head.Val

open Cert.Gate Cert.Head Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

variable (I : In) (A : Args m c I)

include A

/-! ## The running sums -/

theorem o12 (y : S8x1024.Idx) : (outsAt0 m c t0_15.val t0_15.isLt).2.2.2.2.1 y
    = (((∑ q : Fin 1024, I.er (8 * q.val + (y 0).val) (y 1).val * I.er (8 * q.val + (y 0).val) (y 1).val) : ℝ) : EReal) := by
  rw [Pipeline.eq_sum_fin_of_reset_step_apply_last (fun n h => (outsAt0 m c n h).2.2.2.2.1) 16 (fun _ => (0 : EReal))
    (fun t y => (((∑ k : Fin 64, I.er (512 * t.val + (8 * k.val + (y 0).val)) (y 1).val * I.er (512 * t.val + (8 * k.val + (y 0).val)) (y 1).val) : ℝ) : EReal))
    (fun t h y => by
      have H := holds m c I A t
      have ht := lt16 t
      dsimp only
      rw [outsAt0_A m c t h (by omega) h (by omega) h (by omega)]; frame_out
      rw [zero_add]
      exact Body.p19 I _ _ _ _ _ _ _ _ _ H y)
    (fun t h y => by
      have H := holds m c I A t
      have ht := lt16 t
      dsimp only
      rw [outsAt0_B m c t h (by omega) h (by omega) h (by omega)]; frame_out
      refine (Body.p24 I _ _ _ _ _ _ _ _ _ H _ y).trans (congrArg (_ + ·) ?_)
      exact Body.p19 I _ _ _ _ _ _ _ _ _ H y)
    (le_of_eq N_0) t0_15 rfl y, zero_add]
  refine to_r (sum_r fun t => rfl) ?_

  refine Eq.trans ?_ (sum_split 16 64 fun q => I.er (8 * q + (y 0).val) (y 1).val * I.er (8 * q + (y 0).val) (y 1).val).symm
  refine (Fintype.sum_equiv (finCongr N_0) _ _ fun t => ?_)
  refine Finset.sum_congr rfl fun k _ => ?_
  have e : 512 * t.val + (8 * k.val + (y 0).val) = 8 * (64 * t.val + k.val) + (y 0).val := by ring
  rw [e]; rfl

theorem arr12 : (dats m 0 c).arrAt 12 cfg0.N = (fun y => (((∑ q : Fin 1024, I.er (8 * q.val + (y 0).val) (y 1).val * I.er (8 * q.val + (y 0).val) (y 1).val) : ℝ) : EReal) : S8x1024.Idx → EReal) := by
  refine (dats m 0 c).arrAt_eq_of_after_last 12 t0_15 (by decide +kernel) _ fun y => ?_
  blk_simp
  rw [after0_12]
  exact o12 m c I A y

theorem o13 (y : S8x1024.Idx) : (outsAt0 m c t0_15.val t0_15.isLt).2.2.2.2.2.1 y
    = (((∑ q : Fin 1024, I.er (8 * q.val + (y 0).val) (y 1).val * I.n3 (8 * q.val + (y 0).val) (y 1).val) * (1 / 1024) : ℝ) : EReal) := by
  rw [Pipeline.eq_sum_fin_of_reset_step_apply_last (fun n h => (outsAt0 m c n h).2.2.2.2.2.1) 16 (fun _ => (0 : EReal))
    (fun t y => (((∑ k : Fin 64, I.er (512 * t.val + (8 * k.val + (y 0).val)) (y 1).val * I.n3 (512 * t.val + (8 * k.val + (y 0).val)) (y 1).val) * (1 / 1024) : ℝ) : EReal))
    (fun t h y => by
      have H := holds m c I A t
      have ht := lt16 t
      dsimp only
      rw [outsAt0_A m c t h (by omega) h (by omega) h (by omega)]; frame_out
      rw [zero_add]
      exact Body.p20 I _ _ _ _ _ _ _ _ _ H y)
    (fun t h y => by
      have H := holds m c I A t
      have ht := lt16 t
      dsimp only
      rw [outsAt0_B m c t h (by omega) h (by omega) h (by omega)]; frame_out
      refine (Body.p25 I _ _ _ _ _ _ _ _ _ H _ y).trans (congrArg (_ + ·) ?_)
      exact Body.p20 I _ _ _ _ _ _ _ _ _ H y)
    (le_of_eq N_0) t0_15 rfl y, zero_add]
  refine to_r (sum_r fun t => rfl) ?_
  rw [← Finset.sum_mul]; congr 1
  refine Eq.trans ?_ (sum_split 16 64 fun q => I.er (8 * q + (y 0).val) (y 1).val * I.n3 (8 * q + (y 0).val) (y 1).val).symm
  refine (Fintype.sum_equiv (finCongr N_0) _ _ fun t => ?_)
  refine Finset.sum_congr rfl fun k _ => ?_
  have e : 512 * t.val + (8 * k.val + (y 0).val) = 8 * (64 * t.val + k.val) + (y 0).val := by ring
  rw [e]; rfl

theorem arr13 : (dats m 0 c).arrAt 13 cfg0.N = (fun y => (((∑ q : Fin 1024, I.er (8 * q.val + (y 0).val) (y 1).val * I.n3 (8 * q.val + (y 0).val) (y 1).val) * (1 / 1024) : ℝ) : EReal) : S8x1024.Idx → EReal) := by
  refine (dats m 0 c).arrAt_eq_of_after_last 13 t0_15 (by decide +kernel) _ fun y => ?_
  blk_simp
  rw [after0_13]
  exact o13 m c I A y

theorem o14 (y : S8x1024.Idx) : (outsAt0 m c t0_15.val t0_15.isLt).2.2.2.2.2.2 y
    = (((∑ q : Fin 1024, I.dn (8 * q.val + (y 0).val) (y 1).val * I.n2 (8 * q.val + (y 0).val) (y 1).val) : ℝ) : EReal) := by
  rw [Pipeline.eq_sum_fin_of_reset_step_apply_last (fun n h => (outsAt0 m c n h).2.2.2.2.2.2) 16 (fun _ => (0 : EReal))
    (fun t y => (((∑ k : Fin 64, I.dn (512 * t.val + (8 * k.val + (y 0).val)) (y 1).val * I.n2 (512 * t.val + (8 * k.val + (y 0).val)) (y 1).val) : ℝ) : EReal))
    (fun t h y => by
      have H := holds m c I A t
      have ht := lt16 t
      dsimp only
      rw [outsAt0_A m c t h (by omega) h (by omega) h (by omega)]; frame_out
      rw [zero_add]
      exact Body.p16 I _ _ _ _ _ _ _ _ _ H y)
    (fun t h y => by
      have H := holds m c I A t
      have ht := lt16 t
      dsimp only
      rw [outsAt0_B m c t h (by omega) h (by omega) h (by omega)]; frame_out
      refine (Body.p1 _ _ y).trans (congrArg (_ + ·) ?_)
      exact Body.p16 I _ _ _ _ _ _ _ _ _ H y)
    (le_of_eq N_0) t0_15 rfl y, zero_add]
  refine to_r (sum_r fun t => rfl) ?_

  refine Eq.trans ?_ (sum_split 16 64 fun q => I.dn (8 * q + (y 0).val) (y 1).val * I.n2 (8 * q + (y 0).val) (y 1).val).symm
  refine (Fintype.sum_equiv (finCongr N_0) _ _ fun t => ?_)
  refine Finset.sum_congr rfl fun k _ => ?_
  have e : 512 * t.val + (8 * k.val + (y 0).val) = 8 * (64 * t.val + k.val) + (y 0).val := by ring
  rw [e]; rfl

theorem arr14 : (dats m 0 c).arrAt 14 cfg0.N = (fun y => (((∑ q : Fin 1024, I.dn (8 * q.val + (y 0).val) (y 1).val * I.n2 (8 * q.val + (y 0).val) (y 1).val) : ℝ) : EReal) : S8x1024.Idx → EReal) := by
  refine (dats m 0 c).arrAt_eq_of_after_last 14 t0_15 (by decide +kernel) _ fun y => ?_
  blk_simp
  rw [after0_14]
  exact o14 m c I A y

end Cert.Head.Val
-- ==== Proof.HeadRun.lean ====
/-
  The head kernel's run at the ideal values: its seven results, the host's sums over the partial rows included.
-/
module

public import proofs.«01_k».proof.Proof.HeadAcc
public import proofs.«01_k».proof.Proof.Gen.KernelIdeal.Frame
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.Run
public import Idealize.ShloMosaic.Lib.Tactic

@[expose] public section

noncomputable section

open scoped BigOperators

namespace Cert.Head.Val

open Cert.Gate Cert.Head Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

variable (I : In) (A : Args m c I)

/-- Partial rows summed eight apart, summed over the eight. -/
theorem eight (f : ℕ → ℝ) : ∑ a : Fin 8, ∑ q : Fin 1024, f (8 * q.val + a.val) = ∑ r : Fin 8192, f r.val := by
  rw [Finset.sum_comm]
  exact (sum_split 1024 8 f).symm

theorem eight2 (G : ℕ → ℕ → ℝ) : ∑ a : Fin 8, ∑ b : Fin 1024, ∑ q : Fin 1024, G (8 * q.val + a.val) b.val
    = ∑ r : Fin 8192, ∑ b : Fin 1024, G r.val b.val :=
  Finset.sum_comm.trans ((Finset.sum_congr rfl fun b _ => eight fun r => G r b.val).trans Finset.sum_comm)

variable {r : PUnit.{1} × MemSt nD τ sig (Elt Ideal)}
  (h : Pipeline.FramePost cfgs (dats m) 0 (Pipeline.afterTail₀ cfgs (dats m) 0 (V0 m) [hostOps1]) r)

theorem colsum (x : FVec Ideal S8x1024 .f32) (f : ℕ → ℕ → ℝ) (hx : ∀ i, x i = ((f (i 0).val (i 1).val : ℝ) : EReal)) (i : S1x1024.Idx) :
    broadcastInDim S1x1024 ![1] bcast_S1024_S1x1024_1 (Host.reduceAdd x (constant S_ .f32 0x00000000#32) reducesTo_S8x1024_S1024_d0 h_S_) i
      = ((∑ a : Fin 8, f a.val (i 1).val : ℝ) : EReal) := by
  rw [broadcastInDim_apply _ bcast_S1024_S1x1024_1 _ i (fun a => match a with | ⟨0, _⟩ => ⟨(i 1).val, (i 1).isLt⟩)
    (fun a => match a with | ⟨0, _⟩ => by show (i 1).val = if (1024 : Nat) = 1 then 0 else (i 1).val; rw [if_neg (by decide)])]
  simp only [Host.reduceAdd, Ideal.hostReduceAdd_def]
  rw [Ideal.hostReduceAdd_single reducesTo_S8x1024_S1024_d0 (by decide)]
  exact zsum_r Ideal.ofBits_zero_f32 fun k => hx _

theorem total (x : FVec Ideal S8x1024 .f32) (f : ℕ → ℕ → ℝ) (hx : ∀ i, x i = ((f (i 0).val (i 1).val : ℝ) : EReal)) (i : S_.Idx) :
    Host.reduceAdd x (constant S_ .f32 0x00000000#32) reducesTo_S8x1024_S_d0_1 h_S_ i
      = ((∑ a : Fin 8, ∑ b : Fin 1024, f a.val b.val : ℝ) : EReal) := by
  simp only [Host.reduceAdd, Ideal.hostReduceAdd_def]
  rw [Ideal.hostReduceAdd_total reducesTo_S8x1024_S_d0_1 (fun b => b.elim0)]
  refine to_r (zsum_r Ideal.ofBits_zero_f32 fun k => hx k) ?_
  exact Idealize.ShloMosaic.sum_idx2 _

include h A

theorem res17 : r.2.mem ((c.tc : Thread nD τ).loc main_v17) = (fun i => ((I.loss : ℝ) : EReal) : S_.Idx → EReal) := by
  rw [Pipeline.FramePost.rest_eq h c main_v17 (by decide)]
  unfold Pipeline.afterTail₀
  show StableHlo.after hostOps1 _ (Proc.devRef .tc main_v17) = _
  after_results
  rw [show Pipeline.withArrays (cfgs 0).spec c (V0 m c) (fun w => (dats m 0 c).arrAt w (cfgs 0).N) (Proc.devRef .tc main_v15_4) = (dats m 0 c).arrAt 12 cfg0.N from
    Pipeline.withArrays_arr (cfgs 0).spec launch0.win.arr_inj c _ _ 12, arr12 m c I A]
  funext i
  refine to_r (mul_r (total _ (fun a b => ∑ q : Fin 1024, I.er (8 * q.val + a) b * I.er (8 * q.val + a) b) (fun _ => rfl) i) bits_2048th) ?_
  exact congrArg (· * (1 / 2048 : ℝ)) (eight2 fun r b => I.er r b * I.er r b)

theorem res19 : r.2.mem ((c.tc : Thread nD τ).loc main_v19) = (fun i => ((I.dgp (i 1).val : ℝ) : EReal) : S1x1024.Idx → EReal) := by
  rw [Pipeline.FramePost.rest_eq h c main_v19 (by decide)]
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.devRef .tc main_v15_6) = (dats m 0 c).arrAt 14 cfg0.N from
    Pipeline.withArrays_arr (cfgs 0).spec launch0.win.arr_inj c _ _ 14, arr14 m c I A]
  funext i
  refine to_r (colsum _ (fun a b => ∑ q : Fin 1024, I.dn (8 * q.val + a) b * I.n2 (8 * q.val + a) b) (fun _ => rfl) i) ?_
  exact eight fun r => I.dn r (i 1).val * I.n2 r (i 1).val

theorem res21 : r.2.mem ((c.tc : Thread nD τ).loc main_v21) = (fun i => ((I.dgf (i 1).val : ℝ) : EReal) : S1x1024.Idx → EReal) := by
  rw [Pipeline.FramePost.rest_eq h c main_v21 (by decide)]
  unfold Pipeline.afterTail₀
  show StableHlo.after hostOps1 _ (Proc.devRef .tc main_v21) = _
  after_results
  rw [show Pipeline.withArrays (cfgs 0).spec c (V0 m c) (fun w => (dats m 0 c).arrAt w (cfgs 0).N) (Proc.devRef .tc main_v15_5) = (dats m 0 c).arrAt 13 cfg0.N from
    Pipeline.withArrays_arr (cfgs 0).spec launch0.win.arr_inj c _ _ 13, arr13 m c I A]
  funext i
  refine to_r (colsum _ (fun a b => (∑ q : Fin 1024, I.er (8 * q.val + a) b * I.n3 (8 * q.val + a) b) * (1 / 1024)) (fun _ => rfl) i) ?_
  rw [← Finset.sum_mul]
  exact congrArg (· * (1 / 1024 : ℝ)) (eight fun r => I.er r (i 1).val * I.n3 r (i 1).val)

end Cert.Head.Val
-- ==== Proof.Algebraic.lean ====
/-
  The head kernel and its reference end with the same seven results, at the ideal values, from the same finite arrays.
-/
module

public import proofs.«01_k».proof.Defs
public import proofs.«01_k».proof.Proof.Finite
public import proofs.«01_k».proof.Proof.HeadRun
public import proofs.«01_k».proof.Proof.HeadRef
public import proofs.«01_k».proof.Proof.Gen.ReferenceIdeal.Run
public import proofs.«01_k».proof.Proof.Gen.ReferenceIdeal.Read

@[expose] public section

noncomputable section

namespace Cert.Head

open Cert.Gate Idealize.ShloMosaic Idealize.SL.Sem

/-- Each device's argument arrays, as real inputs. -/
theorem inputs (m : (ℓ : Loc Cert.KernelIdeal.nD Cert.KernelIdeal.τ Cert.KernelIdeal.sig) → Buf (Elt Ideal) ℓ)
    (hp : Pre_KernelIdeal_finite (hPre_finite := Cert.Pre_finite.Gen.facts) m) (c : Dev Cert.KernelIdeal.nD) : ∃ I : In, Val.Args m c I := by
  obtain ⟨⟨f0, h0⟩, ⟨f1, h1⟩, ⟨f2, h2⟩, ⟨f3, h3⟩, ⟨f4, h4⟩, ⟨f5, h5⟩, ⟨f6, h6⟩⟩ := Cert.Finite.split _ _ _ _ _ _ _ (hp c)
  refine ⟨⟨f0, f1, f2, f3, f4, f5 0, f6 0⟩, h0, h1, h2, h3, h4, fun i => ?_, fun i => ?_⟩
  · refine (h5 i).trans ?_
    rw [show (i 0).val = 0 from by have h : (i 0).val < 1 := (i 0).isLt; omega]
  · refine (h6 i).trans ?_
    rw [show (i 0).val = 0 from by have h : (i 0).val < 1 := (i 0).isLt; omega]

theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  choose I A using inputs m hp
  refine ⟨fun c _ => (((I c).loss : ℝ) : EReal), fun c i => (((I c).da (i 0).val (i 1).val : ℝ) : EReal),
    fun c i => (((I c).de (i 0).val (i 1).val : ℝ) : EReal), fun c i => (((I c).dh (i 0).val (i 1).val : ℝ) : EReal),
    fun c i => (((I c).dh (i 0).val (i 1).val : ℝ) : EReal), fun c i => (((I c).dgp (i 1).val : ℝ) : EReal),
    fun c i => (((I c).dgf (i 1).val : ℝ) : EReal), ?_, ?_⟩
  · refine (θ_run _ _ _).mono ?_ (θ_run_and (Cert.KernelIdeal.Gen.run_main m g) (Cert.KernelIdeal.Gen.frame m g))
    rintro r ⟨h, hf, -⟩ c
    exact ⟨Val.res17 m c (I c) (A c) h, (h.out_eq c 8).trans (Val.arr8 m c (I c) (A c)), (h.out_eq c 9).trans (Val.arr9 m c (I c) (A c)),
      (h.out_eq c 10).trans (Val.arr10 m c (I c) (A c)), (h.out_eq c 11).trans (Val.arr11 m c (I c) (A c)),
      Val.res19 m c (I c) (A c) h, Val.res21 m c (I c) (A c) h, hf c⟩
  · refine (θ_run _ _ _).mono ?_ (Cert.ReferenceIdeal.Value.run (F := Ideal) m' g')
    intro r h c
    obtain ⟨k0, k1, k2, k3, k4, k5, k6, kf⟩ := h c
    obtain ⟨q0, q1, q2, q3, q4, q5, q6⟩ := hm c
    have a0 := (A c).a0; have a1 := (A c).a1; have a2 := (A c).a2; have a3 := (A c).a3
    have a4 := (A c).a4; have a5 := (A c).a5; have a6 := (A c).a6
    rw [← q0] at a0; rw [← q1] at a1; rw [← q2] at a2; rw [← q3] at a3; rw [← q4] at a4; rw [← q5] at a5; rw [← q6] at a6
    refine ⟨k0.trans (funext fun i => ?_), k1.trans (funext fun i => ?_), k2.trans (funext fun i => ?_), k3.trans (funext fun i => ?_),
      k4.trans (funext fun i => ?_), k5.trans (funext fun i => ?_), k6.trans (funext fun i => ?_), kf⟩
    · exact Ref.r51 (I c) _ _ _ _ _ _ _ a0 a1 a2 a3 a4 a5 a6 i
    · exact Ref.r101 (I c) _ _ _ _ _ _ _ a0 a1 a2 a3 a4 a5 a6 i
    · exact Ref.r102 (I c) _ _ _ _ _ _ _ a0 a1 a2 a3 a4 a5 a6 i
    · exact Ref.r100 (I c) _ _ _ _ _ _ _ a0 a1 a2 a3 a4 a5 a6 i
    · exact Ref.r103 (I c) _ _ _ _ _ _ _ a0 a1 a2 a3 a4 a5 a6 i
    · exact Ref.r83 (I c) _ _ _ _ _ _ _ a0 a1 a2 a3 a4 a5 a6 i
    · exact Ref.r60 (I c) _ _ _ _ _ _ _ a0 a1 a2 a3 a4 a5 a6 i

end Cert.Head
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DFfHidden
public import proofs.«01_k».proof.Proof.Gen.DFfHidden.Skeleton
public import proofs.«01_k».proof.Proof.Gen.DFfHidden.Launch
public import proofs.«01_k».proof.Proof.Gen.DFfHidden.Points
public import proofs.«01_k».proof.Proof.Gen.DFfHidden.Frame
public import proofs.«01_k».proof.Proof.Gen.DFfHiddenIdeal
public import proofs.«01_k».proof.Proof.Gen.DFfHiddenIdeal.Skeleton
public import proofs.«01_k».proof.Proof.Gen.DFfHiddenIdeal.Launch
public import proofs.«01_k».proof.Proof.Gen.DFfHiddenIdeal.Points
public import proofs.«01_k».proof.Proof.Gen.DFfHiddenIdeal.Frame
public import proofs.«01_k».proof.Proof.Gen.DFfHiddenIdeal.Value
public import proofs.«01_k».proof.Proof.Gen.RefDFfHiddenIdeal
public import proofs.«01_k».proof.Proof.Gen.RefDFfHiddenIdeal.Run
public import proofs.«01_k».proof.Proof.Gen.RefDFfHiddenIdeal.Read
public import proofs.«01_k».proof.Proof.Gen.DWFf1
public import proofs.«01_k».proof.Proof.Gen.DWFf1.Skeleton
public import proofs.«01_k».proof.Proof.Gen.DWFf1.Launch
public import proofs.«01_k».proof.Proof.Gen.DWFf1.Points
public import proofs.«01_k».proof.Proof.Gen.DWFf1.Frame
public import proofs.«01_k».proof.Proof.Gen.DWFf1Ideal
public import proofs.«01_k».proof.Proof.Gen.DWFf1Ideal.Skeleton
public import proofs.«01_k».proof.Proof.Gen.DWFf1Ideal.Launch
public import proofs.«01_k».proof.Proof.Gen.DWFf1Ideal.Points
public import proofs.«01_k».proof.Proof.Gen.DWFf1Ideal.Frame
public import proofs.«01_k».proof.Proof.Gen.DWFf1Ideal.Value
public import proofs.«01_k».proof.Proof.Gen.RefDWFf1Ideal
public import proofs.«01_k».proof.Proof.Gen.RefDWFf1Ideal.Run
public import proofs.«01_k».proof.Proof.Gen.RefDWFf1Ideal.Read
public import proofs.«01_k».proof.Proof.Gen.DH1
public import proofs.«01_k».proof.Proof.Gen.DH1.Skeleton
public import proofs.«01_k».proof.Proof.Gen.DH1.Launch
public import proofs.«01_k».proof.Proof.Gen.DH1.Points
public import proofs.«01_k».proof.Proof.Gen.DH1.Frame
public import proofs.«01_k».proof.Proof.Gen.DH1Ideal
public import proofs.«01_k».proof.Proof.Gen.DH1Ideal.Skeleton
public import proofs.«01_k».proof.Proof.Gen.DH1Ideal.Launch
public import proofs.«01_k».proof.Proof.Gen.DH1Ideal.Points
public import proofs.«01_k».proof.Proof.Gen.DH1Ideal.Frame
public import proofs.«01_k».proof.Proof.Gen.RefDH1Ideal
public import proofs.«01_k».proof.Proof.Gen.RefDH1Ideal.Run
public import proofs.«01_k».proof.Proof.Gen.RefDH1Ideal.Read
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1Ideal.Value
public import proofs.«01_k».proof.Proof.Gen.RefFf1Ideal
public import proofs.«01_k».proof.Proof.Gen.RefFf1Ideal.Run
public import proofs.«01_k».proof.Proof.Gen.RefFf1Ideal.Read
public import proofs.«01_k».proof.Proof.Gen.Ff2
public import proofs.«01_k».proof.Proof.Gen.Ff2.Skeleton
public import proofs.«01_k».proof.Proof.Gen.Ff2.Launch
public import proofs.«01_k».proof.Proof.Gen.Ff2.Points
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2Ideal.Value
public import proofs.«01_k».proof.Proof.Gen.RefFf2Ideal
public import proofs.«01_k».proof.Proof.Gen.RefFf2Ideal.Run
public import proofs.«01_k».proof.Proof.Gen.RefFf2Ideal.Read
public import proofs.«01_k».proof.Proof.Gen.DWOut
public import proofs.«01_k».proof.Proof.Gen.DWOut.Skeleton
public import proofs.«01_k».proof.Proof.Gen.DWOut.Launch
public import proofs.«01_k».proof.Proof.Gen.DWOut.Points
public import proofs.«01_k».proof.Proof.Gen.DWOut.Frame
public import proofs.«01_k».proof.Proof.Gen.DWOutIdeal
public import proofs.«01_k».proof.Proof.Gen.DWOutIdeal.Skeleton
public import proofs.«01_k».proof.Proof.Gen.DWOutIdeal.Launch
public import proofs.«01_k».proof.Proof.Gen.DWOutIdeal.Points
public import proofs.«01_k».proof.Proof.Gen.DWOutIdeal.Frame
public import proofs.«01_k».proof.Proof.Gen.DWOutIdeal.Value
public import proofs.«01_k».proof.Proof.Gen.RefDWOutIdeal
public import proofs.«01_k».proof.Proof.Gen.RefDWOutIdeal.Run
public import proofs.«01_k».proof.Proof.Gen.RefDWOutIdeal.Read
public import proofs.«01_k».proof.Proof.Gen.DCat
public import proofs.«01_k».proof.Proof.Gen.DCat.Skeleton
public import proofs.«01_k».proof.Proof.Gen.DCat.Launch
public import proofs.«01_k».proof.Proof.Gen.DCat.Points
public import proofs.«01_k».proof.Proof.Gen.DCat.Frame
public import proofs.«01_k».proof.Proof.Gen.DCatIdeal
public import proofs.«01_k».proof.Proof.Gen.DCatIdeal.Skeleton
public import proofs.«01_k».proof.Proof.Gen.DCatIdeal.Launch
public import proofs.«01_k».proof.Proof.Gen.DCatIdeal.Points
public import proofs.«01_k».proof.Proof.Gen.DCatIdeal.Frame
public import proofs.«01_k».proof.Proof.Gen.DCatIdeal.Value
public import proofs.«01_k».proof.Proof.Gen.RefDCatIdeal
public import proofs.«01_k».proof.Proof.Gen.RefDCatIdeal.Run
public import proofs.«01_k».proof.Proof.Gen.RefDCatIdeal.Read
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutIdeal.Value
public import proofs.«01_k».proof.Proof.Gen.RefProjOutIdeal
public import proofs.«01_k».proof.Proof.Gen.RefProjOutIdeal.Run
public import proofs.«01_k».proof.Proof.Gen.RefProjOutIdeal.Read
public import proofs.«01_k».proof.Proof.Gen.DWGate
public import proofs.«01_k».proof.Proof.Gen.DWGate.Skeleton
public import proofs.«01_k».proof.Proof.Gen.DWGate.Launch
public import proofs.«01_k».proof.Proof.Gen.DWGate.Points
public import proofs.«01_k».proof.Proof.Gen.DWGate.Frame
public import proofs.«01_k».proof.Proof.Gen.DWGateIdeal
public import proofs.«01_k».proof.Proof.Gen.DWGateIdeal.Skeleton
public import proofs.«01_k».proof.Proof.Gen.DWGateIdeal.Launch
public import proofs.«01_k».proof.Proof.Gen.DWGateIdeal.Points
public import proofs.«01_k».proof.Proof.Gen.DWGateIdeal.Frame
public import proofs.«01_k».proof.Proof.Gen.DWGateIdeal.Value
public import proofs.«01_k».proof.Proof.Gen.RefDWGateIdeal
public import proofs.«01_k».proof.Proof.Gen.RefDWGateIdeal.Run
public import proofs.«01_k».proof.Proof.Gen.RefDWGateIdeal.Read
public import proofs.«01_k».proof.Proof.Gen.DWProj
public import proofs.«01_k».proof.Proof.Gen.DWProj.Skeleton
public import proofs.«01_k».proof.Proof.Gen.DWProj.Launch
public import proofs.«01_k».proof.Proof.Gen.DWProj.Points
public import proofs.«01_k».proof.Proof.Gen.DWProj.Frame
public import proofs.«01_k».proof.Proof.Gen.DWProjIdeal
public import proofs.«01_k».proof.Proof.Gen.DWProjIdeal.Skeleton
public import proofs.«01_k».proof.Proof.Gen.DWProjIdeal.Launch
public import proofs.«01_k».proof.Proof.Gen.DWProjIdeal.Points
public import proofs.«01_k».proof.Proof.Gen.DWProjIdeal.Frame
public import proofs.«01_k».proof.Proof.Gen.DWProjIdeal.Value
public import proofs.«01_k».proof.Proof.Gen.RefDWProjIdeal
public import proofs.«01_k».proof.Proof.Gen.RefDWProjIdeal.Run
public import proofs.«01_k».proof.Proof.Gen.RefDWProjIdeal.Read
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutIdeal.Value
public import proofs.«01_k».proof.Proof.Gen.RefAdamWOutIdeal
public import proofs.«01_k».proof.Proof.Gen.RefAdamWOutIdeal.Run
public import proofs.«01_k».proof.Proof.Gen.RefAdamWOutIdeal.Read
public import proofs.«01_k».proof.Proof.Gen.AdamWFf1
public import proofs.«01_k».proof.Proof.Gen.AdamWFf1.Skeleton
public import proofs.«01_k».proof.Proof.Gen.AdamWFf1.Launch
public import proofs.«01_k».proof.Proof.Gen.AdamWFf1.Points
public import proofs.«01_k».proof.Proof.Gen.AdamWFf1.Frame
public import proofs.«01_k».proof.Proof.Gen.AdamWFf1Ideal
public import proofs.«01_k».proof.Proof.Gen.AdamWFf1Ideal.Skeleton
public import proofs.«01_k».proof.Proof.Gen.AdamWFf1Ideal.Launch
public import proofs.«01_k».proof.Proof.Gen.AdamWFf1Ideal.Points
public import proofs.«01_k».proof.Proof.Gen.AdamWFf1Ideal.Frame
public import proofs.«01_k».proof.Proof.Gen.AdamWFf1Ideal.Value
public import proofs.«01_k».proof.Proof.Gen.RefAdamWFf1Ideal
public import proofs.«01_k».proof.Proof.Gen.RefAdamWFf1Ideal.Run
public import proofs.«01_k».proof.Proof.Gen.RefAdamWFf1Ideal.Read
public import proofs.«01_k».proof.Proof.Gen.AdamWFf2
public import proofs.«01_k».proof.Proof.Gen.AdamWFf2.Skeleton
public import proofs.«01_k».proof.Proof.Gen.AdamWFf2.Launch
public import proofs.«01_k».proof.Proof.Gen.AdamWFf2.Points
public import proofs.«01_k».proof.Proof.Gen.AdamWFf2.Frame
public import proofs.«01_k».proof.Proof.Gen.AdamWFf2Ideal
public import proofs.«01_k».proof.Proof.Gen.AdamWFf2Ideal.Skeleton
public import proofs.«01_k».proof.Proof.Gen.AdamWFf2Ideal.Launch
public import proofs.«01_k».proof.Proof.Gen.AdamWFf2Ideal.Points
public import proofs.«01_k».proof.Proof.Gen.AdamWFf2Ideal.Frame
public import proofs.«01_k».proof.Proof.Gen.AdamWFf2Ideal.Value
public import proofs.«01_k».proof.Proof.Gen.RefAdamWFf2Ideal
public import proofs.«01_k».proof.Proof.Gen.RefAdamWFf2Ideal.Run
public import proofs.«01_k».proof.Proof.Gen.RefAdamWFf2Ideal.Read
public import proofs.«01_k».proof.Proof.Gen.AdamWGate
public import proofs.«01_k».proof.Proof.Gen.AdamWGate.Skeleton
public import proofs.«01_k».proof.Proof.Gen.AdamWGate.Launch
public import proofs.«01_k».proof.Proof.Gen.AdamWGate.Points
public import proofs.«01_k».proof.Proof.Gen.AdamWGate.Frame
public import proofs.«01_k».proof.Proof.Gen.AdamWGateIdeal
public import proofs.«01_k».proof.Proof.Gen.AdamWGateIdeal.Skeleton
public import proofs.«01_k».proof.Proof.Gen.AdamWGateIdeal.Launch
public import proofs.«01_k».proof.Proof.Gen.AdamWGateIdeal.Points
public import proofs.«01_k».proof.Proof.Gen.AdamWGateIdeal.Frame
public import proofs.«01_k».proof.Proof.Gen.AdamWGateIdeal.Value
public import proofs.«01_k».proof.Proof.Gen.RefAdamWGateIdeal
public import proofs.«01_k».proof.Proof.Gen.RefAdamWGateIdeal.Run
public import proofs.«01_k».proof.Proof.Gen.RefAdamWGateIdeal.Read
public import proofs.«01_k».proof.Proof.Gen.AdamWProj
public import proofs.«01_k».proof.Proof.Gen.AdamWProj.Skeleton
public import proofs.«01_k».proof.Proof.Gen.AdamWProj.Launch
public import proofs.«01_k».proof.Proof.Gen.AdamWProj.Points
public import proofs.«01_k».proof.Proof.Gen.AdamWProj.Frame
public import proofs.«01_k».proof.Proof.Gen.AdamWProjIdeal
public import proofs.«01_k».proof.Proof.Gen.AdamWProjIdeal.Skeleton
public import proofs.«01_k».proof.Proof.Gen.AdamWProjIdeal.Launch
public import proofs.«01_k».proof.Proof.Gen.AdamWProjIdeal.Points
public import proofs.«01_k».proof.Proof.Gen.AdamWProjIdeal.Frame
public import proofs.«01_k».proof.Proof.Gen.AdamWProjIdeal.Value
public import proofs.«01_k».proof.Proof.Gen.RefAdamWProjIdeal
public import proofs.«01_k».proof.Proof.Gen.RefAdamWProjIdeal.Run
public import proofs.«01_k».proof.Proof.Gen.RefAdamWProjIdeal.Read
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInIdeal.Value
public import proofs.«01_k».proof.Proof.Gen.RefAdamWInIdeal
public import proofs.«01_k».proof.Proof.Gen.RefAdamWInIdeal.Run
public import proofs.«01_k».proof.Proof.Gen.RefAdamWInIdeal.Read
public import proofs.«01_k».proof.Proof.Gen.Pre_finite
public import Idealize.ShloMosaic.Adequacy
public import Idealize.ShloMosaic.Init
public import proofs.«01_k».proof.Proof.DFfHidden
public import proofs.«01_k».proof.Proof.DWFf1
public import proofs.«01_k».proof.Proof.MlpNorm
public import proofs.«01_k».proof.Proof.Ff1
public import proofs.«01_k».proof.Proof.Ff2
public import proofs.«01_k».proof.Proof.DWOut
public import proofs.«01_k».proof.Proof.DCat
public import proofs.«01_k».proof.Proof.ProjOut
public import proofs.«01_k».proof.Proof.DWGate
public import proofs.«01_k».proof.Proof.DWProj
public import proofs.«01_k».proof.Proof.AdamOut
public import proofs.«01_k».proof.Proof.AdamFf1
public import proofs.«01_k».proof.Proof.AdamFf2
public import proofs.«01_k».proof.Proof.AdamGate
public import proofs.«01_k».proof.Proof.AdamProj
public import proofs.«01_k».proof.Proof.AdamIn
public import proofs.«01_k».proof.Proof.Algebraic

@[expose] public section

noncomputable section

namespace Cert.Proof

open Idealize.ShloMosaic Idealize.SL.Sem

/-! Each reference runs to its end, keeps its arguments and leaves every semaphore counter at zero. -/

theorem frame_r : Cert.quiescent_ReferenceIdeal := fun m ρ _ =>
  (θ_run Cert.ReferenceIdeal.defs _ _).mono (fun r h => ⟨fun c => (h c).2.2.2.2.2.2.2,
    Idealize.ShloMosaic.sem_eq_zero_of_no_sems (by decide) r.2⟩) (Cert.ReferenceIdeal.Value.run (F := Ideal) m ρ)

theorem frame_DFfHidden : Cert.quiescent_RefDFfHiddenIdeal := fun m ρ _ =>
  (θ_run Cert.RefDFfHiddenIdeal.defs _ _).mono (fun r h => ⟨fun c => (h c).2,
    Idealize.ShloMosaic.sem_eq_zero_of_no_sems (by decide) r.2⟩) (Cert.RefDFfHiddenIdeal.Value.run (F := Ideal) m ρ)

theorem frame_DWFf1 : Cert.quiescent_RefDWFf1Ideal := fun m ρ _ =>
  (θ_run Cert.RefDWFf1Ideal.defs _ _).mono (fun r h => ⟨fun c => (h c).2,
    Idealize.ShloMosaic.sem_eq_zero_of_no_sems (by decide) r.2⟩) (Cert.RefDWFf1Ideal.Value.run (F := Ideal) m ρ)

theorem frame_DH1 : Cert.quiescent_RefDH1Ideal := fun m ρ _ =>
  (θ_run Cert.RefDH1Ideal.defs _ _).mono (fun r h => ⟨fun c => (h c).2.2.2,
    Idealize.ShloMosaic.sem_eq_zero_of_no_sems (by decide) r.2⟩) (Cert.RefDH1Ideal.Value.run (F := Ideal) m ρ)

theorem frame_Ff1 : Cert.quiescent_RefFf1Ideal := fun m ρ _ =>
  (θ_run Cert.RefFf1Ideal.defs _ _).mono (fun r h => ⟨fun c => (h c).2.2,
    Idealize.ShloMosaic.sem_eq_zero_of_no_sems (by decide) r.2⟩) (Cert.RefFf1Ideal.Value.run (F := Ideal) m ρ)

theorem frame_Ff2 : Cert.quiescent_RefFf2Ideal := fun m ρ _ =>
  (θ_run Cert.RefFf2Ideal.defs _ _).mono (fun r h => ⟨fun c => (h c).2.2,
    Idealize.ShloMosaic.sem_eq_zero_of_no_sems (by decide) r.2⟩) (Cert.RefFf2Ideal.Value.run (F := Ideal) m ρ)

theorem frame_DWOut : Cert.quiescent_RefDWOutIdeal := fun m ρ _ =>
  (θ_run Cert.RefDWOutIdeal.defs _ _).mono (fun r h => ⟨fun c => (h c).2,
    Idealize.ShloMosaic.sem_eq_zero_of_no_sems (by decide) r.2⟩) (Cert.RefDWOutIdeal.Value.run (F := Ideal) m ρ)

theorem frame_DCat : Cert.quiescent_RefDCatIdeal := fun m ρ _ =>
  (θ_run Cert.RefDCatIdeal.defs _ _).mono (fun r h => ⟨fun c => (h c).2,
    Idealize.ShloMosaic.sem_eq_zero_of_no_sems (by decide) r.2⟩) (Cert.RefDCatIdeal.Value.run (F := Ideal) m ρ)

theorem frame_ProjOut : Cert.quiescent_RefProjOutIdeal := fun m ρ _ =>
  (θ_run Cert.RefProjOutIdeal.defs _ _).mono (fun r h => ⟨fun c => (h c).2.2,
    Idealize.ShloMosaic.sem_eq_zero_of_no_sems (by decide) r.2⟩) (Cert.RefProjOutIdeal.Value.run (F := Ideal) m ρ)

theorem frame_DWGate : Cert.quiescent_RefDWGateIdeal := fun m ρ _ =>
  (θ_run Cert.RefDWGateIdeal.defs _ _).mono (fun r h => ⟨fun c => (h c).2,
    Idealize.ShloMosaic.sem_eq_zero_of_no_sems (by decide) r.2⟩) (Cert.RefDWGateIdeal.Value.run (F := Ideal) m ρ)

theorem frame_DWProj : Cert.quiescent_RefDWProjIdeal := fun m ρ _ =>
  (θ_run Cert.RefDWProjIdeal.defs _ _).mono (fun r h => ⟨fun c => (h c).2,
    Idealize.ShloMosaic.sem_eq_zero_of_no_sems (by decide) r.2⟩) (Cert.RefDWProjIdeal.Value.run (F := Ideal) m ρ)

theorem frame_AdamWOut : Cert.quiescent_RefAdamWOutIdeal := fun m ρ _ =>
  (θ_run Cert.RefAdamWOutIdeal.defs _ _).mono (fun r h => ⟨fun c => (h c).2.2.2.2,
    Idealize.ShloMosaic.sem_eq_zero_of_no_sems (by decide) r.2⟩) (Cert.RefAdamWOutIdeal.Value.run (F := Ideal) m ρ)

theorem frame_AdamWFf1 : Cert.quiescent_RefAdamWFf1Ideal := fun m ρ _ =>
  (θ_run Cert.RefAdamWFf1Ideal.defs _ _).mono (fun r h => ⟨fun c => (h c).2.2.2.2,
    Idealize.ShloMosaic.sem_eq_zero_of_no_sems (by decide) r.2⟩) (Cert.RefAdamWFf1Ideal.Value.run (F := Ideal) m ρ)

theorem frame_AdamWFf2 : Cert.quiescent_RefAdamWFf2Ideal := fun m ρ _ =>
  (θ_run Cert.RefAdamWFf2Ideal.defs _ _).mono (fun r h => ⟨fun c => (h c).2.2.2.2,
    Idealize.ShloMosaic.sem_eq_zero_of_no_sems (by decide) r.2⟩) (Cert.RefAdamWFf2Ideal.Value.run (F := Ideal) m ρ)

theorem frame_AdamWGate : Cert.quiescent_RefAdamWGateIdeal := fun m ρ _ =>
  (θ_run Cert.RefAdamWGateIdeal.defs _ _).mono (fun r h => ⟨fun c => (h c).2.2.2.2,
    Idealize.ShloMosaic.sem_eq_zero_of_no_sems (by decide) r.2⟩) (Cert.RefAdamWGateIdeal.Value.run (F := Ideal) m ρ)

theorem frame_AdamWProj : Cert.quiescent_RefAdamWProjIdeal := fun m ρ _ =>
  (θ_run Cert.RefAdamWProjIdeal.defs _ _).mono (fun r h => ⟨fun c => (h c).2.2.2.2,
    Idealize.ShloMosaic.sem_eq_zero_of_no_sems (by decide) r.2⟩) (Cert.RefAdamWProjIdeal.Value.run (F := Ideal) m ρ)

theorem frame_AdamWIn : Cert.quiescent_RefAdamWInIdeal := fun m ρ _ =>
  (θ_run Cert.RefAdamWInIdeal.defs _ _).mono (fun r h => ⟨fun c => (h c).2.2.2.2,
    Idealize.ShloMosaic.sem_eq_zero_of_no_sems (by decide) r.2⟩) (Cert.RefAdamWInIdeal.Value.run (F := Ideal) m ρ)

theorem claim : Cert.Claim := ⟨Cert.Kernel.Gen.facts, Cert.KernelIdeal.Gen.facts, Cert.ReferenceIdeal.Gen.facts, Cert.DFfHidden.Gen.facts, Cert.DFfHiddenIdeal.Gen.facts, Cert.RefDFfHiddenIdeal.Gen.facts, Cert.DWFf1.Gen.facts, Cert.DWFf1Ideal.Gen.facts, Cert.RefDWFf1Ideal.Gen.facts, Cert.DH1.Gen.facts, Cert.DH1Ideal.Gen.facts, Cert.RefDH1Ideal.Gen.facts, Cert.Ff1.Gen.facts, Cert.Ff1Ideal.Gen.facts, Cert.RefFf1Ideal.Gen.facts, Cert.Ff2.Gen.facts, Cert.Ff2Ideal.Gen.facts, Cert.RefFf2Ideal.Gen.facts, Cert.DWOut.Gen.facts, Cert.DWOutIdeal.Gen.facts, Cert.RefDWOutIdeal.Gen.facts, Cert.DCat.Gen.facts, Cert.DCatIdeal.Gen.facts, Cert.RefDCatIdeal.Gen.facts, Cert.ProjOut.Gen.facts, Cert.ProjOutIdeal.Gen.facts, Cert.RefProjOutIdeal.Gen.facts, Cert.DWGate.Gen.facts, Cert.DWGateIdeal.Gen.facts, Cert.RefDWGateIdeal.Gen.facts, Cert.DWProj.Gen.facts, Cert.DWProjIdeal.Gen.facts, Cert.RefDWProjIdeal.Gen.facts, Cert.AdamWOut.Gen.facts, Cert.AdamWOutIdeal.Gen.facts, Cert.RefAdamWOutIdeal.Gen.facts, Cert.AdamWFf1.Gen.facts, Cert.AdamWFf1Ideal.Gen.facts, Cert.RefAdamWFf1Ideal.Gen.facts, Cert.AdamWFf2.Gen.facts, Cert.AdamWFf2Ideal.Gen.facts, Cert.RefAdamWFf2Ideal.Gen.facts, Cert.AdamWGate.Gen.facts, Cert.AdamWGateIdeal.Gen.facts, Cert.RefAdamWGateIdeal.Gen.facts, Cert.AdamWProj.Gen.facts, Cert.AdamWProjIdeal.Gen.facts, Cert.RefAdamWProjIdeal.Gen.facts, Cert.AdamWIn.Gen.facts, Cert.AdamWInIdeal.Gen.facts, Cert.RefAdamWInIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.DFfHidden.Gen.frame m ρ, fun m ρ _ => Cert.DFfHiddenIdeal.Gen.frame m ρ, frame_DFfHidden,
  fun m ρ _ => Cert.DWFf1.Gen.frame m ρ, fun m ρ _ => Cert.DWFf1Ideal.Gen.frame m ρ, frame_DWFf1,
  fun m ρ _ => Cert.DH1.Gen.frame m ρ, fun m ρ _ => Cert.DH1Ideal.Gen.frame m ρ, frame_DH1,
  fun m ρ _ => Cert.Ff1.Gen.frame m ρ, fun m ρ _ => Cert.Ff1Ideal.Gen.frame m ρ, frame_Ff1,
  fun m ρ _ => Cert.Ff2.Gen.frame m ρ, fun m ρ _ => Cert.Ff2Ideal.Gen.frame m ρ, frame_Ff2,
  fun m ρ _ => Cert.DWOut.Gen.frame m ρ, fun m ρ _ => Cert.DWOutIdeal.Gen.frame m ρ, frame_DWOut,
  fun m ρ _ => Cert.DCat.Gen.frame m ρ, fun m ρ _ => Cert.DCatIdeal.Gen.frame m ρ, frame_DCat,
  fun m ρ _ => Cert.ProjOut.Gen.frame m ρ, fun m ρ _ => Cert.ProjOutIdeal.Gen.frame m ρ, frame_ProjOut,
  fun m ρ _ => Cert.DWGate.Gen.frame m ρ, fun m ρ _ => Cert.DWGateIdeal.Gen.frame m ρ, frame_DWGate,
  fun m ρ _ => Cert.DWProj.Gen.frame m ρ, fun m ρ _ => Cert.DWProjIdeal.Gen.frame m ρ, frame_DWProj,
  fun m ρ _ => Cert.AdamWOut.Gen.frame m ρ, fun m ρ _ => Cert.AdamWOutIdeal.Gen.frame m ρ, frame_AdamWOut,
  fun m ρ _ => Cert.AdamWFf1.Gen.frame m ρ, fun m ρ _ => Cert.AdamWFf1Ideal.Gen.frame m ρ, frame_AdamWFf1,
  fun m ρ _ => Cert.AdamWFf2.Gen.frame m ρ, fun m ρ _ => Cert.AdamWFf2Ideal.Gen.frame m ρ, frame_AdamWFf2,
  fun m ρ _ => Cert.AdamWGate.Gen.frame m ρ, fun m ρ _ => Cert.AdamWGateIdeal.Gen.frame m ρ, frame_AdamWGate,
  fun m ρ _ => Cert.AdamWProj.Gen.frame m ρ, fun m ρ _ => Cert.AdamWProjIdeal.Gen.frame m ρ, frame_AdamWProj,
  fun m ρ _ => Cert.AdamWIn.Gen.frame m ρ, fun m ρ _ => Cert.AdamWInIdeal.Gen.frame m ρ, frame_AdamWIn,
  trivial, Cert.Head.algebraic, trivial, Cert.DFfHid.algebraic, trivial, Cert.WUpBack.algebraic, trivial, Cert.MlpNorm.algebraic, trivial, Cert.Up.algebraic, trivial, Cert.Down.algebraic, trivial, Cert.WOutBack.algebraic, trivial, Cert.CatBack.algebraic, trivial, Cert.OutProj.algebraic, trivial, Cert.WGateBack.algebraic, trivial, Cert.WProjBack.algebraic, trivial, Cert.AdamOut.algebraic, trivial, Cert.AdamFf1.algebraic, trivial, Cert.AdamFf2.algebraic, trivial, Cert.AdamGate.algebraic, trivial, Cert.AdamProj.algebraic, trivial, Cert.AdamIn.algebraic⟩

end Cert.Proof

end
